-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v227) = v0 c
          ∧ r.2.mem ((c.tc : Thread Cert.Reference6Ideal.nD Cert.Reference6Ideal.τ).loc Cert.Reference6Ideal.main_v233) = v1 c
          ∧ r.2.mem ((c.tc : Thread Cert.Reference6Ideal.nD Cert.Reference6Ideal.τ).loc Cert.Reference6Ideal.main_v239) = v2 c
          ∧ r.2.mem ((c.tc : Thread Cert.Reference6Ideal.nD Cert.Reference6Ideal.τ).loc Cert.Reference6Ideal.main_v245) = v3 c
          ∧ r.2.mem ((c.tc : Thread Cert.Reference6Ideal.nD Cert.Reference6Ideal.τ).loc Cert.Reference6Ideal.main_v251) = v4 c
          ∧ r.2.mem ((c.tc : Thread Cert.Reference6Ideal.nD Cert.Reference6Ideal.τ).loc Cert.Reference6Ideal.main_v255) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x4096x1024 : Shape := ⟨3, ![8, 4096, 1024]⟩
abbrev S2x2x1024 : Shape := ⟨3, ![2, 2, 1024]⟩
abbrev S8x1024 : Shape := ⟨2, ![8, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S4x2816 : Shape := ⟨2, ![4, 2816]⟩
abbrev S32768x1024 : Shape := ⟨2, ![32768, 1024]⟩
abbrev S1x1x1024 : Shape := ⟨3, ![1, 1, 1024]⟩
abbrev S1x1024 : Shape := ⟨2, ![1, 1024]⟩
abbrev S8x1x1024 : Shape := ⟨3, ![8, 1, 1024]⟩
abbrev S256x1024 : Shape := ⟨2, ![256, 1024]⟩
abbrev S1x1024x2816 : Shape := ⟨3, ![1, 1024, 2816]⟩
abbrev S1x2816x1024 : Shape := ⟨3, ![1, 2816, 1024]⟩
abbrev S11x2x264x128 : Shape := ⟨4, ![11, 2, 264, 128]⟩
abbrev S11x8x256 : Shape := ⟨3, ![11, 8, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x8x128 : Shape := ⟨3, ![1, 8, 128]⟩
abbrev S8x128 : Shape := ⟨2, ![8, 128]⟩
abbrev S1x1x8x128 : Shape := ⟨4, ![1, 1, 8, 128]⟩
abbrev S256x128 : Shape := ⟨2, ![256, 128]⟩
abbrev S1x1x256x128 : Shape := ⟨4, ![1, 1, 256, 128]⟩
abbrev S8x256 : Shape := ⟨2, ![8, 256]⟩
abbrev S1x8x256 : Shape := ⟨3, ![1, 8, 256]⟩
abbrev S4x256 : Shape := ⟨2, ![4, 256]⟩
abbrev S1x256 : Shape := ⟨2, ![1, 256]⟩
abbrev S1x256x1024 : Shape := ⟨3, ![1, 256, 1024]⟩

abbrev nBuf : Space → Nat
  | .hbm => 29
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S2x2x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S2x1024x2816, .f32⟩
  | .hbm, ⟨6, _⟩ => ⟨S2x1024x2816, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S1024, .f32⟩
  | .hbm, ⟨11, _⟩ => ⟨S1x3x2816, .f32⟩
  | .hbm, ⟨12, _⟩ => ⟨S3x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S4x2816, .f32⟩
  | .hbm, ⟨17, _⟩ => ⟨S2x1024x2816, .bf16⟩
  | .hbm, ⟨18, _⟩ => ⟨S2x1024x2816, .bf16⟩
  | .hbm, ⟨19, _⟩ => ⟨S2x2816x1024, .bf16⟩
  | .hbm, ⟨20, _⟩ => ⟨S32768x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S1x1024, .f32⟩
  | .hbm, ⟨28, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S4x2816, .f32⟩
  | .local _ .vmem, ⟨12, _⟩ => ⟨S1x2816x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S11x2x264x128, .f32⟩
  | .local _ .vmem, ⟨17, _⟩ => ⟨S11x8x256, .f32⟩
  | .local _ .vmem, ⟨18, _⟩ => ⟨S256x1024, .f32⟩
  | .local _ .vmem, ⟨19, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x4096x1024 : Shape := ⟨3, ![8, 4096, 1024]⟩
abbrev S2x2x1024 : Shape := ⟨3, ![2, 2, 1024]⟩
abbrev S8x1024 : Shape := ⟨2, ![8, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S8x4098x2816 : Shape := ⟨3, ![8, 4098, 2816]⟩
abbrev S1x1x2816 : Shape := ⟨3, ![1, 1, 2816]⟩
abbrev S32768x1024 : Shape := ⟨2, ![32768, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x2x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S2x1024x2816, .f32⟩
  | .hbm, ⟨6, _⟩ => ⟨S2x1024x2816, .f32⟩
  | .hbm, ⟨7, _⟩ => ⟨S2x3x2816, .f32⟩
  | .hbm, ⟨8, _⟩ => ⟨S2x2816, .f32⟩
  | .hbm, ⟨9, _⟩ => ⟨S2x2816x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x1x1024, .f32⟩
  | .hbm, ⟨39, _⟩ => ⟨S1x1024x2816, .f32⟩
  | .hbm, ⟨40, _⟩ => ⟨S1024x2816, .f32⟩
  | .hbm, ⟨41, _⟩ => ⟨S1x1024x2816, .f32⟩
  | .hbm, ⟨42, _⟩ => ⟨S1024x2816, .f32⟩
  | .hbm, ⟨43, _⟩ => ⟨S1x3x2816, .f32⟩
  | .hbm, ⟨44, _⟩ => ⟨S3x2816, .f32⟩
  | .hbm, ⟨45, _⟩ => ⟨S1x2816, .f32⟩
  | .hbm, ⟨46, _⟩ => ⟨S2816, .f32⟩
  | .hbm, ⟨47, _⟩ => ⟨S1x2816x1024, .f32⟩
  | .hbm, ⟨48, _⟩ => ⟨S2816x1024, .f32⟩
  | .hbm, ⟨49, _⟩ => ⟨S8x4096x2816, .f32⟩
  | .hbm, ⟨50, _⟩ => ⟨S_, .i32⟩
  | .hbm, ⟨51, _⟩ => ⟨S_, .f32⟩
  | .hbm, ⟨52, _⟩ => ⟨S8x4098x2816, .f32⟩
  | .hbm, ⟨53, _⟩ => ⟨S1x2816, .f32⟩
  | .hbm, ⟨54, _⟩ => ⟨S2816, .f32⟩
  | .hbm, ⟨55, _⟩ => ⟨S8x4096x2816, .f32⟩
  | .hbm, ⟨56, _⟩ => ⟨S1x1x2816, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S1x2816, .f32⟩
  | .hbm, ⟨63, _⟩ => ⟨S2816, .f32⟩
  | .hbm, ⟨64, _⟩ => ⟨S8x4096x2816, .f32⟩
  | .hbm, ⟨65, _⟩ => ⟨S1x1x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S1x2816, .f32⟩
  | .hbm, ⟨70, _⟩ => ⟨S2816, .f32⟩
  | .hbm, ⟨71, _⟩ => ⟨S8x4096x2816, .f32⟩
  | .hbm, ⟨72, _⟩ => ⟨S1x1x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S1x1x2816, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S_, .f32⟩
  | .hbm, ⟨82, _⟩ => ⟨S8x4096x2816, .f32⟩
  | .hbm, ⟨83, _⟩ => ⟨S8x4096x2816, .f32⟩
  | .hbm, ⟨84, _⟩ => ⟨S_, .f32⟩
  | .hbm, ⟨85, _⟩ => ⟨S8x4096x2816, .f32⟩
  | .hbm, ⟨86, _⟩ => ⟨S8x4096x2816, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S_, .f32⟩
  | .hbm, ⟨96, _⟩ => ⟨S8x4096, .f32⟩
  | .hbm, ⟨97, _⟩ => ⟨S8x4096x1, .f32⟩
  | .hbm, ⟨98, _⟩ => ⟨S_, .f32⟩
  | .hbm, ⟨99, _⟩ => ⟨S8x4096x1, .f32⟩
  | .hbm, ⟨100, _⟩ => ⟨S8x4096x1, .f32⟩
  | .hbm, ⟨101, _⟩ => ⟨S_, .f32⟩
  | .hbm, ⟨102, _⟩ => ⟨S8x4096x1, .f32⟩
  | .hbm, ⟨103, _⟩ => ⟨S8x4096x1, .f32⟩
  | .hbm, ⟨104, _⟩ => ⟨S8x4096x1, .f32⟩
  | .hbm, ⟨105, _⟩ => ⟨S8x4096x1024, .f32⟩
  | .hbm, ⟨106, _⟩ => ⟨S8x4096x1024, .f32⟩
  | .hbm, ⟨107, _⟩ => ⟨S1x1x1024, .f32⟩
  | .hbm, ⟨108, _⟩ => ⟨S8x4096x1024, .f32⟩
  | .hbm, ⟨109, _⟩ => ⟨S8x4096x1024, .f32⟩
  | .hbm, ⟨110, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_cst_7 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S8x1024 : Shape := ⟨2, ![8, 1024]⟩
abbrev S2x2x1024 : Shape := ⟨3, ![2, 2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S4x2816 : Shape := ⟨2, ![4, 2816]⟩
abbrev S32768x512 : Shape := ⟨2, ![32768, 512]⟩
abbrev S1024x1024 : Shape := ⟨2, ![1024, 1024]⟩
abbrev S8x1x1024 : Shape := ⟨3, ![8, 1, 1024]⟩
abbrev S32768x1024 : Shape := ⟨2, ![32768, 1024]⟩
abbrev S1x1x1024 : Shape := ⟨3, ![1, 1, 1024]⟩
abbrev S1x1024 : Shape := ⟨2, ![1, 1024]⟩
abbrev S256x1024 : Shape := ⟨2, ![256, 1024]⟩
abbrev S256x512 : Shape := ⟨2, ![256, 512]⟩
abbrev S1x1024x2816 : Shape := ⟨3, ![1, 1024, 2816]⟩
abbrev S1x2816x1024 : Shape := ⟨3, ![1, 2816, 1024]⟩
abbrev S11x2x264x128 : Shape := ⟨4, ![11, 2, 264, 128]⟩
abbrev S11x8x256 : Shape := ⟨3, ![11, 8, 256]⟩
abbrev S512x1024 : Shape := ⟨2, ![512, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x8x128 : Shape := ⟨3, ![1, 8, 128]⟩
abbrev S8x128 : Shape := ⟨2, ![8, 128]⟩
abbrev S1x1x8x128 : Shape := ⟨4, ![1, 1, 8, 128]⟩
abbrev S256x128 : Shape := ⟨2, ![256, 128]⟩
abbrev S1x1x256x128 : Shape := ⟨4, ![1, 1, 256, 128]⟩
abbrev S8x256 : Shape := ⟨2, ![8, 256]⟩
abbrev S1x8x256 : Shape := ⟨3, ![1, 8, 256]⟩
abbrev S4x256 : Shape := ⟨2, ![4, 256]⟩
abbrev S1x256 : Shape := ⟨2, ![1, 256]⟩
abbrev S1x256x1024 : Shape := ⟨3, ![1, 256, 1024]⟩

abbrev nBuf : Space → Nat
  | .hbm => 38
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S8x1024, .f32⟩
  | .hbm, ⟨5, _⟩ => ⟨S2x2x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S2x1024x2816, .f32⟩
  | .hbm, ⟨10, _⟩ => ⟨S2x1024x2816, .f32⟩
  | .hbm, ⟨11, _⟩ => ⟨S2x3x2816, .f32⟩
  | .hbm, ⟨12, _⟩ => ⟨S2x2816, .f32⟩
  | .hbm, ⟨13, _⟩ => ⟨S2x2816x1024, .f32⟩
  | .hbm, ⟨14, _⟩ => ⟨S1024, .f32⟩
  | .hbm, ⟨15, _⟩ => ⟨S1x3x2816, .f32⟩
  | .hbm, ⟨16, _⟩ => ⟨S3x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S4x2816, .f32⟩
  | .hbm, ⟨21, _⟩ => ⟨S2x1024x2816, .bf16⟩
  | .hbm, ⟨22, _⟩ => ⟨S2x1024x2816, .bf16⟩
  | .hbm, ⟨23, _⟩ => ⟨S2x2816x1024, .bf16⟩
  | .hbm, ⟨24, _⟩ => ⟨S32768x512, .bf16⟩
  | .hbm, ⟨25, _⟩ => ⟨S32768x512, .bf16⟩
  | .hbm, ⟨26, _⟩ => ⟨S1024x1024, .f32⟩
  | .hbm, ⟨27, _⟩ => ⟨S1024x1024, .bf16⟩
  | .hbm, ⟨28, _⟩ => ⟨S8x1x1024, .f32⟩
  | .hbm, ⟨29, _⟩ => ⟨S32768x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S8x1x1024, .f32⟩
  | .hbm, ⟨34, _⟩ => ⟨S8x1x1024, .f32⟩
  | .hbm, ⟨35, _⟩ => ⟨S8x1x1024, .f32⟩
  | .hbm, ⟨36, _⟩ => ⟨S1x1024, .f32⟩
  | .hbm, ⟨37, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x2816, .bf16⟩
  | .local _ .vmem, ⟨17, _⟩ => ⟨S1x1024x2816, .bf16⟩
  | .local _ .vmem, ⟨18, _⟩ => ⟨S4x2816, .f32⟩
  | .local _ .vmem, ⟨19, _⟩ => ⟨S1x2816x1024, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S11x2x264x128, .f32⟩
  | .local _ .vmem, ⟨24, _⟩ => ⟨S11x8x256, .f32⟩
  | .local _ .vmem, ⟨25, _⟩ => ⟨S256x1024, .f32⟩
  | .local _ .vmem, ⟨26, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S8x1024 : Shape := ⟨2, ![8, 1024]⟩
abbrev S2x2x1024 : Shape := ⟨3, ![2, 2, 1024]⟩
abbrev S2x1024x2816 : Shape := ⟨3, ![2, 1024, 2816]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1024x1024 : Shape := ⟨2, ![1024, 1024]⟩
abbrev S8x1x1024 : Shape := ⟨3, ![8, 1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S8x4098x2816 : Shape := ⟨3, ![8, 4098, 2816]⟩
abbrev S1x1x2816 : Shape := ⟨3, ![1, 1, 2816]⟩
abbrev S32768x1024 : Shape := ⟨2, ![32768, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024x1024, .f32⟩
  | .hbm, ⟨4, _⟩ => ⟨S8x1024, .f32⟩
  | .hbm, ⟨5, _⟩ => ⟨S2x2x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S2x1024x2816, .f32⟩
  | .hbm, ⟨10, _⟩ => ⟨S2x1024x2816, .f32⟩
  | .hbm, ⟨11, _⟩ => ⟨S2x3x2816, .f32⟩
  | .hbm, ⟨12, _⟩ => ⟨S2x2816, .f32⟩
  | .hbm, ⟨13, _⟩ => ⟨S2x2816x1024, .f32⟩
  | .hbm, ⟨14, _⟩ => ⟨S1024, .f32⟩
  | .hbm, ⟨15, _⟩ => ⟨S8x4096x512, .f32⟩
  | .hbm, ⟨16, _⟩ => ⟨S8x4096x512, .f32⟩
  | .hbm, ⟨17, _⟩ => ⟨S8x4096x1024, .f32⟩
  | .hbm, ⟨18, _⟩ => ⟨S1024x1024, .f32⟩
  | .hbm, ⟨19, _⟩ => ⟨S8x4096x1024, .f32⟩
  | .hbm, ⟨20, _⟩ => ⟨S8x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x1x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x1x1024, .f32⟩
  | .hbm, ⟨52, _⟩ => ⟨S1x1024x2816, .f32⟩
  | .hbm, ⟨53, _⟩ => ⟨S1024x2816, .f32⟩
  | .hbm, ⟨54, _⟩ => ⟨S1x1024x2816, .f32⟩
  | .hbm, ⟨55, _⟩ => ⟨S1024x2816, .f32⟩
  | .hbm, ⟨56, _⟩ => ⟨S1x3x2816, .f32⟩
  | .hbm, ⟨57, _⟩ => ⟨S3x2816, .f32⟩
  | .hbm, ⟨58, _⟩ => ⟨S1x2816, .f32⟩
  | .hbm, ⟨59, _⟩ => ⟨S2816, .f32⟩
  | .hbm, ⟨60, _⟩ => ⟨S1x2816x1024, .f32⟩
  | .hbm, ⟨61, _⟩ => ⟨S2816x1024, .f32⟩
  | .hbm, ⟨62, _⟩ => ⟨S8x4096x2816, .f32⟩
  | .hbm, ⟨63, _⟩ => ⟨S_, .i32⟩
  | .hbm, ⟨64, _⟩ => ⟨S_, .f32⟩
  | .hbm, ⟨65, _⟩ => ⟨S8x4098x2816, .f32⟩
  | .hbm, ⟨66, _⟩ => ⟨S1x2816, .f32⟩
  | .hbm, ⟨67, _⟩ => ⟨S2816, .f32⟩
  | .hbm, ⟨68, _⟩ => ⟨S8x4096x2816, .f32⟩
  | .hbm, ⟨69, _⟩ => ⟨S1x1x2816, .f32⟩
  | .hbm, ⟨70, _⟩ => ⟨S8x4096x2816, .f32⟩
  | .hbm, ⟨71, _⟩ => ⟨S8x4096x2816, .f32⟩
  | .hbm, ⟨72, _⟩ => ⟨S_, .f32⟩
  | .hbm, ⟨73, _⟩ => ⟨S8x4096x2816, .f32⟩
  | .hbm, ⟨74, _⟩ => ⟨S8x4096x2816, .f32⟩
  | .hbm, ⟨75, _⟩ => ⟨S1x2816, .f32⟩
  | .hbm, ⟨76, _⟩ => ⟨S2816, .f32⟩
  | .hbm, ⟨77, _⟩ => ⟨S8x4096x2816, .f32⟩
  | .hbm, ⟨78, _⟩ => ⟨S1x1x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S1x2816, .f32⟩
  | .hbm, ⟨83, _⟩ => ⟨S2816, .f32⟩
  | .hbm, ⟨84, _⟩ => ⟨S8x4096x2816, .f32⟩
  | .hbm, ⟨85, _⟩ => ⟨S1x1x2816, .f32⟩
  | .hbm, ⟨86, _⟩ => ⟨S8x4096x2816, .f32⟩
  | .hbm, ⟨87, _⟩ => ⟨S8x4096x2816, .f32⟩
  | .hbm, ⟨88, _⟩ => ⟨S8x4096x2816, .f32⟩
  | .hbm, ⟨89, _⟩ => ⟨S1x1x2816, .f32⟩
  | .hbm, ⟨90, _⟩ => ⟨S8x4096x2816, .f32⟩
  | .hbm, ⟨91, _⟩ => ⟨S8x4096x2816, .f32⟩
  | .hbm, ⟨92, _⟩ => ⟨S8x4096x2816, .f32⟩
  | .hbm, ⟨93, _⟩ => ⟨S8x4096x2816, .f32⟩
  | .hbm, ⟨94, _⟩ => ⟨S_, .f32⟩
  | .hbm, ⟨95, _⟩ => ⟨S8x4096x2816, .f32⟩
  | .hbm, ⟨96, _⟩ => ⟨S8x4096x2816, .f32⟩
  | .hbm, ⟨97, _⟩ => ⟨S_, .f32⟩
  | .hbm, ⟨98, _⟩ => ⟨S8x4096x2816, .f32⟩
  | .hbm, ⟨99, _⟩ => ⟨S8x4096x2816, .f32⟩
  | .hbm, ⟨100, _⟩ => ⟨S8x4096x2816, .f32⟩
  | .hbm, ⟨101, _⟩ => ⟨S8x4096x2816, .f32⟩
  | .hbm, ⟨102, _⟩ => ⟨S8x4096x2816, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_4 : Ref sig .tc := ⟨.hbm, 94, rfl⟩
abbrev main_v72 : Ref sig .tc := ⟨.hbm, 95, rfl⟩
abbrev main_v73 : Ref sig .tc := ⟨.hbm, 96, rfl⟩
abbrev main_cst_5 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x2x1024 : Shape := ⟨3, ![2, 2, 1024]⟩
abbrev S8x1024 : Shape := ⟨2, ![8, 1024]⟩
abbrev S1x1024x2048 : Shape := ⟨3, ![1, 1024, 2048]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S8x1x1024 : Shape := ⟨3, ![8, 1, 1024]⟩
abbrev S1024x2048 : Shape := ⟨2, ![1024, 2048]⟩
abbrev S4x8192x512 : Shape := ⟨3, ![4, 8192, 512]⟩
abbrev S32768x512 : Shape := ⟨2, ![32768, 512]⟩
abbrev S1024x1024 : Shape := ⟨2, ![1024, 1024]⟩
abbrev S4x256x512 : Shape := ⟨3, ![4, 256, 512]⟩
abbrev S1024x512 : Shape := ⟨2, ![1024, 512]⟩
abbrev S4x1024x128 : Shape := ⟨3, ![4, 1024, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x2x1024, .f32⟩
  | .hbm, ⟨2, _⟩ => ⟨S8x1024, .f32⟩
  | .hbm, ⟨3, _⟩ => ⟨S8x1024, .f32⟩
  | .hbm, ⟨4, _⟩ => ⟨S1x1024x2048, .f32⟩
  | .hbm, ⟨5, _⟩ => ⟨S32768x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S8x1x1024, .f32⟩
  | .hbm, ⟨10, _⟩ => ⟨S8x1x1024, .f32⟩
  | .hbm, ⟨11, _⟩ => ⟨S1024x2048, .f32⟩
  | .hbm, ⟨12, _⟩ => ⟨S1024x2048, .bf16⟩
  | .hbm, ⟨13, _⟩ => ⟨S4x8192x512, .f32⟩
  | .hbm, ⟨14, _⟩ => ⟨S32768x512, .bf16⟩
  | .hbm, ⟨15, _⟩ => ⟨S32768x512, .bf16⟩
  | .hbm, ⟨16, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S4x256x512, .f32⟩
  | .local _ .vmem, ⟨9, _⟩ => ⟨S4x256x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S4x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x4096x1024 : Shape := ⟨3, ![8, 4096, 1024]⟩
abbrev S2x2x1024 : Shape := ⟨3, ![2, 2, 1024]⟩
abbrev S8x1024 : Shape := ⟨2, ![8, 1024]⟩
abbrev S1x1024x2048 : Shape := ⟨3, ![1, 1024, 2048]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S1024x2048 : Shape := ⟨2, ![1024, 2048]⟩
abbrev S8x4096x2048 : Shape := ⟨3, ![8, 4096, 2048]⟩
abbrev S32768x2048 : Shape := ⟨2, ![32768, 2048]⟩
abbrev S32768x512 : Shape := ⟨2, ![32768, 512]⟩
abbrev S8192x4x512 : Shape := ⟨3, ![8192, 4, 512]⟩
abbrev S4x8192x512 : Shape := ⟨3, ![4, 8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x2x1024, .f32⟩
  | .hbm, ⟨2, _⟩ => ⟨S8x1024, .f32⟩
  | .hbm, ⟨3, _⟩ => ⟨S8x1024, .f32⟩
  | .hbm, ⟨4, _⟩ => ⟨S1x1024x2048, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S1024x2048, .f32⟩
  | .hbm, ⟨33, _⟩ => ⟨S8x4096x2048, .f32⟩
  | .hbm, ⟨34, _⟩ => ⟨S32768x2048, .f32⟩
  | .hbm, ⟨35, _⟩ => ⟨S32768x512, .f32⟩
  | .hbm, ⟨36, _⟩ => ⟨S8192x4x512, .f32⟩
  | .hbm, ⟨37, _⟩ => ⟨S4x8192x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .bf16⟩
  | .hbm, ⟨45, _⟩ => ⟨S32768x512, .bf16⟩
  | .hbm, ⟨46, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Kernel5.lean ====
abbrev S32x8 : Shape := ⟨2, ![32, 8]⟩
abbrev S2x256x256 : Shape := ⟨3, ![2, 256, 256]⟩
abbrev S8x32 : Shape := ⟨2, ![8, 32]⟩
abbrev S8x2x256x256 : Shape := ⟨4, ![8, 2, 256, 256]⟩
abbrev S1x2x256x256 : Shape := ⟨4, ![1, 2, 256, 256]⟩
abbrev S1x256x256 : Shape := ⟨3, ![1, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 4
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S8x32, .f32⟩
  | .hbm, ⟨3, _⟩ => ⟨S8x2x256x256, .f32⟩
  | .local _ .vmem, ⟨0, _⟩ => ⟨S2x256x256, .i32⟩
  | .local _ .vmem, ⟨1, _⟩ => ⟨S1x2x256x256, .f32⟩
  | .local _ .vmem, ⟨2, _⟩ => ⟨S1x2x256x256, .f32⟩
  | .local _ .smem, ⟨0, _⟩ => ⟨S8x32, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v5 : Index := Scalar.indexCast arg0
  let c0_2 : Index := 0#32
  ![v5.toNat, 0]
def k0_off2 (i : grid0.Coords) : Fin 2 → Nat :=
  let arg0 : BitVec 32 := BitVec.ofNat 32 (i 0).val
  let v12 : Index := Scalar.indexCast arg0
  let c1 : Index := 1#32
  ![v12.toNat, 1]
def k0_off3 (i : grid0.Coords) : Fin 2 → Nat :=
  let arg0 : BitVec 32 := BitVec.ofNat 32 (i 0).val
  let v19 : Index := Scalar.indexCast arg0
  let c2 : Index := 2#32
  ![v19.toNat, 2]
def k0_off4 (i : grid0.Coords) : Fin 2 → Nat :=
  let arg0 : BitVec 32 := BitVec.ofNat 32 (i 0).val
  let v26 : Index := Scalar.indexCast arg0
  let c3 : Index := 3#32
  ![v26.toNat, 3]
def k0_off5 (i : grid0.Coords) : Fin 2 → Nat :=
  let arg0 : BitVec 32 := BitVec.ofNat 32 (i 0).val
  let v33 : Index := Scalar.indexCast arg0
  let c4 : Index := 4#32
  ![v33.toNat, 4]
def k0_off6 (i : grid0.Coords) : Fin 2 → Nat :=
  let arg0 : BitVec 32 := BitVec.ofNat 32 (i 0).val
  let v40 : Index := Scalar.indexCast arg0
  let c5 : Index := 5#32
  ![v40.toNat, 5]
def k0_off7 (i : grid0.Coords) : Fin 2 → Nat :=
  let arg0 : BitVec 32 := BitVec.ofNat 32 (i 0).val
  let v47 : Index := Scalar.indexCast arg0
  let c6 : Index := 6#32
  ![v47.toNat, 6]
def k0_off8 (i : grid0.Coords) : Fin 2 → Nat :=
  let arg0 : BitVec 32 := BitVec.ofNat 32 (i 0).val
  let v54 : Index := Scalar.indexCast arg0
  let c7 : Index := 7#32
  ![v54.toNat, 7]
def k0_off9 (i : grid0.Coords) : Fin 2 → Nat :=
  let arg0 : BitVec 32 := BitVec.ofNat 32 (i 0).val
  let v61 : Index := Scalar.indexCast arg0
  let c8 : Index := 8#32
  ![v61.toNat, 8]
def k0_off10 (i : grid0.Coords) : Fin 2 → Nat :=
  let arg0 : BitVec 32 := BitVec.ofNat 32 (i 0).val
  let v68 : Index := Scalar.indexCast arg0
  let c9 : Index := 9#32
  ![v68.toNat, 9]
def k0_off11 (i : grid0.Coords) : Fin 2 → Nat :=
  let arg0 : BitVec 32 := BitVec.ofNat 32 (i 0).val
  let v75 : Index := Scalar.indexCast arg0
  let c10 : Index := 10#32
  ![v75.toNat, 10]
def k0_off12 (i : grid0.Coords) : Fin 2 → Nat :=
  let arg0 : BitVec 32 := BitVec.ofNat 32 (i 0).val
  let v82 : Index := Scalar.indexCast arg0
  let c11 : Index := 11#32
  ![v82.toNat, 11]
def k0_off13 (i : grid0.Coords) : Fin 2 → Nat :=
  let arg0 : BitVec 32 := BitVec.ofNat 32 (i 0).val
  let v89 : Index := Scalar.indexCast arg0
  let c12 : Index := 12#32
  ![v89.toNat, 12]
def k0_off14 (i : grid0.Coords) : Fin 2 → Nat :=
  let arg0 : BitVec 32 := BitVec.ofNat 32 (i 0).val
  let v96 : Index := Scalar.indexCast arg0
  let c13 : Index := 13#32
  ![v96.toNat, 13]
def k0_off15 (i : grid0.Coords) : Fin 2 → Nat :=
  let arg0 : BitVec 32 := BitVec.ofNat 32 (i 0).val
  let v103 : Index := Scalar.indexCast arg0
  let c14 : Index := 14#32
  ![v103.toNat, 14]
def k0_off16 (i : grid0.Coords) : Fin 2 → Nat :=
  let arg0 : BitVec 32 := BitVec.ofNat 32 (i 0).val
  let v110 : Index := Scalar.indexCast arg0
  let c15 : Index := 15#32
  ![v110.toNat, 15]
def k0_off17 (i : grid0.Coords) : Fin 2 → Nat :=
  let arg0 : BitVec 32 := BitVec.ofNat 32 (i 0).val
  let v117 : Index := Scalar.indexCast arg0
  let c16 : Index := 16#32
  ![v117.toNat, 16]
def k0_off18 (i : grid0.Coords) : Fin 2 → Nat :=
  let arg0 : BitVec 32 := BitVec.ofNat 32 (i 0).val
  let v124 : Index := Scalar.indexCast arg0
  let c17 : Index := 17#32
  ![v124.toNat, 17]
def k0_off19 (i : grid0.Coords) : Fin 2 → Nat :=
  let arg0 : BitVec 32 := BitVec.ofNat 32 (i 0).val
  let v131 : Index := Scalar.indexCast arg0
  let c18 : Index := 18#32
  ![v131.toNat, 18]
def k0_off20 (i : grid0.Coords) : Fin 2 → Nat :=
  let arg0 : BitVec 32 := BitVec.ofNat 32 (i 0).val
  let v138 : Index := Scalar.indexCast arg0
  let c19 : Index := 19#32
  ![v138.toNat, 19]
def k0_off21 (i : grid0.Coords) : Fin 2 → Nat :=
  let arg0 : BitVec 32 := BitVec.ofNat 32 (i 0).val
  let v145 : Index := Scalar.indexCast arg0
  let c20 : Index := 20#32
  ![v145.toNat, 20]
def k0_off22 (i : grid0.Coords) : Fin 2 → Nat :=
  let arg0 : BitVec 32 := BitVec.ofNat 32 (i 0).val
  let v152 : Index := Scalar.indexCast arg0
  let c21 : Index := 21#32
  ![v152.toNat, 21]
def k0_off23 (i : grid0.Coords) : Fin 2 → Nat :=
  let arg0 : BitVec 32 := BitVec.ofNat 32 (i 0).val
  let v159 : Index := Scalar.indexCast arg0
  let c22 : Index := 22#32
  ![v159.toNat, 22]
def k0_off24 (i : grid0.Coords) : Fin 2 → Nat :=
  let arg0 : BitVec 32 := BitVec.ofNat 32 (i 0).val
  let v166 : Index := Scalar.indexCast arg0
  let c23 : Index := 23#32
  ![v166.toNat, 23]
def k0_off25 (i : grid0.Coords) : Fin 2 → Nat :=
  let arg0 : BitVec 32 := BitVec.ofNat 32 (i 0).val
  let v173 : Index := Scalar.indexCast arg0
  let c24 : Index := 24#32
  ![v173.toNat, 24]
def k0_off26 (i : grid0.Coords) : Fin 2 → Nat :=
  let arg0 : BitVec 32 := BitVec.ofNat 32 (i 0).val
  let v180 : Index := Scalar.indexCast arg0
  let c25 : Index := 25#32
  ![v180.toNat, 25]
def k0_off27 (i : grid0.Coords) : Fin 2 → Nat :=
  let arg0 : BitVec 32 := BitVec.ofNat 32 (i 0).val
  let v187 : Index := Scalar.indexCast arg0
  let c26 : Index := 26#32
  ![v187.toNat, 26]
def k0_off28 (i : grid0.Coords) : Fin 2 → Nat :=
  let arg0 : BitVec 32 := BitVec.ofNat 32 (i 0).val
  let v194 : Index := Scalar.indexCast arg0
  let c27 : Index := 27#32
  ![v194.toNat, 27]
def k0_off29 (i : grid0.Coords) : Fin 2 → Nat :=
  let arg0 : BitVec 32 := BitVec.ofNat 32 (i 0).val
  let v201 : Index := Scalar.indexCast arg0
  let c28 : Index := 28#32
  ![v201.toNat, 28]
def k0_off30 (i : grid0.Coords) : Fin 2 → Nat :=
  let arg0 : BitVec 32 := BitVec.ofNat 32 (i 0).val
  let v208 : Index := Scalar.indexCast arg0
  let c29 : Index := 29#32
  ![v208.toNat, 29]
def k0_off31 (i : grid0.Coords) : Fin 2 → Nat :=
  let arg0 : BitVec 32 := BitVec.ofNat 32 (i 0).val
  let v215 : Index := Scalar.indexCast arg0
  let c30 : Index := 30#32
  ![v215.toNat, 30]
def k0_off32 (i : grid0.Coords) : Fin 2 → Nat :=
  let arg0 : BitVec 32 := BitVec.ofNat 32 (i 0).val
  let v222 : Index := Scalar.indexCast arg0
  let c31 : Index := 31#32
  ![v222.toNat, 31]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32x8 : Shape := ⟨2, ![32, 8]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x256x256x1 : Shape := ⟨4, ![2, 256, 256, 1]⟩
abbrev S2x256x256x8 : Shape := ⟨4, ![2, 256, 256, 8]⟩
abbrev S8x2x256x256 : Shape := ⟨4, ![8, 2, 256, 256]⟩

abbrev nBuf : Space → Nat
  | .hbm => 67
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S1x256, .i32⟩
  | .hbm, ⟨3, _⟩ => ⟨S256x1, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S1x256, .i32⟩
  | .hbm, ⟨8, _⟩ => ⟨S256x1, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S1x256x256, .i32⟩
  | .hbm, ⟨16, _⟩ => ⟨S1x256x256, .i32⟩
  | .hbm, ⟨17, _⟩ => ⟨S2x256x256, .i32⟩
  | .hbm, ⟨18, _⟩ => ⟨S_, .i32⟩
  | .hbm, ⟨19, _⟩ => ⟨S2x256x256, .i32⟩
  | .hbm, ⟨20, _⟩ => ⟨S2x256x256, .i32⟩
  | .hbm, ⟨21, _⟩ => ⟨S_, .i32⟩
  | .hbm, ⟨22, _⟩ => ⟨S2x256x256, .i32⟩
  | .hbm, ⟨23, _⟩ => ⟨S2x256x256, .i32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .i32⟩
  | .hbm, ⟨36, _⟩ => ⟨S_, .i32⟩
  | .hbm, ⟨37, _⟩ => ⟨S2x256x256, .i32⟩
  | .hbm, ⟨38, _⟩ => ⟨S2x256x256, .i32⟩
  | .hbm, ⟨39, _⟩ => ⟨S_, .i32⟩
  | .hbm, ⟨40, _⟩ => ⟨S2x256x256, .i32⟩
  | .hbm, ⟨41, _⟩ => ⟨S2x256x256, .i32⟩
  | .hbm, ⟨42, _⟩ => ⟨S_, .i32⟩
  | .hbm, ⟨43, _⟩ => ⟨S2x256x256, .i32⟩
  | .hbm, ⟨44, _⟩ => ⟨S2x256x256, .i1⟩
  | .hbm, ⟨45, _⟩ => ⟨S2x256x256, .i32⟩
  | .hbm, ⟨46, _⟩ => ⟨S_, .i32⟩
  | .hbm, ⟨47, _⟩ => ⟨S2x256x256, .i32⟩
  | .hbm, ⟨48, _⟩ => ⟨S2x256x256, .i1⟩
  | .hbm, ⟨49, _⟩ => ⟨S_, .i32⟩
  | .hbm, ⟨50, _⟩ => ⟨S2x256x256, .i32⟩
  | .hbm, ⟨51, _⟩ => ⟨S2x256x256, .i32⟩
  | .hbm, ⟨52, _⟩ => ⟨S2x256x256, .i32⟩
  | .hbm, ⟨53, _⟩ => ⟨S2x256x256x1, .i32⟩
  | .hbm, ⟨54, _⟩ => ⟨S2x256x256x8, .f32⟩
  | .hbm, ⟨55, _⟩ => ⟨S8x2x256x256, .f32⟩
  | .hbm, ⟨56, _⟩ => ⟨S_, .f32⟩
  | .hbm, ⟨57, _⟩ => ⟨S8x2x256x256, .f32⟩
  | .hbm, ⟨58, _⟩ => ⟨S8x2x256x256, .f32⟩
  | .hbm, ⟨59, _⟩ => ⟨S_, .i32⟩
  | .hbm, ⟨60, _⟩ => ⟨S2x256x256, .i32⟩
  | .hbm, ⟨61, _⟩ => ⟨S2x256x256, .i1⟩
  | .hbm, ⟨62, _⟩ => ⟨S_, .f32⟩
  | .hbm, ⟨63, _⟩ => ⟨S_, .f32⟩
  | .hbm, ⟨64, _⟩ => ⟨S8x2x256x256, .i1⟩
  | .hbm, ⟨65, _⟩ => ⟨S8x2x256x256, .f32⟩
  | .hbm, ⟨66, _⟩ => ⟨S8x2x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_c_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_7 : Ref sig .tc := ⟨.hbm, 46, rfl⟩
abbrev main_v36 : Ref sig .tc := ⟨.hbm, 47, rfl⟩
abbrev main_v37 : Ref sig .tc := ⟨.hbm, 48, rfl⟩
abbrev main_c_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_c_10 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel6.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1x64 : Shape := ⟨3, ![32, 1, 64]⟩
abbrev S32x1x1 : Shape := ⟨3, ![32, 1, 1]⟩
abbrev S32x64x1 : Shape := ⟨3, ![32, 64, 1]⟩
abbrev S4x16x32x16 : Shape := ⟨4, ![4, 16, 32, 16]⟩
abbrev S4x32x16x64 : Shape := ⟨4, ![4, 32, 16, 64]⟩
abbrev S4x32x64x16 : Shape := ⟨4, ![4, 32, 64, 16]⟩
abbrev S2x32x1x64 : Shape := ⟨4, ![2, 32, 1, 64]⟩
abbrev S1x32x16x64 : Shape := ⟨4, ![1, 32, 16, 64]⟩
abbrev S32x16 : Shape := ⟨2, ![32, 16]⟩
abbrev S1x1x32x16 : Shape := ⟨4, ![1, 1, 32, 16]⟩
abbrev S1x32x64x16 : Shape := ⟨4, ![1, 32, 64, 16]⟩
abbrev S1x32x1x64 : Shape := ⟨4, ![1, 32, 1, 64]⟩

abbrev nBuf : Space → Nat
  | .hbm => 23
  | .vmem => 18
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32x1x64, .f32⟩
  | .hbm, ⟨8, _⟩ => ⟨S32x1x64, .f32⟩
  | .hbm, ⟨9, _⟩ => ⟨S32x1x1, .f32⟩
  | .hbm, ⟨10, _⟩ => ⟨S32x64x1, .f32⟩
  | .hbm, ⟨11, _⟩ => ⟨S32x64x1, .f32⟩
  | .hbm, ⟨12, _⟩ => ⟨S32x1x1, .f32⟩
  | .hbm, ⟨13, _⟩ => ⟨S32x16x64, .f32⟩
  | .hbm, ⟨14, _⟩ => ⟨S32x16x64, .f32⟩
  | .hbm, ⟨15, _⟩ => ⟨S32x64x16, .f32⟩
  | .hbm, ⟨16, _⟩ => ⟨S32x64x16, .f32⟩
  | .hbm, ⟨17, _⟩ => ⟨S4x16x32x16, .f32⟩
  | .hbm, ⟨18, _⟩ => ⟨S4x32x16x64, .f32⟩
  | .hbm, ⟨19, _⟩ => ⟨S4x32x16x64, .f32⟩
  | .hbm, ⟨20, _⟩ => ⟨S4x32x64x16, .f32⟩
  | .hbm, ⟨21, _⟩ => ⟨S4x32x64x16, .f32⟩
  | .hbm, ⟨22, _⟩ => ⟨S2x32x1x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x64x1, .f32⟩
  | .local _ .vmem, ⟨4, _⟩ => ⟨S32x64x1, .f32⟩
  | .local _ .vmem, ⟨5, _⟩ => ⟨S32x1x1, .f32⟩
  | .local _ .vmem, ⟨6, _⟩ => ⟨S32x16x64, .f32⟩
  | .local _ .vmem, ⟨7, _⟩ => ⟨S32x16x64, .f32⟩
  | .local _ .vmem, ⟨8, _⟩ => ⟨S32x16x64, .f32⟩
  | .local _ .vmem, ⟨9, _⟩ => ⟨S32x16x64, .f32⟩
  | .local _ .vmem, ⟨10, _⟩ => ⟨S32x64x16, .f32⟩
  | .local _ .vmem, ⟨11, _⟩ => ⟨S32x64x16, .f32⟩
  | .local _ .vmem, ⟨12, _⟩ => ⟨S4x16x32x16, .f32⟩
  | .local _ .vmem, ⟨13, _⟩ => ⟨S4x32x16x64, .f32⟩
  | .local _ .vmem, ⟨14, _⟩ => ⟨S4x32x16x64, .f32⟩
  | .local _ .vmem, ⟨15, _⟩ => ⟨S4x32x64x16, .f32⟩
  | .local _ .vmem, ⟨16, _⟩ => ⟨S4x32x64x16, .f32⟩
  | .local _ .vmem, ⟨17, _⟩ => ⟨S2x32x1x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x16x32x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x32x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x32x64x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x32x64x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x32x1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Reference6Ideal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S32x16x64x1 : Shape := ⟨4, ![32, 16, 64, 1]⟩
abbrev S32x1x64x16 : Shape := ⟨4, ![32, 1, 64, 16]⟩
abbrev S32x16x64x16 : Shape := ⟨4, ![32, 16, 64, 16]⟩
abbrev S32x16x16 : Shape := ⟨3, ![32, 16, 16]⟩
abbrev S32x1x64 : Shape := ⟨3, ![32, 1, 64]⟩
abbrev S1x32x16x16 : Shape := ⟨4, ![1, 32, 16, 16]⟩
abbrev S4x32x16x16 : Shape := ⟨4, ![4, 32, 16, 16]⟩
abbrev S4x16x32x16 : Shape := ⟨4, ![4, 16, 32, 16]⟩
abbrev S1x32x64x16 : Shape := ⟨4, ![1, 32, 64, 16]⟩
abbrev S4x32x64x16 : Shape := ⟨4, ![4, 32, 64, 16]⟩
abbrev S4x32x16x64 : Shape := ⟨4, ![4, 32, 16, 64]⟩
abbrev S1x32x16x64 : Shape := ⟨4, ![1, 32, 16, 64]⟩
abbrev S1x32x64 : Shape := ⟨3, ![1, 32, 64]⟩
abbrev S2x32x64 : Shape := ⟨3, ![2, 32, 64]⟩
abbrev S2x32x1x64 : Shape := ⟨4, ![2, 32, 1, 64]⟩

abbrev nBuf : Space → Nat
  | .hbm => 268
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32, .f32⟩
  | 8 => ⟨S32x1, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64x1, .f32⟩
  | 35 => ⟨S32x64x16, .f32⟩
  | 36 => ⟨S32x64x16, .f32⟩
  | 37 => ⟨S32x64x1, .f32⟩
  | 38 => ⟨S32x64x16, .f32⟩
  | 39 => ⟨S32x64x16, .f32⟩
  | 40 => ⟨S32x64x16, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x16x64x1, .f32⟩
  | 49 => ⟨S32x1x64x16, .f32⟩
  | 50 => ⟨S32x16x64x16, .f32⟩
  | 51 => ⟨S32x16x64x16, .f32⟩
  | 52 => ⟨S32x16x64x16, .f32⟩
  | 53 => ⟨S32x16x64x1, .f32⟩
  | 54 => ⟨S32x1x64x16, .f32⟩
  | 55 => ⟨S32x16x64x16, .f32⟩
  | 56 => ⟨S32x16x64x16, .f32⟩
  | 57 => ⟨S32x16x64x16, .f32⟩
  | 58 => ⟨S32x16x64x16, .f32⟩
  | 59 => ⟨S_, .f32⟩
  | 60 => ⟨S32x16x16, .f32⟩
  | 61 => ⟨S32x64x1, .f32⟩
  | 62 => ⟨S32x64x16, .f32⟩
  | 63 => ⟨S32x64x16, .f32⟩
  | 64 => ⟨S32x64x1, .f32⟩
  | 65 => ⟨S32x64x16, .f32⟩
  | 66 => ⟨S32x64x16, .f32⟩
  | 67 => ⟨S32x64x16, .f32⟩
  | 68 => ⟨S32x64x1, .f32⟩
  | 69 => ⟨S32x64x16, .f32⟩
  | 70 => ⟨S32x64x16, .f32⟩
  | 71 => ⟨S32x64x1, .f32⟩
  | 72 => ⟨S32x64x16, .f32⟩
  | 73 => ⟨S32x64x16, .f32⟩
  | 74 => ⟨S32x64x16, .f32⟩
  | 75 => ⟨S32x1x64, .f32⟩
  | 76 => ⟨S32x16x64, .f32⟩
  | 77 => ⟨S32x16x64, .f32⟩
  | 78 => ⟨S32x1x64, .f32⟩
  | 79 => ⟨S32x16x64, .f32⟩
  | 80 => ⟨S32x16x64, .f32⟩
  | 81 => ⟨S32x16x64, .f32⟩
  | 82 => ⟨S32x16x64, .f32⟩
  | 83 => ⟨S32x1x64, .f32⟩
  | 84 => ⟨S32x16x64, .f32⟩
  | 85 => ⟨S32x16x64, .f32⟩
  | 86 => ⟨S32x1x64, .f32⟩
  | 87 => ⟨S32x16x64, .f32⟩
  | 88 => ⟨S32x16x64, .f32⟩
  | 89 => ⟨S32x16x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x16x64x1, .f32⟩
  | 97 => ⟨S32x1x64x16, .f32⟩
  | 98 => ⟨S32x16x64x16, .f32⟩
  | 99 => ⟨S32x16x64x16, .f32⟩
  | 100 => ⟨S32x16x64x16, .f32⟩
  | 101 => ⟨S32x16x64x1, .f32⟩
  | 102 => ⟨S32x1x64x16, .f32⟩
  | 103 => ⟨S32x16x64x16, .f32⟩
  | 104 => ⟨S32x16x64x16, .f32⟩
  | 105 => ⟨S32x16x64x16, .f32⟩
  | 106 => ⟨S32x16x64x16, .f32⟩
  | 107 => ⟨S_, .f32⟩
  | 108 => ⟨S32x16x16, .f32⟩
  | 109 => ⟨S32x64x1, .f32⟩
  | 110 => ⟨S32x64x16, .f32⟩
  | 111 => ⟨S32x64x16, .f32⟩
  | 112 => ⟨S32x64x1, .f32⟩
  | 113 => ⟨S32x64x16, .f32⟩
  | 114 => ⟨S32x64x16, .f32⟩
  | 115 => ⟨S32x64x16, .f32⟩
  | 116 => ⟨S32x64x1, .f32⟩
  | 117 => ⟨S32x64x16, .f32⟩
  | 118 => ⟨S32x64x16, .f32⟩
  | 119 => ⟨S32x64x1, .f32⟩
  | 120 => ⟨S32x64x16, .f32⟩
  | 121 => ⟨S32x64x16, .f32⟩
  | 122 => ⟨S32x64x16, .f32⟩
  | 123 => ⟨S32x1x64, .f32⟩
  | 124 => ⟨S32x16x64, .f32⟩
  | 125 => ⟨S32x16x64, .f32⟩
  | 126 => ⟨S32x1x64, .f32⟩
  | 127 => ⟨S32x16x64, .f32⟩
  | _ => ⟨S32x64, .f32⟩

abbrev hbmTy0_1 (i : Nat) : BufTy := match i % 128 with
  | 0 => ⟨S32x16x64, .f32⟩
  | 1 => ⟨S32x16x64, .f32⟩
  | 2 => ⟨S32x16x64, .f32⟩
  | 3 => ⟨S32x1x64, .f32⟩
  | 4 => ⟨S32x16x64, .f32⟩
  | 5 => ⟨S32x16x64, .f32⟩
  | 6 => ⟨S32x1x64, .f32⟩
  | 7 => ⟨S32x16x64, .f32⟩
  | 8 => ⟨S32x16x64, .f32⟩
  | 9 => ⟨S32x16x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x16x64x1, .f32⟩
  | 17 => ⟨S32x1x64x16, .f32⟩
  | 18 => ⟨S32x16x64x16, .f32⟩
  | 19 => ⟨S32x16x64x16, .f32⟩
  | 20 => ⟨S32x16x64x16, .f32⟩
  | 21 => ⟨S32x16x64x1, .f32⟩
  | 22 => ⟨S32x1x64x16, .f32⟩
  | 23 => ⟨S32x16x64x16, .f32⟩
  | 24 => ⟨S32x16x64x16, .f32⟩
  | 25 => ⟨S32x16x64x16, .f32⟩
  | 26 => ⟨S32x16x64x16, .f32⟩
  | 27 => ⟨S_, .f32⟩
  | 28 => ⟨S32x16x16, .f32⟩
  | 29 => ⟨S32x64x1, .f32⟩
  | 30 => ⟨S32x64x16, .f32⟩
  | 31 => ⟨S32x64x16, .f32⟩
  | 32 => ⟨S32x64x1, .f32⟩
  | 33 => ⟨S32x64x16, .f32⟩
  | 34 => ⟨S32x64x16, .f32⟩
  | 35 => ⟨S32x64x16, .f32⟩
  | 36 => ⟨S32x64x1, .f32⟩
  | 37 => ⟨S32x64x16, .f32⟩
  | 38 => ⟨S32x64x16, .f32⟩
  | 39 => ⟨S32x64x1, .f32⟩
  | 40 => ⟨S32x64x16, .f32⟩
  | 41 => ⟨S32x64x16, .f32⟩
  | 42 => ⟨S32x64x16, .f32⟩
  | 43 => ⟨S32x1x64, .f32⟩
  | 44 => ⟨S32x16x64, .f32⟩
  | 45 => ⟨S32x16x64, .f32⟩
  | 46 => ⟨S32x1x64, .f32⟩
  | 47 => ⟨S32x16x64, .f32⟩
  | 48 => ⟨S32x16x64, .f32⟩
  | 49 => ⟨S32x16x64, .f32⟩
  | 50 => ⟨S32x16x64, .f32⟩
  | 51 => ⟨S32x1x64, .f32⟩
  | 52 => ⟨S32x16x64, .f32⟩
  | 53 => ⟨S32x16x64, .f32⟩
  | 54 => ⟨S32x1x64, .f32⟩
  | 55 => ⟨S32x16x64, .f32⟩
  | 56 => ⟨S32x16x64, .f32⟩
  | 57 => ⟨S32x16x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x16x64x1, .f32⟩
  | 65 => ⟨S32x1x64x16, .f32⟩
  | 66 => ⟨S32x16x64x16, .f32⟩
  | 67 => ⟨S32x16x64x16, .f32⟩
  | 68 => ⟨S32x16x64x16, .f32⟩
  | 69 => ⟨S32x16x64x1, .f32⟩
  | 70 => ⟨S32x1x64x16, .f32⟩
  | 71 => ⟨S32x16x64x16, .f32⟩
  | 72 => ⟨S32x16x64x16, .f32⟩
  | 73 => ⟨S32x16x64x16, .f32⟩
  | 74 => ⟨S32x16x64x16, .f32⟩
  | 75 => ⟨S_, .f32⟩
  | 76 => ⟨S32x16x16, .f32⟩
  | 77 => ⟨S32x64x1, .f32⟩
  | 78 => ⟨S32x64x16, .f32⟩
  | 79 => ⟨S32x64x16, .f32⟩
  | 80 => ⟨S32x64x1, .f32⟩
  | 81 => ⟨S32x64x16, .f32⟩
  | 82 => ⟨S32x64x16, .f32⟩
  | 83 => ⟨S32x64x16, .f32⟩
  | 84 => ⟨S32x64x1, .f32⟩
  | 85 => ⟨S32x64x16, .f32⟩
  | 86 => ⟨S32x64x16, .f32⟩
  | 87 => ⟨S32x64x1, .f32⟩
  | 88 => ⟨S32x64x16, .f32⟩
  | 89 => ⟨S32x64x16, .f32⟩
  | 90 => ⟨S32x64x16, .f32⟩
  | 91 => ⟨S32x1x64, .f32⟩
  | 92 => ⟨S32x16x64, .f32⟩
  | 93 => ⟨S32x16x64, .f32⟩
  | 94 => ⟨S32x1x64, .f32⟩
  | 95 => ⟨S32x16x64, .f32⟩
  | 96 => ⟨S32x16x64, .f32⟩
  | 97 => ⟨S32x16x64, .f32⟩
  | 98 => ⟨S32x16x64, .f32⟩
  | 99 => ⟨S32x1x64, .f32⟩
  | 100 => ⟨S32x16x64, .f32⟩
  | 101 => ⟨S32x16x64, .f32⟩
  | 102 => ⟨S32x1x64, .f32⟩
  | 103 => ⟨S32x16x64, .f32⟩
  | 104 => ⟨S32x16x64, .f32⟩
  | 105 => ⟨S32x16x64, .f32⟩
  | 106 => ⟨S1x32x16x16, .f32⟩
  | 107 => ⟨S1x32x16x16, .f32⟩
  | 108 => ⟨S1x32x16x16, .f32⟩
  | 109 => ⟨S1x32x16x16, .f32⟩
  | 110 => ⟨S4x32x16x16, .f32⟩
  | 111 => ⟨S4x16x32x16, .f32⟩
  | 112 => ⟨S1x32x64x16, .f32⟩
  | 113 => ⟨S1x32x64x16, .f32⟩
  | 114 => ⟨S1x32x64x16, .f32⟩
  | 115 => ⟨S1x32x64x16, .f32⟩
  | 116 => ⟨S4x32x64x16, .f32⟩
  | 117 => ⟨S4x32x16x64, .f32⟩
  | 118 => ⟨S1x32x64x16, .f32⟩
  | 119 => ⟨S1x32x64x16, .f32⟩
  | 120 => ⟨S1x32x64x16, .f32⟩
  | 121 => ⟨S1x32x64x16, .f32⟩
  | 122 => ⟨S4x32x64x16, .f32⟩
  | 123 => ⟨S4x32x16x64, .f32⟩
  | 124 => ⟨S1x32x16x64, .f32⟩
  | 125 => ⟨S1x32x16x64, .f32⟩
  | 126 => ⟨S1x32x16x64, .f32⟩
  | 127 => ⟨S1x32x16x64, .f32⟩
  | _ => ⟨S32x64, .f32⟩

abbrev hbmTy0_2 (i : Nat) : BufTy := match i % 128 with
  | 0 => ⟨S4x32x16x64, .f32⟩
  | 1 => ⟨S4x32x64x16, .f32⟩
  | 2 => ⟨S1x32x16x64, .f32⟩
  | 3 => ⟨S1x32x16x64, .f32⟩
  | 4 => ⟨S1x32x16x64, .f32⟩
  | 5 => ⟨S1x32x16x64, .f32⟩
  | 6 => ⟨S4x32x16x64, .f32⟩
  | 7 => ⟨S4x32x64x16, .f32⟩
  | 8 => ⟨S1x32x64, .f32⟩
  | 9 => ⟨S1x32x64, .f32⟩
  | 10 => ⟨S2x32x64, .f32⟩
  | 11 => ⟨S2x32x1x64, .f32⟩
  | _ => ⟨S32x64, .f32⟩

abbrev hbmTy (i : Nat) : BufTy := match i / 128 with
  | 0 => hbmTy0_0 i
  | 1 => hbmTy0_1 i
  | 2 => hbmTy0_2 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_0 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_1 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_cst_2 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_cst_3 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩

abbrev nD : Nat := 1
abbrev τ : Topo := Topo.v7x

variable {F : FTy → Type} [FloatOps F]
-- ==== Proof.Buf.lean ====
/-
  READING THE HALO BUFFER BACK. The kernel writes, for every column block `j` and each half `s` of its 256 columns, the
  eight rows carried from the tile before and below them the tile's own 256 rows into one scratch block of 264 rows, and
  reads 256 rows starting at row `o ≤ 8`: row `r` of what it reads is carried row `o + r` while `o + r < 8`, and row
  `o + r - 8` of the tile afterwards. The same list of stores also holds the other half and the other column blocks,
  which such a read does not meet.
-/
module

public import Idealize.ShloMosaic.Lib.Pipeline.ValueKit
public import Idealize.ShloMosaic.Lib.ValueIdx

@[expose] public section

noncomputable section

namespace Cert.Ffn

open Idealize.ShloMosaic Idealize.SL.Sem

abbrev SGext : Shape := ⟨4, ![11, 2, 264, 128]⟩
abbrev SMain : Shape := ⟨4, ![1, 1, 256, 128]⟩
abbrev SHalo : Shape := ⟨4, ![1, 1, 8, 128]⟩
abbrev SCarry : Shape := ⟨3, ![11, 8, 256]⟩

variable {F : FTy → Type} [FloatOps F]

/-- 256 rows from row `o` of the eight carried rows followed by the tile's own. -/
def back (o : ℕ) (cr : SHalo.Idx → Elt F .f32) (w : SMain.Idx → Elt F .f32) : SMain.Idx → Elt F .f32 := fun y =>
  if h : o + (y 2).val < 8 then cr (ix4 0 0 ⟨o + (y 2).val, h⟩ (y 3))
  else w (ix4 0 0 ⟨(o + (y 2).val - 8) % 256, Nat.mod_lt _ (by omega)⟩ (y 3))

/-- A store at another half is not met. -/
theorem skip_half {sig : RefSig} {κ : Kind} {sp : Space} (v : View sig κ sp SGext .f32) (j j' s s' o o' n n' : ℕ) (inb inb')
    (w : _) (L : List (View.Piece (Elt F) SGext .f32)) (h : s ≠ s') :
    v.readCov ((⟨Rect.unit (s := SGext) ![j', s', o', 0] ![1, 1, n', 128] inb', w⟩ : View.Piece (Elt F) SGext .f32) :: L)
      (Rect.unit (s := SGext) ![j, s, o, 0] ![1, 1, n, 128] inb).toLoadRect
    = v.readCov L (Rect.unit (s := SGext) ![j, s, o, 0] ![1, 1, n, 128] inb).toLoadRect := by
  rw [View.readCov_eq_canon', View.readCov_eq_canon']
  funext y
  refine View.canon_cons_of_not_mem _ _ fun hm => ?_
  obtain ⟨x, hx⟩ := LoadRect.exists_idx_of_mem _ hm
  have h1 := congrArg (fun t : SGext.Idx => (t 1).val) hx
  have hx1 : (x 1).val < 1 := (x 1).isLt
  have hy1 : (y 1).val < 1 := (y 1).isLt
  have e1 : s' + 1 * (x 1).val = s + 1 * (y 1).val := h1
  omega

/-- The read of 256 rows from row `o`: the carried rows, then the tile's. -/
theorem read_back {sig : RefSig} {κ : Kind} {sp : Space} (v : View sig κ sp SGext .f32) (j s o : ℕ) (inb inb' inb'')
    (w : SMain.Idx → Elt F .f32) (cr : SHalo.Idx → Elt F .f32) (L : List (View.Piece (Elt F) SGext .f32)) (ho : o ≤ 8) :
    v.readCov ((⟨Rect.unit (s := SGext) ![j, s, 8, 0] ![1, 1, 256, 128] inb, w⟩ : View.Piece (Elt F) SGext .f32) ::
        (⟨Rect.unit (s := SGext) ![j, s, 0, 0] ![1, 1, 8, 128] inb', cr⟩ : View.Piece (Elt F) SGext .f32) :: L)
      (Rect.unit (s := SGext) ![j, s, o, 0] ![1, 1, 256, 128] inb'').toLoadRect
    = back o cr w := by
  rw [View.readCov_eq_canon']
  funext y
  have y0 : (y 0).val < 1 := (y 0).isLt
  have y1 : (y 1).val < 1 := (y 1).isLt
  have y2 : (y 2).val < 256 := (y 2).isLt
  unfold back
  split
  · rename_i h
    rw [View.canon_cons_of_not_mem]
    · have e : (Rect.unit (s := SGext) ![j, s, o, 0] ![1, 1, 256, 128] inb'').toLoadRect.idx y
          = (Rect.unit (s := SGext) ![j, s, 0, 0] ![1, 1, 8, 128] inb').emb (ix4 0 0 ⟨o + (y 2).val, h⟩ (y 3)) := by
        funext a
        refine Fin.ext ?_
        match a with
        | 0 => show j + 1 * (y 0).val = j + 1 * 0; omega
        | 1 => show s + 1 * (y 1).val = s + 1 * 0; omega
        | 2 => show o + 1 * (y 2).val = 0 + 1 * (o + (y 2).val); omega
        | 3 => rfl
      rw [e]
      exact View.canon_cons_emb _ _ _ _
    · intro hm
      obtain ⟨x, hx⟩ := LoadRect.exists_idx_of_mem _ hm
      have h1 := congrArg (fun t : SGext.Idx => (t 2).val) hx
      have e1 : 8 + 1 * (x 2).val = o + 1 * (y 2).val := h1
      omega
  · rename_i h
    have e : (Rect.unit (s := SGext) ![j, s, o, 0] ![1, 1, 256, 128] inb'').toLoadRect.idx y
        = (Rect.unit (s := SGext) ![j, s, 8, 0] ![1, 1, 256, 128] inb).emb (ix4 0 0 ⟨(o + (y 2).val - 8) % 256, Nat.mod_lt _ (by omega)⟩ (y 3)) := by
      funext a
      refine Fin.ext ?_
      match a with
      | 0 => show j + 1 * (y 0).val = j + 1 * 0; omega
      | 1 => show s + 1 * (y 1).val = s + 1 * 0; omega
      | 2 => show o + 1 * (y 2).val = 8 + 1 * ((o + (y 2).val - 8) % 256); omega
      | 3 => rfl
    rw [e]
    exact View.canon_cons_emb _ _ _ _

/-- A store at another column block of the carried rows is not met. -/
theorem skip_carry {sig : RefSig} {κ : Kind} {sp : Space} (v : View sig κ sp SCarry .f32) (j j' l : ℕ) (inb inb')
    (w : _) (L : List (View.Piece (Elt F) SCarry .f32)) (h : j ≠ j') :
    v.readCov ((⟨Rect.unit (s := SCarry) ![j', 0, 0] ![1, 8, 256] inb', w⟩ : View.Piece (Elt F) SCarry .f32) :: L)
      (Rect.unit (s := SCarry) ![j, 0, l] ![1, 8, 128] inb).toLoadRect
    = v.readCov L (Rect.unit (s := SCarry) ![j, 0, l] ![1, 8, 128] inb).toLoadRect := by
  rw [View.readCov_eq_canon', View.readCov_eq_canon']
  funext y
  refine View.canon_cons_of_not_mem _ _ fun hm => ?_
  obtain ⟨x, hx⟩ := LoadRect.exists_idx_of_mem _ hm
  have h1 := congrArg (fun t : SCarry.Idx => (t 0).val) hx
  have hx1 : (x 0).val < 1 := (x 0).isLt
  have hy1 : (y 0).val < 1 := (y 0).isLt
  have e1 : j' + 1 * (x 0).val = j + 1 * (y 0).val := h1
  omega

/-- A load of part of the carried rows after one store of the whole block reads the stored block there. -/
theorem read_carry {sig : RefSig} {κ : Kind} {sp : Space} (v : View sig κ sp SCarry .f32) (r : Rect SCarry) (inb)
    (w : SCarry.Idx → Elt F .f32) :
    v.readCov [(⟨Rect.unit (s := SCarry) ![0, 0, 0] ![11, 8, 256] inb, w⟩ : View.Piece (Elt F) SCarry .f32)] r.toLoadRect
    = View.ld w r := by
  rw [View.readCov_eq_canon']
  funext y
  have hz : (![0, 0, 0] : Fin 3 → ℕ) = fun _ => 0 := funext fun a => by fin_cases a <;> rfl
  rw [View.canon_unit_zero hz]

/-- A store of column block `j'` leaves the other blocks. -/
theorem carry_miss (j j' : ℕ) (hj : j < 11) (r : Fin 8) (l : Fin 256) (inb) (w : _) (L : List (View.Piece (Elt F) SCarry .f32)) (h : j ≠ j') :
    View.canon ((⟨Rect.unit (s := SCarry) ![j', 0, 0] ![1, 8, 256] inb, w⟩ : View.Piece (Elt F) SCarry .f32) :: L) (ix3 ⟨j, hj⟩ r l)
    = View.canon L (ix3 ⟨j, hj⟩ r l) := by
  refine View.canon_cons_of_not_mem _ _ fun hm => ?_
  obtain ⟨x, hx⟩ := LoadRect.exists_idx_of_mem _ hm
  have h1 := congrArg (fun t : SCarry.Idx => (t 0).val) hx
  have hx1 : (x 0).val < 1 := (x 0).isLt
  have e1 : j' + 1 * (x 0).val = j := h1
  omega

/-- A store of column block `j` is read there. -/
theorem carry_hit (j : ℕ) (hj : j < 11) (r : Fin 8) (l : Fin 256) (inb) (w : (⟨3, ![1, 8, 256]⟩ : Shape).Idx → Elt F .f32) (L : List (View.Piece (Elt F) SCarry .f32)) :
    View.canon ((⟨Rect.unit (s := SCarry) ![j, 0, 0] ![1, 8, 256] inb, w⟩ : View.Piece (Elt F) SCarry .f32) :: L) (ix3 ⟨j, hj⟩ r l)
    = w (ix3 0 r l) := by
  have e : (ix3 ⟨j, hj⟩ r l : SCarry.Idx) = (Rect.unit (s := SCarry) ![j, 0, 0] ![1, 8, 256] inb).emb (ix3 0 r l) := by
    funext a
    refine Fin.ext ?_
    match a with
    | 0 => show j = j + 1 * 0; omega
    | 1 => show r.val = 0 + 1 * r.val; omega
    | 2 => show l.val = 0 + 1 * l.val; omega
  rw [e]
  exact View.canon_cons_emb _ _ _ _

end Cert.Ffn

end
-- ==== Proof.Tile.lean ====
/-
  ONE TILE OF THE GATED CONVOLUTIONAL FEED-FORWARD, as the kernel computes it, in vector operations: 256 rows of
  modulated activations `h`, the two projections' weights read in eleven blocks of 256 columns, the causal convolution
  over the rows of the gate projection (three taps, the bias as a fourth row), the gate, and the down projection
  accumulated block after block. Both kernels of the package run this tile.
-/
module

public import proofs.«01_k».proof.Proof.Buf

@[expose] public section

noncomputable section

namespace Cert.Ffn

open Idealize.ShloMosaic Idealize.SL.Sem

abbrev SRw : Shape := ⟨2, ![1, 1024]⟩
abbrev SVc : Shape := ⟨3, ![1, 1, 1024]⟩
abbrev SCol : Shape := ⟨1, ![256]⟩
abbrev SCol1 : Shape := ⟨2, ![256, 1]⟩
abbrev SX : Shape := ⟨2, ![256, 1024]⟩
abbrev SB : Shape := ⟨2, ![256, 256]⟩
abbrev SHf : Shape := ⟨2, ![256, 128]⟩
abbrev SWu : Shape := ⟨3, ![1, 1024, 2816]⟩
abbrev SWu1 : Shape := ⟨3, ![1, 1024, 256]⟩
abbrev SWu2 : Shape := ⟨2, ![1024, 256]⟩
abbrev SWd : Shape := ⟨3, ![1, 2816, 1024]⟩
abbrev SWd1 : Shape := ⟨3, ![1, 256, 1024]⟩
abbrev SCw : Shape := ⟨2, ![4, 2816]⟩
abbrev SCw1 : Shape := ⟨2, ![4, 256]⟩
abbrev SRow : Shape := ⟨2, ![1, 256]⟩
abbrev SC1 : Shape := ⟨3, ![1, 8, 128]⟩
abbrev SC2 : Shape := ⟨2, ![8, 128]⟩
abbrev SL2 : Shape := ⟨2, ![8, 256]⟩
abbrev SL1 : Shape := ⟨3, ![1, 8, 256]⟩

/-- The projection of a tile on a block of 256 columns: [256,1024] by [1024,256]. -/
def dotUp : DotDims SX SWu2 SB where
  lhsContracting := [1]
  rhsContracting := [0]
  lhsNonContracting := [0]
  rhsNonContracting := [1]
  lhsBatch := []
  rhsBatch := []
  wf := by decide

/-- The down projection of a block: [256,256] by [256,1024]. -/
def dotDown : DotDims SB SX SX where
  lhsContracting := [1]
  rhsContracting := [0]
  lhsNonContracting := [0]
  rhsNonContracting := [1]
  lhsBatch := []
  rhsBatch := []
  wf := by decide

theorem inbUp (j : Fin 11) : ∀ a, (![0, 0, 256 * j.val] : Fin 3 → ℕ) a + (![1, 1024, 256] : Fin 3 → ℕ) a ≤ SWu.size a := by
  intro a; have := j.isLt; fin_cases a <;> simp <;> omega
theorem inbDown (j : Fin 11) : ∀ a, (![0, 256 * j.val, 0] : Fin 3 → ℕ) a + (![1, 256, 1024] : Fin 3 → ℕ) a ≤ SWd.size a := by
  intro a; have := j.isLt; fin_cases a <;> simp <;> omega
theorem inbCw (j : Fin 11) : ∀ a, (![0, 256 * j.val] : Fin 2 → ℕ) a + (![4, 256] : Fin 2 → ℕ) a ≤ SCw.size a := by
  intro a; have := j.isLt; fin_cases a <;> simp <;> omega
theorem inbCarry (j : Fin 11) (s : Fin 2) :
    ∀ a, (![j.val, 0, 128 * s.val] : Fin 3 → ℕ) a + (![1, 8, 128] : Fin 3 → ℕ) a ≤ SCarry.size a := by
  intro a; have := j.isLt; have := s.isLt; fin_cases a <;> simp <;> omega
theorem inbHalf (s : Fin 2) : SB.Slices ![0, 128 * s.val] SHf := by fin_cases s <;> decide

theorem inbRow (k : Fin 4) : SCw1.Slices ![k.val, 0] SRow := by fin_cases k <;> decide

variable {F : FTy → Type} [FloatOps F]

/-- Each row divided by its root mean square (the regularised one), then scaled column by column. -/
def normV (x : FVec F SX .f32) (g : FVec F SRw .f32) : FVec F SX .f32 :=
  mulf (mulf x (broadcastTo SX (rsqrt (addf (divf (shapeCast SCol1
    (multiReduction .add [1] SCol (mulf x x) 0x00000000#32 (by decide) (.inl rfl) rfl) (by decide))
    (broadcast SCol1 (Scalar.ofBits .f32 0x44800000#32))) (broadcast SCol1 (Scalar.ofBits .f32 0x358637BD#32)))) (by decide)))
    (broadcastTo SX g (by decide))

/-- The modulated activations of a tile. -/
def hV (x : FVec F SX .f32) (g : FVec F SRw .f32) (sc sh : FVec F SVc .f32) : FVec F SX .bf16 :=
  truncf .bf16 (addf (mulf (normV x g) (broadcastTo SX (addf (broadcast SRw (Scalar.ofBits .f32 0x3F800000#32)) (shapeCast SRw sc (by decide))) (by decide)))
    (broadcastTo SX (shapeCast SRw sh (by decide)) (by decide))) (by decide)

/-- The gated residual sum. -/
def resV (x : FVec F SX .f32) (gate : FVec F SVc .f32) (a : FVec F SX .f32) : FVec F SX .f32 :=
  addf x (mulf (broadcastTo SX (shapeCast SRw gate (by decide)) (by decide)) a)

/-- The tile's projection on column block `j`. -/
def upV (h : FVec F SX .bf16) (w : SWu.Idx → Elt F .bf16) (j : Fin 11) : FVec F SB .f32 :=
  matmul dotUp none h (shapeCast SWu2 (View.ld (Val := Elt F) w (Rect.unit (s := SWu) ![0, 0, 256 * j.val] ![1, 1024, 256] (inbUp j)) : SWu1.Idx → Elt F .bf16) (by decide : SWu1.ShapeCasts SWu2))
    (constant SB .f32 0x00000000#32)

/-- Half `s` of the carried rows of column block `j`. -/
def haloV (xs : SCarry.Idx → Elt F .f32) (j : Fin 11) (s : Fin 2) : SHalo.Idx → Elt F .f32 :=
  shapeCast SHalo (shapeCast SC2 (View.ld (Val := Elt F) xs (Rect.unit (s := SCarry) ![j.val, 0, 128 * s.val] ![1, 8, 128] (inbCarry j s)) : SC1.Idx → Elt F .f32) (by decide : SC1.ShapeCasts SC2)) (by decide)

/-- Half `s` of the tile's own rows. -/
def mainV (g : FVec F SB .f32) (s : Fin 2) : SMain.Idx → Elt F .f32 :=
  shapeCast SMain (extractStridedSlice SHf ![0, 128 * s.val] g (inbHalf s)) (by decide)

/-- Two halves side by side. -/
def cat (a b : SMain.Idx → Elt F .f32) : FVec F SB .f32 :=
  concatenate SB 1 [⟨SHf, shapeCast SHf a (by decide)⟩, ⟨SHf, shapeCast SHf b (by decide)⟩] (by decide : Shape.Concatenates [SHf, SHf] SB 1)

/-- What the kernel writes side by side is `cat`. -/
theorem fold_cat (a b : SMain.Idx → F .f32) (h1 h2 : SMain.ShapeCasts SHf) (h3 : Shape.Concatenates [SHf, SHf] SB 1) :
    concatenate (α := F .f32) SB 1 [⟨SHf, shapeCast (α := F .f32) SHf a h1⟩, ⟨SHf, shapeCast (α := F .f32) SHf b h2⟩] h3 = cat a b := rfl

/-- The gate projection `8 - o` rows back. -/
def backV (o : ℕ) (g : FVec F SB .f32) (xs : SCarry.Idx → Elt F .f32) (j : Fin 11) : FVec F SB .f32 :=
  cat (back o (haloV xs j 0) (mainV g 0)) (back o (haloV xs j 1) (mainV g 1))

/-- Row `k` of the convolution's four, on every row of the tile. -/
def tapV (cw : SCw.Idx → Elt F .f32) (j : Fin 11) (k : Fin 4) : FVec F SB .f32 :=
  broadcastTo SB (extractStridedSlice (s := SCw1) SRow ![k.val, 0]
    (View.ld (Val := Elt F) cw (Rect.unit (s := SCw) ![0, 256 * j.val] ![4, 256] (inbCw j)) : FVec F SCw1 .f32)
    (inbRow k)) (by decide)

/-- The causal convolution of the gate projection. -/
def convV (g : FVec F SB .f32) (cw : SCw.Idx → Elt F .f32) (xs : SCarry.Idx → Elt F .f32) (j : Fin 11) : FVec F SB .f32 :=
  addf (addf (addf (mulf (tapV cw j 0) (backV 6 g xs j)) (mulf (tapV cw j 1) (backV 7 g xs j))) (mulf (tapV cw j 2) g)) (tapV cw j 3)

abbrev halfV : FVec F SB .f32 := broadcast SB (Scalar.ofBits .f32 0x3F000000#32)

/-- `x ↦ x · (½ tanh(½x) + ½)`, the activation. -/
def siluV (v : FVec F SB .f32) : FVec F SB .f32 := mulf v (addf (mulf halfV (tanh (mulf halfV v))) halfV)

/-- Column block `j`'s part of the down projection. -/
def downV (h : FVec F SX .bf16) (wg wu : SWu.Idx → Elt F .bf16) (cw : SCw.Idx → Elt F .f32) (wd : SWd.Idx → Elt F .bf16)
    (xs : SCarry.Idx → Elt F .f32) (j : Fin 11) : FVec F SX .f32 :=
  matmul dotDown none (truncf .bf16 (mulf (siluV (convV (upV h wg j) cw xs j)) (upV h wu j)) (by decide))
    (shapeCast SX (View.ld (Val := Elt F) wd (Rect.unit (s := SWd) ![0, 256 * j.val, 0] ![1, 256, 1024] (inbDown j)) : SWd1.Idx → Elt F .bf16) (by decide : SWd1.ShapeCasts SX))
    (constant SX .f32 0x00000000#32)

/-- The down projection, accumulated over the eleven blocks. -/
def accV (h : FVec F SX .bf16) (wg wu : SWu.Idx → Elt F .bf16) (cw : SCw.Idx → Elt F .f32) (wd : SWd.Idx → Elt F .bf16)
    (xs : SCarry.Idx → Elt F .f32) : FVec F SX .f32 :=
  addf (addf (addf (addf (addf (addf (addf (addf (addf (addf (downV h wg wu cw wd xs 0) (downV h wg wu cw wd xs 1))
    (downV h wg wu cw wd xs 2)) (downV h wg wu cw wd xs 3)) (downV h wg wu cw wd xs 4)) (downV h wg wu cw wd xs 5))
    (downV h wg wu cw wd xs 6)) (downV h wg wu cw wd xs 7)) (downV h wg wu cw wd xs 8)) (downV h wg wu cw wd xs 9))
    (downV h wg wu cw wd xs 10)

/-- The tile's last eight rows of the gate projection's block `j`: what is carried to the next tile. -/
def lastV (h : FVec F SX .bf16) (wg : SWu.Idx → Elt F .bf16) (j : Fin 11) : SL1.Idx → Elt F .f32 :=
  shapeCast SL1 (extractStridedSlice SL2 ![248, 0] (upV h wg j) (by decide)) (by decide)

end Cert.Ffn

end
-- ==== Proof.Block1.lean ====
/-
  ONE GRID POINT OF THE LAST FEED-FORWARD KERNEL: the terms its run found, opened into the tile of Tile.lean. At the
  first tile of a sequence (case A) the carried rows are zero; at the others (case B) they are what the tile before left.
-/
module

public import proofs.«01_k».proof.Proof.Gen.KernelIdeal.Value
public import proofs.«01_k».proof.Proof.Tile
public import Idealize.ShloMosaic.Lib.Pointwise
public import Idealize.ShloMosaic.Lib.Pointwise.Tactic

@[expose] public section
set_option maxRecDepth 16384
noncomputable section
namespace Cert.KernelIdeal.Blk
open Cert.KernelIdeal Cert.KernelIdeal.Gen Idealize.ShloMosaic Idealize.ShloMosaic.TcCoe Idealize.SL.Sem Idealize.ShloMosaic.Tactic
variable {F : FTy → Type} [FloatOps F]
theorem stepEq {α : Type} (f : α → α) (p : α → α → α) (d acc acc' : α) (h : acc = acc') (hf : ∀ a, f a = p a d) : f acc = p acc' d := by
  rw [h, hf]
theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x2816 .bf16) (harg6 : arg6.IsWhole) (arg7 : Memref sig .tc .vmem S1x1024x2816 .bf16) (harg7 : arg7.IsWhole) (arg8 : Memref sig .tc .vmem S4x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S11x2x264x128 .f32) (harg12 : arg12.IsWhole) (arg13 : Memref sig .tc .vmem S11x8x256 .f32) (harg13 : arg13.IsWhole) (arg14 : Memref sig .tc .vmem S256x1024 .f32) (harg14 : arg14.IsWhole) (arg15 : Memref sig .tc .vmem S256x1024 .bf16) (harg15 : arg15.IsWhole) (hc0 : ¬cond0_0 i)
    (x0 : Vec F S256x1024 .f32) (x1 : Vec F S1x1024 .f32) (x2 : Vec F S1x1x1024 .f32) (x3 : Vec F S1x1x1024 .f32) (x4 : Vec F S1x1x1024 .f32) (x5 : Vec F S1x1024x2816 .bf16) (x6 : Vec F S1x1024x2816 .bf16) (x7 : Vec F S4x2816 .f32) (x8 : Vec F S1x2816x1024 .bf16) (x9 : Vec F S1x1024 .f32) (xs1 : Vec F S11x8x256 .f32)

set_option maxHeartbeats 1000000 in
/-- What the tile writes out: the normalised residual sum over the accumulated down projection. -/
theorem out_B : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs1
    = k0_pay1 (k0_pay130 (k0_pay2 x0) x4 (Ffn.accV (k0_pay7 (k0_pay4 x3) (k0_pay5 x0 x1) (k0_pay6 x2)) x5 x6 x7 x8 xs1)) (k0_pay131 (k0_pay2 x0) x4 (Ffn.accV (k0_pay7 (k0_pay4 x3) (k0_pay5 x0 x1) (k0_pay6 x2)) x5 x6 x7 x8 xs1)) x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs1)]
  unfold kernelRun0_B
  dsimp only
  sl_unfold_words
  simp (disch := decide) only [↓ Ffn.fold_cat, ↓ View.readCov_unit_zero (S := S256x1024) _ hz2, ↓ View.readCov_cons_toLoadRect, ↓ Ffn.read_back, ↓ Ffn.skip_half, ↓ Ffn.skip_carry, ↓ Ffn.read_carry,
    View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S256x1024) hz2, View.ld_unit_zero (S := S1x1024) hz2, View.ld_unit_zero (S := S1x1x1024) hz3, View.canon_unit_zero (S := S256x1024) hz2]
  generalize k0_pay7 (k0_pay4 x3) (k0_pay5 x0 x1) (k0_pay6 x2) = h
  have key : ∀ a a' : FVec F S256x1024 .f32, a = a' → k0_pay1 (k0_pay130 (k0_pay2 x0) x4 a) (k0_pay131 (k0_pay2 x0) x4 a) x9 = k0_pay1 (k0_pay130 (k0_pay2 x0) x4 a') (k0_pay131 (k0_pay2 x0) x4 a') x9 := by rintro a _ rfl; rfl
  refine key _ _ ?_
  have h89 : ∀ a : FVec F S256x1024 .f32, k0_pay89 a = a := fun a => by unfold k0_pay89; rw [shapeCast_self]
  simp only [h89]
  unfold Ffn.accV
  iterate 10
    refine stepEq _ addf _ _ _ ?_ (fun a => ?_)
    rotate_left
    · unfold_payloads
      simp only [Ffn.downV, Ffn.siluV, Ffn.convV, Ffn.tapV, shapeCast_self]
      rfl
  unfold_payloads
  simp only [Ffn.downV, Ffn.siluV, Ffn.convV, Ffn.tapV, shapeCast_self]
  rfl
/-- What the tile leaves carried: the last eight rows of each column block of its gate projection. -/
theorem sout_B (j : Fin 11) (r : Fin 8) (l : Fin 256) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs1 (ix3 j r l) = Ffn.lastV (k0_pay7 (k0_pay4 x3) (k0_pay5 x0 x1) (k0_pay6 x2)) x5 j (ix3 0 r l) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs1)]
  unfold kernelRun0_B
  dsimp only
  sl_unfold_words
  simp (disch := decide) only [↓ View.readCov_unit_zero (S := S256x1024) _ hz2, ↓ View.readCov_cons_toLoadRect,
    View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S256x1024) hz2, View.ld_unit_zero (S := S1x1024) hz2, View.ld_unit_zero (S := S1x1x1024) hz3]
  generalize k0_pay7 (k0_pay4 x3) (k0_pay5 x0 x1) (k0_pay6 x2) = h
  obtain ⟨j, hj⟩ := j
  interval_cases j <;>
    simp (disch := decide) only [Ffn.carry_hit, Ffn.carry_miss] <;> unfold_payloads <;> rfl

end

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x2816 .bf16) (harg6 : arg6.IsWhole) (arg7 : Memref sig .tc .vmem S1x1024x2816 .bf16) (harg7 : arg7.IsWhole) (arg8 : Memref sig .tc .vmem S4x2816 .f32) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S11x2x264x128 .f32) (harg12 : arg12.IsWhole) (arg13 : Memref sig .tc .vmem S11x8x256 .f32) (harg13 : arg13.IsWhole) (arg14 : Memref sig .tc .vmem S256x1024 .f32) (harg14 : arg14.IsWhole) (arg15 : Memref sig .tc .vmem S256x1024 .bf16) (harg15 : arg15.IsWhole) (hc0 : cond0_0 i)
    (x0 : Vec F S256x1024 .f32) (x1 : Vec F S1x1024 .f32) (x2 : Vec F S1x1x1024 .f32) (x3 : Vec F S1x1x1024 .f32) (x4 : Vec F S1x1x1024 .f32) (x5 : Vec F S1x1024x2816 .bf16) (x6 : Vec F S1x1024x2816 .bf16) (x7 : Vec F S4x2816 .f32) (x8 : Vec F S1x2816x1024 .bf16) (x9 : Vec F S1x1024 .f32)

set_option maxHeartbeats 1000000 in
/-- What the tile writes out: the normalised residual sum over the accumulated down projection, nothing carried. -/
theorem out_A : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = k0_pay1 (k0_pay130 (k0_pay2 x0) x4 (Ffn.accV (k0_pay7 (k0_pay4 x3) (k0_pay5 x0 x1) (k0_pay6 x2)) x5 x6 x7 x8 (k0_pay3 (F := F)))) (k0_pay131 (k0_pay2 x0) x4 (Ffn.accV (k0_pay7 (k0_pay4 x3) (k0_pay5 x0 x1) (k0_pay6 x2)) x5 x6 x7 x8 (k0_pay3 (F := F)))) x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := decide) only [↓ Ffn.fold_cat, ↓ View.readCov_unit_zero (S := S256x1024) _ hz2, ↓ View.readCov_cons_toLoadRect, ↓ Ffn.read_back, ↓ Ffn.skip_half, ↓ Ffn.skip_carry, ↓ Ffn.read_carry,
    View.readAt_eq_ld, harg1.read_unread, harg2.read_unread, harg3.read_unread, harg4.read_unread, harg5.read_unread, harg6.read_unread, harg7.read_unread, harg8.read_unread, harg9.read_unread, harg10.read_unread,
    View.ld_unit_zero (S := S256x1024) hz2, View.ld_unit_zero (S := S1x1024) hz2, View.ld_unit_zero (S := S1x1x1024) hz3, View.canon_unit_zero (S := S256x1024) hz2]
  generalize k0_pay7 (k0_pay4 x3) (k0_pay5 x0 x1) (k0_pay6 x2) = h
  have key : ∀ a a' : FVec F S256x1024 .f32, a = a' → k0_pay1 (k0_pay130 (k0_pay2 x0) x4 a) (k0_pay131 (k0_pay2 x0) x4 a) x9 = k0_pay1 (k0_pay130 (k0_pay2 x0) x4 a') (k0_pay131 (k0_pay2 x0) x4 a') x9 := by rintro a _ rfl; rfl
  refine key _ _ ?_
  have h89 : ∀ a : FVec F S256x1024 .f32, k0_pay89 a = a := fun a => by unfold k0_pay89; rw [shapeCast_self]
  simp only [h89]
  unfold Ffn.accV
  iterate 10
    refine stepEq _ addf _ _ _ ?_ (fun a => ?_)
    rotate_left
    · unfold_payloads
      simp only [Ffn.downV, Ffn.siluV, Ffn.convV, Ffn.tapV, shapeCast_self]
      rfl
  unfold_payloads
  simp only [Ffn.downV, Ffn.siluV, Ffn.convV, Ffn.tapV, shapeCast_self]
  rfl
/-- What the tile leaves carried: the last eight rows of each column block of its gate projection. -/
theorem sout_A (j : Fin 11) (r : Fin 8) (l : Fin 256) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix3 j r l) = Ffn.lastV (k0_pay7 (k0_pay4 x3) (k0_pay5 x0 x1) (k0_pay6 x2)) x5 j (ix3 0 r l) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := decide) only [↓ View.readCov_unit_zero (S := S256x1024) _ hz2, ↓ View.readCov_cons_toLoadRect,
    View.readAt_eq_ld, harg1.read_unread, harg2.read_unread, harg3.read_unread, harg4.read_unread, harg5.read_unread, harg6.read_unread, harg7.read_unread, harg8.read_unread, harg9.read_unread, harg10.read_unread,
    View.ld_unit_zero (S := S256x1024) hz2, View.ld_unit_zero (S := S1x1024) hz2, View.ld_unit_zero (S := S1x1x1024) hz3]
  generalize k0_pay7 (k0_pay4 x3) (k0_pay5 x0 x1) (k0_pay6 x2) = h
  obtain ⟨j, hj⟩ := j
  interval_cases j <;>
    simp (disch := decide) only [Ffn.carry_hit, Ffn.carry_miss] <;> unfold_payloads <;> rfl

end

end Cert.KernelIdeal.Blk
end
-- ==== Proof.Spec.lean ====
/-
  THE LAYER'S MATHEMATICS over the extended reals: the root-mean-square normalisation of a row, the causal convolution
  of the gate projection over the rows of one batch element, the activation, and the down projection. Rows of all eight
  batch elements are numbered one after the other, 4096 to an element.
-/
module

public import Idealize.ShloMosaic.PureOps.Ideal

@[expose] public section

noncomputable section

namespace Cert.Ffn

open Idealize.ShloMosaic

/-- A row divided by its root mean square. -/
def rmsn (x : Fin 1024 → EReal) (k : Fin 1024) : EReal :=
  x k * Ideal.rsqrt (Ideal.div (∑ l, x l * x l) (Ideal.ofBits .f32 0x44800000#32) + Ideal.ofBits .f32 0x358637BD#32)

/-- The activation as the kernel writes it. -/
def siluT (c : EReal) : EReal :=
  c * (Ideal.ofBits .f32 0x3F000000#32 * Ideal.tanh (Ideal.ofBits .f32 0x3F000000#32 * c) + Ideal.ofBits .f32 0x3F000000#32)

/-- The activation as the reference writes it. -/
def siluL (c : EReal) : EReal := c * Ideal.logistic c

theorem half_eq : Ideal.ofBits .f32 0x3F000000#32 = ((1 / 2 : ℝ) : EReal) := by
  simp [Ideal.ofBits, Ideal.ieee, -EReal.coe_mul]; norm_num

/-- `½ tanh(½x) + ½` is the logistic function. -/
theorem tanh_logistic (r : ℝ) : (1 / 2 : ℝ) * Real.tanh (1 / 2 * r) + 1 / 2 = (1 + Real.exp (-r))⁻¹ := by
  have h1 : Real.exp (1 / 2 * r) ≠ 0 := (Real.exp_pos _).ne'
  have h2 : Real.exp (-r) = Real.exp (-(1 / 2 * r)) * Real.exp (-(1 / 2 * r)) := by rw [← Real.exp_add]; ring_nf
  have hp := Real.exp_pos (1 / 2 * r)
  rw [Real.tanh_eq_sinh_div_cosh, Real.sinh_eq, Real.cosh_eq, h2, Real.exp_neg]
  have : Real.exp (1 / 2 * r) + (Real.exp (1 / 2 * r))⁻¹ ≠ 0 := by positivity
  have : 1 + (Real.exp (1 / 2 * r))⁻¹ * (Real.exp (1 / 2 * r))⁻¹ ≠ 0 := by positivity
  field_simp
  ring

/-- The two forms of the activation are one function, at the infinities too. -/
theorem siluT_eq (c : EReal) : siluT c = siluL c := by
  unfold siluT siluL
  congr 1
  rw [half_eq]
  induction c with
  | bot =>
    rw [EReal.coe_mul_bot_of_pos (by norm_num : (0:ℝ) < 1 / 2), Ideal.logistic_bot, Ideal.tanh_bot, mul_neg, mul_one, ← EReal.coe_neg, ← EReal.coe_add]
    norm_num
  | top =>
    rw [EReal.coe_mul_top_of_pos (by norm_num : (0:ℝ) < 1 / 2), Ideal.logistic_top, Ideal.tanh_top, mul_one, ← EReal.coe_add]
    norm_num
  | coe r =>
    rw [Ideal.logistic_coe, ← EReal.coe_mul, Ideal.tanh_coe, ← EReal.coe_mul, ← EReal.coe_add, tanh_logistic]

/-- A sum over 2816 columns is the sum over its eleven blocks of 256. -/
theorem sum_blocks (f : Fin 2816 → EReal) :
    ∑ j : Fin 11, ∑ l : Fin 256, f ⟨256 * j.val + l.val, by omega⟩ = ∑ n, f n := by
  rw [← Fintype.sum_prod_type' (f := fun (j : Fin 11) (l : Fin 256) => f ⟨256 * j.val + l.val, by omega⟩)]
  refine Fintype.sum_equiv (finProdFinEquiv (m := 11) (n := 256)) _ _ fun p => ?_
  congr 1
  apply Fin.ext
  show 256 * p.1.val + p.2.val = p.2.val + 256 * p.1.val
  omega

/-- The batch element of global row `R`, and the row within it. -/
def bOf (R : ℕ) : Fin 8 := ⟨R / 4096 % 8, Nat.mod_lt _ (by omega)⟩
def rOf (R : ℕ) : Fin 4096 := ⟨R % 4096, Nat.mod_lt _ (by omega)⟩

/-- The modulated activations: each row normalised, scaled by the norm's weights, and modulated per batch element. -/
def hid (x : ℕ → Fin 1024 → EReal) (g : Fin 1024 → EReal) (sc sh : Fin 8 → Fin 1024 → EReal) (R : ℕ) (k : Fin 1024) : EReal :=
  rmsn (x R) k * g k * (1 + sc (bOf R) k) + sh (bOf R) k

/-- The gated residual sum. -/
def res (x : ℕ → Fin 1024 → EReal) (gate : Fin 8 → Fin 1024 → EReal) (a : ℕ → Fin 1024 → EReal) (R : ℕ) (k : Fin 1024) : EReal :=
  x R k + gate (bOf R) k * a R k

/-- The four rows of the convolution: its three taps, then the bias. -/
def taps (w : Fin 3 → Fin 2816 → EReal) (b : Fin 2816 → EReal) (a : Fin 4) (n : Fin 2816) : EReal :=
  if h : a.val < 3 then w ⟨a.val, h⟩ n else b n

section Rows

variable (H : ℕ → Fin 1024 → EReal) (wg wu : Fin 1024 → Fin 2816 → EReal) (cw : Fin 4 → Fin 2816 → EReal)
  (wd : Fin 2816 → Fin 1024 → EReal)

/-- A row's projection on column `n`. -/
def proj (w : Fin 1024 → Fin 2816 → EReal) (R : ℕ) (n : Fin 2816) : EReal := ∑ k, H R k * w k n

/-- The gate projection `d` rows back within the batch element: zero before the first row. -/
def prev (d R : ℕ) (n : Fin 2816) : EReal := if d ≤ R % 4096 then proj H wg (R - d) n else 0

/-- The causal convolution of the gate projection. -/
def conv (R : ℕ) (n : Fin 2816) : EReal :=
  cw 0 n * prev H wg 2 R n + cw 1 n * prev H wg 1 R n + cw 2 n * proj H wg R n + cw 3 n

/-- The gated feed-forward of row `R`, at column `c`. -/
def ffn (R : ℕ) (c : Fin 1024) : EReal := ∑ n, siluL (conv H wg cw R n) * proj H wu R n * wd n c

end Rows

end Cert.Ffn

end
-- ==== Proof.TileIdeal.lean ====
/-
  THE TILE AT AN INDEX over the extended reals, and what a tile computes: where its rows are rows `256 t …` of a global
  sequence of activations and the carried rows are the gate projection of the eight rows above (zero at a batch element's
  first tile), the accumulated down projection is the feed-forward of those rows and the rows carried on are right.
-/
module
public import proofs.«01_k».proof.Proof.Tile
public import proofs.«01_k».proof.Proof.Spec
public import Idealize.ShloMosaic.Lib.Pointwise
public import Idealize.ShloMosaic.Lib.Pointwise.Tactic
public import Idealize.ShloMosaic.Lib.MatmulPlain
public import Idealize.ShloMosaic.Lib.Pipeline.ValueKit
@[expose] public section
noncomputable section
namespace Cert.Ffn
open Idealize.ShloMosaic Idealize.SL.Sem Idealize.ShloMosaic.Tactic

/-- One spelling of a rank-two index is the other. -/
theorem vix2 {m n : ℕ} (a : Fin m) (b : Fin n) : ValueIdx.ix2 a b = ix2 a b := by
  funext x; match x with
    | ⟨0, _⟩ => rfl
    | ⟨1, _⟩ => rfl

theorem cast_up (z : SWu1.Idx → Elt Ideal .bf16) (h) (k : Fin 1024) (c : Fin 256) :
    (shapeCast SWu2 z h : SWu2.Idx → Elt Ideal .bf16) (ix2 k c) = z (ix3 0 k c) := by
  pointwise
theorem cast_down (z : SWd1.Idx → Elt Ideal .bf16) (h) (k : Fin 256) (c : Fin 1024) :
    (shapeCast SX z h : SX.Idx → Elt Ideal .bf16) (ix2 k c) = z (ix3 0 k c) := by
  pointwise
theorem ld_up (w : SWu.Idx → Elt Ideal .bf16) (j : Fin 11) (k : Fin 1024) (c : Fin 256) :
    (View.ld (Val := Elt Ideal) w (Rect.unit (s := SWu) ![0, 0, 256 * j.val] ![1, 1024, 256] (inbUp j)) : SWu1.Idx → Elt Ideal .bf16) (ix3 0 k c)
    = w (ix3 0 k ⟨256 * j.val + c.val, by omega⟩) := by
  refine View.ld_unit_apply_of w _ _ _ _ _ fun a => ?_
  fin_cases a <;> simp <;> rfl
theorem ld_down (w : SWd.Idx → Elt Ideal .bf16) (j : Fin 11) (k : Fin 256) (c : Fin 1024) :
    (View.ld (Val := Elt Ideal) w (Rect.unit (s := SWd) ![0, 256 * j.val, 0] ![1, 256, 1024] (inbDown j)) : SWd1.Idx → Elt Ideal .bf16) (ix3 0 k c)
    = w (ix3 0 ⟨256 * j.val + k.val, by omega⟩ c) := by
  refine View.ld_unit_apply_of w _ _ _ _ _ fun a => ?_
  fin_cases a <;> simp <;> rfl
theorem ld_cw (w : SCw.Idx → Elt Ideal .f32) (j : Fin 11) (k : Fin 4) (c : Fin 256) :
    (View.ld (Val := Elt Ideal) w (Rect.unit (s := SCw) ![0, 256 * j.val] ![4, 256] (inbCw j)) : SCw1.Idx → Elt Ideal .f32) (ix2 k c)
    = w (ix2 k ⟨256 * j.val + c.val, by omega⟩) := by
  refine View.ld_unit_apply_of w _ _ _ _ _ fun a => ?_
  fin_cases a <;> simp <;> rfl
theorem ld_carry (w : SCarry.Idx → Elt Ideal .f32) (j : Fin 11) (s : Fin 2) (i : Fin 8) (c : Fin 128) :
    (View.ld (Val := Elt Ideal) w (Rect.unit (s := SCarry) ![j.val, 0, 128 * s.val] ![1, 8, 128] (inbCarry j s)) : SC1.Idx → Elt Ideal .f32) (ix3 0 i c)
    = w (ix3 j i ⟨128 * s.val + c.val, by omega⟩) := by
  refine View.ld_unit_apply_of w _ _ _ _ _ fun a => ?_
  fin_cases a <;> simp <;> rfl

theorem upV_apply (h : FVec Ideal SX .bf16) (w : SWu.Idx → Elt Ideal .bf16) (j : Fin 11) (r : Fin 256) (c : Fin 256) :
    upV h w j (ix2 r c) = ∑ k : Fin 1024, h (ix2 r k) * w (ix3 0 k ⟨256 * j.val + c.val, by omega⟩) := by
  unfold upV
  refine (Ideal.matmul_plain_apply (M := 256) (K := 1024) (N := 256) none _ _ _ r c).trans ?_
  simp only [vix2]
  rw [show (constant SB FTy.f32 0x00000000#32 : FVec Ideal SB .f32) (ix2 r c) = 0 from by pointwise, zero_add]
  exact Finset.sum_congr rfl fun k _ => by rw [cast_up, ld_up]

theorem cast_halo (z : SC1.Idx → Elt Ideal .f32) (h1) (h2) (i : Fin 8) (c : Fin 128) :
    (shapeCast SHalo (shapeCast SC2 z h1 : SC2.Idx → Elt Ideal .f32) h2 : SHalo.Idx → Elt Ideal .f32) (ix4 0 0 i c) = z (ix3 0 i c) := by
  pointwise

theorem haloV_apply (xs : SCarry.Idx → Elt Ideal .f32) (j : Fin 11) (s : Fin 2) (i : Fin 8) (c : Fin 128) :
    haloV xs j s (ix4 0 0 i c) = xs (ix3 j i ⟨128 * s.val + c.val, by omega⟩) :=
  (cast_halo _ _ _ i c).trans (ld_carry xs j s i c)

theorem mainV_apply (g : FVec Ideal SB .f32) (s : Fin 2) (i : Fin 256) (c : Fin 128) :
    mainV g s (ix4 0 0 i c) = g (ix2 i ⟨128 * s.val + c.val, by omega⟩) := by
  unfold mainV
  fin_cases s <;> pointwise

theorem cat_apply (a b : SMain.Idx → Elt Ideal .f32) (r l : Fin 256) :
    cat a b (ix2 r l) = if h : l.val < 128 then a (ix4 0 0 r ⟨l.val, h⟩) else b (ix4 0 0 r ⟨l.val - 128, by omega⟩) := by
  unfold cat
  pointwise

theorem tapV_apply (cw : SCw.Idx → Elt Ideal .f32) (j : Fin 11) (k : Fin 4) (r l : Fin 256) :
    tapV cw j k (ix2 r l) = cw (ix2 k ⟨256 * j.val + l.val, by omega⟩) := by
  rw [← ld_cw cw]
  unfold tapV
  generalize (View.ld (Val := Elt Ideal) cw (Rect.unit (s := SCw) ![0, 256 * j.val] ![4, 256] (inbCw j)) : SCw1.Idx → Elt Ideal .f32) = z
  fin_cases k <;> pointwise

theorem lastV_apply (h : FVec Ideal SX .bf16) (w : SWu.Idx → Elt Ideal .bf16) (j : Fin 11) (r : Fin 8) (c : Fin 256) :
    lastV h w j (ix3 0 r c) = upV h w j (ix2 ⟨248 + r.val, by omega⟩ c) := by
  unfold lastV
  generalize upV h w j = z
  pointwise

theorem downV_apply (h : FVec Ideal SX .bf16) (wg wu : SWu.Idx → Elt Ideal .bf16) (cw : SCw.Idx → Elt Ideal .f32) (wd : SWd.Idx → Elt Ideal .bf16)
    (xs : SCarry.Idx → Elt Ideal .f32) (j : Fin 11) (r : Fin 256) (c : Fin 1024) :
    downV h wg wu cw wd xs j (ix2 r c) = ∑ l : Fin 256, (siluV (convV (upV h wg j) cw xs j)) (ix2 r l) * upV h wu j (ix2 r l) * wd (ix3 0 ⟨256 * j.val + l.val, by omega⟩ c) := by
  unfold downV
  refine (Ideal.matmul_plain_apply (M := 256) (K := 256) (N := 1024) none _ _ _ r c).trans ?_
  simp only [vix2]
  rw [show (constant SX FTy.f32 0x00000000#32 : FVec Ideal SX .f32) (ix2 r c) = 0 from by pointwise, zero_add]
  refine Finset.sum_congr rfl fun k _ => by rw [cast_down, ld_down]; rfl

theorem backV_apply (o : ℕ) (g : FVec Ideal SB .f32) (xs : SCarry.Idx → Elt Ideal .f32) (j : Fin 11) (r l : Fin 256) :
    backV o g xs j (ix2 r l) = if h : o + r.val < 8 then xs (ix3 j ⟨o + r.val, h⟩ l)
      else g (ix2 ⟨(o + r.val - 8) % 256, Nat.mod_lt _ (by omega)⟩ l) := by
  unfold backV
  rw [cat_apply]
  by_cases hl : l.val < 128
  · rw [dif_pos hl]
    show (if h : o + r.val < 8 then haloV xs j 0 (ix4 0 0 ⟨o + r.val, h⟩ ⟨l.val, hl⟩) else mainV g 0 (ix4 0 0 ⟨(o + r.val - 8) % 256, _⟩ ⟨l.val, hl⟩)) = _
    simp only [haloV_apply, mainV_apply]
    have e : ∀ h, (⟨128 * (0 : Fin 2).val + l.val, h⟩ : Fin 256) = l := fun h => Fin.ext (by simp)
    simp only [e]
  · rw [dif_neg hl]
    show (if h : o + r.val < 8 then haloV xs j 1 (ix4 0 0 ⟨o + r.val, h⟩ ⟨l.val - 128, _⟩) else mainV g 1 (ix4 0 0 ⟨(o + r.val - 8) % 256, _⟩ ⟨l.val - 128, _⟩)) = _
    simp only [haloV_apply, mainV_apply]
    have e : ∀ h, (⟨128 * (1 : Fin 2).val + (l.val - 128), h⟩ : Fin 256) = l := fun h => Fin.ext (by simp; omega)
    simp only [e]

theorem siluV_apply (v : FVec Ideal SB .f32) (r c : Fin 256) : siluV v (ix2 r c) = siluT (v (ix2 r c)) := by
  unfold siluV siluT
  pointwise

theorem convV_apply (g : FVec Ideal SB .f32) (cw : SCw.Idx → Elt Ideal .f32) (xs : SCarry.Idx → Elt Ideal .f32) (j : Fin 11) (r l : Fin 256) :
    convV g cw xs j (ix2 r l) = cw (ix2 0 ⟨256 * j.val + l.val, by omega⟩) * backV 6 g xs j (ix2 r l)
      + cw (ix2 1 ⟨256 * j.val + l.val, by omega⟩) * backV 7 g xs j (ix2 r l)
      + cw (ix2 2 ⟨256 * j.val + l.val, by omega⟩) * g (ix2 r l) + cw (ix2 3 ⟨256 * j.val + l.val, by omega⟩) := by
  rw [← tapV_apply cw j 0 r l, ← tapV_apply cw j 1 r l, ← tapV_apply cw j 2 r l, ← tapV_apply cw j 3 r l]
  rfl

theorem accV_apply (h : FVec Ideal SX .bf16) (wg wu : SWu.Idx → Elt Ideal .bf16) (cw : SCw.Idx → Elt Ideal .f32) (wd : SWd.Idx → Elt Ideal .bf16)
    (xs : SCarry.Idx → Elt Ideal .f32) (i : SX.Idx) :
    accV h wg wu cw wd xs i = ∑ j : Fin 11, downV h wg wu cw wd xs j i := by
  simp only [Fin.sum_univ_succ, Fin.sum_univ_zero, add_zero, ← add_assoc]
  rfl

theorem normV_apply (x : FVec Ideal SX .f32) (g : FVec Ideal SRw .f32) (r : Fin 256) (k : Fin 1024) :
    normV x g (ix2 r k) = rmsn (fun k => x (ix2 r k)) k * g (ix2 0 k) := by
  unfold normV rmsn
  pointwise

theorem hV_apply (x : FVec Ideal SX .f32) (g : FVec Ideal SRw .f32) (sc sh : FVec Ideal SVc .f32) (r : Fin 256) (k : Fin 1024) :
    hV x g sc sh (ix2 r k) = normV x g (ix2 r k) * (1 + sc (ix3 0 0 k)) + sh (ix3 0 0 k) := by
  unfold hV
  generalize normV x g = z
  pointwise

theorem resV_apply (x : FVec Ideal SX .f32) (sc : FVec Ideal SVc .f32) (z : FVec Ideal SX .f32) (r : Fin 256) (k : Fin 1024) :
    resV x sc z (ix2 r k) = x (ix2 r k) + sc (ix3 0 0 k) * z (ix2 r k) := by
  unfold resV
  pointwise

section Tile

variable (t : ℕ) (h : FVec Ideal SX .bf16) (wg wu : SWu.Idx → Elt Ideal .bf16) (cw : SCw.Idx → Elt Ideal .f32)
  (wd : SWd.Idx → Elt Ideal .bf16) (xs : SCarry.Idx → Elt Ideal .f32) (H : ℕ → Fin 1024 → EReal)
  (hh : ∀ (r : Fin 256) k, h (ix2 r k) = H (256 * t + r.val) k)

include hh in
theorem up_tile (w : SWu.Idx → Elt Ideal .bf16) (j : Fin 11) (r l : Fin 256) :
    upV h w j (ix2 r l) = proj H (fun k n => w (ix3 0 k n)) (256 * t + r.val) ⟨256 * j.val + l.val, by omega⟩ := by
  rw [upV_apply]
  exact Finset.sum_congr rfl fun k _ => by rw [hh]

include hh in
/-- The rows carried to the next tile are the gate projection of this tile's last eight. -/
theorem last_tile (j : Fin 11) (i : Fin 8) (l : Fin 256) :
    lastV h wg j (ix3 0 i l) = proj H (fun k n => wg (ix3 0 k n)) (256 * t + 248 + i.val) ⟨256 * j.val + l.val, by omega⟩ := by
  rw [lastV_apply, up_tile t h H hh]
  congr 1
  simp only []
  omega

variable (hx : ∀ (j : Fin 11) (i : Fin 8) (l : Fin 256), xs (ix3 j i l) =
    if t % 16 = 0 then 0 else proj H (fun k n => wg (ix3 0 k n)) (256 * t - 8 + i.val) ⟨256 * j.val + l.val, by omega⟩)

include hh hx in
theorem back_tile (d : ℕ) (hd : d ≤ 8) (j : Fin 11) (r l : Fin 256) :
    backV (8 - d) (upV h wg j) xs j (ix2 r l) = prev H (fun k n => wg (ix3 0 k n)) d (256 * t + r.val) ⟨256 * j.val + l.val, by omega⟩ := by
  rw [backV_apply]
  unfold prev
  have hr := r.isLt
  by_cases h8 : 8 - d + r.val < 8
  · rw [dif_pos h8, hx]
    by_cases h0 : t % 16 = 0
    · rw [if_pos h0, if_neg (by omega)]
    · rw [if_neg h0, if_pos (by omega)]
      congr 1
      simp only []
      omega
  · rw [dif_neg h8, up_tile t h H hh, if_pos (by omega)]
    congr 1
    simp only []
    omega

include hh hx in
/-- What the tile accumulates is the feed-forward of its rows. -/
theorem acc_tile (r : Fin 256) (c : Fin 1024) :
    accV h wg wu cw wd xs (ix2 r c) = ffn H (fun k n => wg (ix3 0 k n)) (fun k n => wu (ix3 0 k n)) (fun a n => cw (ix2 a n))
      (fun n k => wd (ix3 0 n k)) (256 * t + r.val) c := by
  rw [accV_apply]
  unfold ffn
  rw [← sum_blocks]
  refine Finset.sum_congr rfl fun j _ => ?_
  rw [downV_apply]
  refine Finset.sum_congr rfl fun l _ => ?_
  rw [siluV_apply, siluT_eq, convV_apply, up_tile t h H hh, up_tile t h H hh, back_tile t h wg xs H hh hx 2 (by omega),
    back_tile t h wg xs H hh hx 1 (by omega)]
  rfl

end Tile

end Cert.Ffn
end
-- ==== Proof.Blocks1.lean ====
/-
  THE LAST FEED-FORWARD KERNEL'S BLOCKS, over the extended reals: each window's block at a grid point, read from the
  program's arguments at the tile's global row numbers.
-/
module
public import proofs.«01_k».proof.Proof.Block1
public import proofs.«01_k».proof.Proof.TileIdeal
public import Idealize.ShloMosaic.Lib.Pipeline.ValueKit
@[expose] public section
set_option maxRecDepth 16384
noncomputable section
namespace Cert.KernelIdeal.Blk
open Cert.KernelIdeal Cert.KernelIdeal.Gen Idealize.ShloMosaic Idealize.ShloMosaic.TcCoe Idealize.SL.Sem Idealize.ShloMosaic.Tactic

section
variable {F : FTy → Type} [FloatOps F]
/-- The modulated activations, as the tile's. -/
theorem pay7_eq (x0 : Vec F S256x1024 .f32) (x1 : Vec F S1x1024 .f32) (x2 x3 : Vec F S1x1x1024 .f32) :
    k0_pay7 (k0_pay4 x3) (k0_pay5 x0 x1) (k0_pay6 x2) = Ffn.hV x0 x1 x2 x3 := by
  unfold_payloads
  simp only [shapeCast_self]
  rfl
/-- What is written out, as the tile's. -/
theorem pay1_eq (x0 : Vec F S256x1024 .f32) (x4 : Vec F S1x1x1024 .f32) (a : Vec F S256x1024 .f32) (x9 : Vec F S1x1024 .f32) :
    k0_pay1 (k0_pay130 (k0_pay2 x0) x4 a) (k0_pay131 (k0_pay2 x0) x4 a) x9 = Ffn.normV (Ffn.resV x0 x4 a) x9 := by
  unfold_payloads
  simp only [shapeCast_self]
  rfl
end

theorem pay3_apply (i : S11x8x256.Idx) : k0_pay3 (F := Ideal) i = 0 := by
  unfold_payloads
  simp only [shapeCast_self]
  pointwise

/-- Where each window's block starts, at each grid point. -/
theorem idx : ∀ t : Fin cfg0.N, t.val < 128 ∧ win0_0.index t 0 = t.val ∧ win0_0.index t 1 = 0 ∧ win0_1.index t 0 = 0 ∧ win0_1.index t 1 = 0
    ∧ win0_2.index t 0 = t.val / 16 ∧ win0_2.index t 1 = 0 ∧ win0_2.index t 2 = 0
    ∧ win0_3.index t 0 = t.val / 16 ∧ win0_3.index t 1 = 0 ∧ win0_3.index t 2 = 0
    ∧ win0_4.index t 0 = t.val / 16 ∧ win0_4.index t 1 = 0 ∧ win0_4.index t 2 = 0
    ∧ win0_5.index t 0 = 1 ∧ win0_5.index t 1 = 0 ∧ win0_5.index t 2 = 0
    ∧ win0_6.index t 0 = 1 ∧ win0_6.index t 1 = 0 ∧ win0_6.index t 2 = 0
    ∧ win0_7.index t 0 = 0 ∧ win0_7.index t 1 = 0
    ∧ win0_8.index t 0 = 1 ∧ win0_8.index t 1 = 0 ∧ win0_8.index t 2 = 0
    ∧ win0_9.index t 0 = 0 ∧ win0_9.index t 1 = 0
    ∧ win0_10.index t 0 = t.val ∧ win0_10.index t 1 = 0 :=
  (by decide +kernel : ∀ t : Fin grid0.N, _)

variable (m : (ℓ : Loc nD τ sig) → Buf (Elt Ideal) ℓ) (c : Dev nD)

/-- The arguments as functions of coordinates. -/
def aX (R : ℕ) (k : Fin 1024) : EReal := m ((c : Thread nD τ).loc main_arg0) (ix3 (Ffn.bOf R) (Ffn.rOf R) k)
def aG (k : Fin 1024) : EReal := m ((c : Thread nD τ).loc main_arg1) (ix3 1 1 k)
def aSh (b : Fin 8) (k : Fin 1024) : EReal := m ((c : Thread nD τ).loc main_arg2) (ix2 b k)
def aSc (b : Fin 8) (k : Fin 1024) : EReal := m ((c : Thread nD τ).loc main_arg3) (ix2 b k)
def aGt (b : Fin 8) (k : Fin 1024) : EReal := m ((c : Thread nD τ).loc main_arg4) (ix2 b k)
def aWu (k : Fin 1024) (n : Fin 2816) : EReal := m ((c : Thread nD τ).loc main_arg5) (ix3 1 k n)
def aWg (k : Fin 1024) (n : Fin 2816) : EReal := m ((c : Thread nD τ).loc main_arg6) (ix3 1 k n)
def aCw (a : Fin 3) (n : Fin 2816) : EReal := m ((c : Thread nD τ).loc main_arg7) (ix3 1 a n)
def aCb (n : Fin 2816) : EReal := m ((c : Thread nD τ).loc main_arg8) (ix2 1 n)
def aWd (n : Fin 2816) (k : Fin 1024) : EReal := m ((c : Thread nD τ).loc main_arg9) (ix3 1 n k)
def aF (k : Fin 1024) : EReal := m ((c : Thread nD τ).loc main_arg10) (ix1 k)

theorem blk0 (t : Fin cfg0.N) (r : Fin 256) (k : Fin 1024) : iblk m c 0 t (ix2 r k) = aX m c (256 * t.val + r.val) k := by
  unfold aX Ffn.bOf Ffn.rOf
  blk_ext! [iblk, V, idx t]
theorem blk1 (t : Fin cfg0.N) (k : Fin 1024) : iblk m c 1 t (ix2 0 k) = aG m c k := by
  unfold aG
  blk_ext! [iblk, V, idx t]
theorem blk2 (t : Fin cfg0.N) (r : Fin 256) (k : Fin 1024) : iblk m c 2 t (ix3 0 0 k) = aSc m c (Ffn.bOf (256 * t.val + r.val)) k := by
  unfold aSc Ffn.bOf
  blk_ext! [iblk, V, idx t]
theorem blk3 (t : Fin cfg0.N) (r : Fin 256) (k : Fin 1024) : iblk m c 3 t (ix3 0 0 k) = aSh m c (Ffn.bOf (256 * t.val + r.val)) k := by
  unfold aSh Ffn.bOf
  blk_ext! [iblk, V, idx t]
theorem blk4 (t : Fin cfg0.N) (r : Fin 256) (k : Fin 1024) : iblk m c 4 t (ix3 0 0 k) = aGt m c (Ffn.bOf (256 * t.val + r.val)) k := by
  unfold aGt Ffn.bOf
  blk_ext! [iblk, V, idx t]
theorem blk5 (t : Fin cfg0.N) (k : Fin 1024) (n : Fin 2816) : iblk m c 5 t (ix3 0 k n) = aWg m c k n := by
  unfold aWg
  blk_ext! [iblk, V, idx t]
theorem blk6 (t : Fin cfg0.N) (k : Fin 1024) (n : Fin 2816) : iblk m c 6 t (ix3 0 k n) = aWu m c k n := by
  unfold aWu
  blk_ext! [iblk, V, idx t]
theorem blk7 (t : Fin cfg0.N) (a : Fin 4) (n : Fin 2816) : iblk m c 7 t (ix2 a n) = Ffn.taps (aCw m c) (aCb m c) a n := by
  have h1 : iblk m c 7 t (ix2 a n) = V m c main_v5 (ix2 a n) := by blk_ext [iblk, idx t]
  rw [h1]
  unfold Ffn.taps aCw aCb
  entry_read
  pointwise
theorem blk8 (t : Fin cfg0.N) (k : Fin 1024) (n : Fin 2816) : iblk m c 8 t (ix3 0 n k) = aWd m c n k := by
  unfold aWd
  blk_ext! [iblk, V, idx t]
theorem blk9 (t : Fin cfg0.N) (k : Fin 1024) : iblk m c 9 t (ix2 0 k) = aF m c k := by
  unfold aF
  blk_ext! [iblk, V, idx t]

end Cert.KernelIdeal.Blk
end
-- ==== Proof.Value1.lean ====
/-
  THE LAST FEED-FORWARD KERNEL'S RESULT: by what each point leaves carried, every tile computes the layer of its rows, so
  the array the run leaves is the layer's result row by row.
-/
module
public import proofs.«01_k».proof.Proof.Blocks1
@[expose] public section
set_option maxRecDepth 16384
noncomputable section
namespace Cert.KernelIdeal.Blk
open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The layer's modulated activations, row by row. -/
def H (R : ℕ) (k : Fin 1024) : EReal := Ffn.hid (aX m c) (aG m c) (aSc m c) (aSh m c) R k

theorem h_tile (t : Fin cfg0.N) (r : Fin 256) (k : Fin 1024) :
    Ffn.hV (F := Ideal) (iblk m c 0 t) (iblk m c 1 t) (iblk m c 2 t) (iblk m c 3 t) (ix2 r k) = H m c (256 * t.val + r.val) k := by
  rw [Ffn.hV_apply, Ffn.normV_apply]
  simp only [blk0, blk1, blk2 m c t r, blk3 m c t r]
  rfl

theorem wg_tile (t : Fin cfg0.N) : (fun k n => iblk m c 5 t (ix3 0 k n)) = aWg m c := by
  funext k n; exact blk5 m c t k n
theorem wu_tile (t : Fin cfg0.N) : (fun k n => iblk m c 6 t (ix3 0 k n)) = aWu m c := by
  funext k n; exact blk6 m c t k n
theorem cw_tile (t : Fin cfg0.N) : (fun a n => iblk m c 7 t (ix2 a n)) = Ffn.taps (aCw m c) (aCb m c) := by
  funext k n; exact blk7 m c t k n
theorem wd_tile (t : Fin cfg0.N) : (fun n k => iblk m c 8 t (ix3 0 n k)) = aWd m c := by
  funext n k; exact blk8 m c t k n

/-- What a point leaves carried: the gate projection of its last eight rows. -/
theorem carry (n : ℕ) (hn : n < cfg0.N) (j : Fin 11) (i : Fin 8) (l : Fin 256) :
    (outsAt0 m c n hn).2 (ix3 j i l) = Ffn.proj (H m c) (aWg m c) (256 * n + 248 + i.val) ⟨256 * j.val + l.val, by omega⟩ := by
  have key := Ffn.last_tile n _ (iblk m c 5 ⟨n, hn⟩) (H m c) (h_tile m c ⟨n, hn⟩) j i l
  rw [wg_tile] at key
  rw [← key, ← pay7_eq]
  by_cases h0 : n % 16 = 0
  · rw [outsAt0_A m c ⟨n, hn⟩ h0]
    dsimp only
    rw [sout_A]
  · rw [outsAt0_B m c ⟨n, hn⟩ h0]
    dsimp only
    rw [sout_B]

/-- The layer's result, row by row. -/
def out (R : ℕ) (k : Fin 1024) : EReal :=
  Ffn.rmsn (Ffn.res (aX m c) (aGt m c) (Ffn.ffn (H m c) (aWg m c) (aWu m c) (Ffn.taps (aCw m c) (aCb m c)) (aWd m c)) R) k * aF m c k

theorem out_tile (t : Fin cfg0.N) (xs : Vec Ideal S11x8x256 .f32)
    (hx : ∀ (j : Fin 11) (i : Fin 8) (l : Fin 256), xs (ix3 j i l) =
      if t.val % 16 = 0 then 0 else Ffn.proj (H m c) (aWg m c) (256 * t.val - 8 + i.val) ⟨256 * j.val + l.val, by omega⟩)
    (r : Fin 256) (k : Fin 1024) :
    Ffn.normV (F := Ideal) (Ffn.resV (iblk m c 0 t) (iblk m c 4 t) (Ffn.accV (Ffn.hV (F := Ideal) (iblk m c 0 t) (iblk m c 1 t) (iblk m c 2 t) (iblk m c 3 t))
      (iblk m c 5 t) (iblk m c 6 t) (iblk m c 7 t) (iblk m c 8 t) xs)) (iblk m c 9 t) (ix2 r k) = out m c (256 * t.val + r.val) k := by
  rw [← wg_tile m c t] at hx
  have key := fun k => Ffn.acc_tile t.val _ (iblk m c 5 t) (iblk m c 6 t) (iblk m c 7 t) (iblk m c 8 t) xs (H m c) (h_tile m c t) hx r k
  rw [wg_tile, wu_tile, cw_tile, wd_tile] at key
  rw [Ffn.normV_apply]
  simp only [Ffn.resV_apply, key, blk0, blk4 m c t r, blk9]
  rfl

/-- What a point writes out. -/
theorem out_at (n : ℕ) (hn : n < cfg0.N) (r : Fin 256) (k : Fin 1024) :
    (outsAt0 m c n hn).1 (ix2 r k) = out m c (256 * n + r.val) k := by
  by_cases h0 : n % 16 = 0
  · rw [outsAt0_A m c ⟨n, hn⟩ h0]
    dsimp only
    rw [out_A, pay7_eq, pay1_eq]
    exact out_tile m c ⟨n, hn⟩ _ (fun j i l => by rw [pay3_apply, if_pos h0]) r k
  · rw [outsAt0_B m c ⟨n, hn⟩ h0]
    dsimp only
    rw [out_B, pay7_eq, pay1_eq]
    refine out_tile m c ⟨n, hn⟩ _ (fun j i l => ?_) r k
    rw [if_neg h0, carry]
    congr 1
    simp only []
    omega

/-- The array the run leaves. -/
theorem G10_apply (R : Fin 32768) (k : Fin 1024) : Value.G10 m c (ix2 R k) = out m c R.val k := by
  have hR := R.isLt
  have hk := k.isLt
  have hp : Value.pt10Of (ix2 R k) = R.val / 256 := by
    show 1 * (R.val / 256 - 0) + 1 * (k.val / 1024 - 0) = _
    omega
  have hN : Value.pt10Of (ix2 R k) < cfg0.N := by rw [hp, show cfg0.N = 128 from N_0]; omega
  unfold Value.G10
  rw [dif_pos hN, ← Value.outsAt0_sweep m c _ hN]
  have hl : Value.loc10Of (ix2 R k) = ix2 ⟨R.val % 256, by omega⟩ k := by
    funext a; apply Fin.ext
    match a with
    | ⟨0, _⟩ => rfl
    | ⟨1, _⟩ => show k.val % 1024 = k.val; omega
  rw [hl, out_at]
  congr 1
  rw [hp]
  simp only []
  omega

end Cert.KernelIdeal.Blk
end
-- ==== Proof.Ref1.lean ====
/-
  THE REFERENCE OF THE LAST FEED-FORWARD READ AT AN INDEX: its result at row `R` is the layer of Spec.lean, the padded
  products being the gate projection of the rows above.
-/
module
public import proofs.«01_k».proof.Proof.Gen.ReferenceIdeal.Read
public import proofs.«01_k».proof.Proof.Spec
public import Idealize.ShloMosaic.Lib.Pointwise
public import Idealize.ShloMosaic.Lib.Pointwise.Tactic
@[expose] public section
set_option maxRecDepth 16384
noncomputable section
namespace Cert.ReferenceIdeal.Rd
open Cert.ReferenceIdeal Cert.ReferenceIdeal.Read Cert.Ffn Idealize.ShloMosaic Idealize.ShloMosaic.TcCoe Idealize.SL.Sem Idealize.ShloMosaic.Tactic

variable (x0 : (⟨S8x4096x1024, .f32⟩ : BufTy).Contents (Elt Ideal)) (x1 : (⟨S2x2x1024, .f32⟩ : BufTy).Contents (Elt Ideal))
  (x2 x3 x4 : (⟨S8x1024, .f32⟩ : BufTy).Contents (Elt Ideal)) (x5 x6 : (⟨S2x1024x2816, .f32⟩ : BufTy).Contents (Elt Ideal))
  (x7 : (⟨S2x3x2816, .f32⟩ : BufTy).Contents (Elt Ideal)) (x8 : (⟨S2x2816, .f32⟩ : BufTy).Contents (Elt Ideal))
  (x9 : (⟨S2x2816x1024, .f32⟩ : BufTy).Contents (Elt Ideal)) (x10 : (⟨S1024, .f32⟩ : BufTy).Contents (Elt Ideal))

def X (R : ℕ) (k : Fin 1024) : EReal := x0 (ix3 (bOf R) (rOf R) k)
def H : ℕ → Fin 1024 → EReal := hid (X x0) (fun k => x1 (ix3 1 1 k)) (fun b k => x3 (ix2 b k)) (fun b k => x2 (ix2 b k))

theorem v22 (R : ℕ) (k : Fin 1024) : val_main_v22 x0 x1 x2 x3 (ix3 (bOf R) (rOf R) k) = H x0 x1 x2 x3 R k := by
  unfold H hid rmsn X
  generalize bOf R = b
  generalize rOf R = r
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]

theorem v34 (R : ℕ) (n : Fin 2816) : val_main_v34 x0 x1 x2 x3 x6 (ix3 (bOf R) (rOf R) n) = proj (H x0 x1 x2 x3) (fun k n => x6 (ix3 1 k n)) R n := by
  unfold proj
  simp only [← v22]
  generalize bOf R = b
  generalize rOf R = r
  unfold val_main_v34
  generalize val_main_v22 x0 x1 x2 x3 = y
  pointwise [val_main_v27, val_main_v26]

theorem v68 (R : ℕ) (n : Fin 2816) : val_main_v68 x0 x1 x2 x3 x5 (ix3 (bOf R) (rOf R) n) = proj (H x0 x1 x2 x3) (fun k n => x5 (ix3 1 k n)) R n := by
  unfold proj
  simp only [← v22]
  generalize bOf R = b
  generalize rOf R = r
  unfold val_main_v68
  generalize val_main_v22 x0 x1 x2 x3 = y
  pointwise [val_main_v25, val_main_v24]

theorem v35 (b : Fin 8) (s : Fin 4098) (n : Fin 2816) : val_main_v35 x0 x1 x2 x3 x6 (ix3 b s n) =
    if h : 2 ≤ s.val then val_main_v34 x0 x1 x2 x3 x6 (ix3 b ⟨s.val - 2, by omega⟩ n) else 0 := by
  unfold val_main_v35
  generalize val_main_v34 x0 x1 x2 x3 x6 = y
  have h0 : (FloatOps.sitofp FTy.f32 0#32 : Ideal .f32) = 0 := by
    show (((0#32 : BitVec 32).toInt : ℝ) : EReal) = 0
    simp
  pointwise [val_main_call0_v0, val_main_c]
  rw [h0]
  by_cases h : 2 ≤ s.val
  · rw [dif_pos ⟨h, by omega⟩, dif_pos h]
  · rw [dif_neg (by omega), dif_neg h]

theorem shifted (d : ℕ) (hd : d ≤ 2) (R : ℕ) (n : Fin 2816) (s : Fin 4098) (hs : s.val + d = R % 4096 + 2) :
    val_main_v35 x0 x1 x2 x3 x6 (ix3 (bOf R) s n) = prev (H x0 x1 x2 x3) (fun k n => x6 (ix3 1 k n)) d R n := by
  rw [v35]
  unfold prev
  by_cases h : d ≤ R % 4096
  · rw [dif_pos (by omega), if_pos h, ← v34]
    congr 2
    · apply Fin.ext; show R / 4096 % 8 = (R - d) / 4096 % 8; omega
    · apply Fin.ext; show s.val - 2 = (R - d) % 4096; omega
  · rw [dif_neg (by omega), if_neg h]

theorem v60 (R : ℕ) (n : Fin 2816) : val_main_v60 x0 x1 x2 x3 x6 x7 x8 (ix3 (bOf R) (rOf R) n) =
    conv (H x0 x1 x2 x3) (fun k n => x6 (ix3 1 k n)) (taps (fun a n => x7 (ix3 1 a n)) (fun n => x8 (ix2 1 n))) R n := by
  have h2 := shifted x0 x1 x2 x3 x6 2 (by omega) R n ⟨(rOf R).val, by omega⟩ (by show R % 4096 + 2 = _; omega)
  have h1 := shifted x0 x1 x2 x3 x6 1 (by omega) R n ⟨1 + (rOf R).val, by omega⟩ (by show 1 + R % 4096 + 1 = _; omega)
  have h0 := shifted x0 x1 x2 x3 x6 0 (by omega) R n ⟨2 + (rOf R).val, by omega⟩ (by show 2 + R % 4096 + 0 = _; omega)
  have e0 : prev (H x0 x1 x2 x3) (fun k n => x6 (ix3 1 k n)) 0 R n = proj (H x0 x1 x2 x3) (fun k n => x6 (ix3 1 k n)) R n := rfl
  unfold conv
  rw [← h2, ← h1, ← e0, ← h0]
  unfold taps
  unfold val_main_v60 val_main_v57 val_main_v50 val_main_v43 val_main_v56 val_main_v49 val_main_v41 val_main_v53 val_main_v46 val_main_v38
  generalize val_main_v35 x0 x1 x2 x3 x6 = y
  pointwise [val_main_v42, val_main_cst_3, val_main_v40, val_main_v39, val_main_v37, val_main_v36, val_main_v29, val_main_v28, val_main_v48, val_main_v47, val_main_v45, val_main_v44, val_main_v55, val_main_v54, val_main_v52, val_main_v51, val_main_v59, val_main_v58, val_main_v31, val_main_v30]

theorem v69 (R : ℕ) (n : Fin 2816) : val_main_v69 x0 x1 x2 x3 x5 x6 x7 x8 (ix3 (bOf R) (rOf R) n) =
    siluL (conv (H x0 x1 x2 x3) (fun k n => x6 (ix3 1 k n)) (taps (fun a n => x7 (ix3 1 a n)) (fun n => x8 (ix2 1 n))) R n)
      * proj (H x0 x1 x2 x3) (fun k n => x5 (ix3 1 k n)) R n := by
  rw [← v60, ← v68]
  unfold val_main_v69 siluL
  generalize val_main_v68 x0 x1 x2 x3 x5 = z
  unfold val_main_v67 val_main_v66 val_main_v64 val_main_v62 val_main_v61
  generalize val_main_v60 x0 x1 x2 x3 x6 x7 x8 = y
  generalize bOf R = b
  generalize rOf R = r
  pointwise [val_main_v65, val_main_cst_5, val_main_v63, val_main_cst_4]
  rfl

/-- The reference's result before the last reshape. -/
def out : ℕ → Fin 1024 → EReal := fun R k =>
  rmsn (res (X x0) (fun b k => x4 (ix2 b k)) (ffn (H x0 x1 x2 x3) (fun k n => x6 (ix3 1 k n)) (fun k n => x5 (ix3 1 k n))
    (taps (fun a n => x7 (ix3 1 a n)) (fun n => x8 (ix2 1 n))) (fun n k => x9 (ix3 1 n k))) R) k * x10 (ix1 k)

theorem v70 (R : ℕ) (k : Fin 1024) : val_main_v70 x0 x1 x2 x3 x5 x6 x7 x8 x9 (ix3 (bOf R) (rOf R) k) =
    ffn (H x0 x1 x2 x3) (fun k n => x6 (ix3 1 k n)) (fun k n => x5 (ix3 1 k n))
      (taps (fun a n => x7 (ix3 1 a n)) (fun n => x8 (ix2 1 n))) (fun n k => x9 (ix3 1 n k)) R k := by
  unfold ffn
  simp only [← v69]
  generalize bOf R = b
  generalize rOf R = r
  unfold val_main_v70
  generalize val_main_v69 x0 x1 x2 x3 x5 x6 x7 x8 = y
  pointwise [val_main_v33, val_main_v32]

theorem v86 (R : ℕ) (k : Fin 1024) : val_main_v86 x0 x1 x2 x3 x4 x5 x6 x7 x8 x9 x10 (ix3 (bOf R) (rOf R) k) = out x0 x1 x2 x3 x4 x5 x6 x7 x8 x9 x10 R k := by
  unfold out res rmsn X
  simp only [← v70]
  generalize bOf R = b
  generalize rOf R = r
  pointwise [val_main_v86, val_main_v85, val_main_v84, val_main_v83, val_main_v82, val_main_v81, val_main_v80, val_main_v79, val_main_v78, val_main_v77, val_main_v76, val_main_v75, val_main_v74, val_main_v73, val_main_v72, val_main_v71, val_main_v23, val_main_cst_6, val_main_cst_7, val_main_cst_8]

theorem v87 (R : Fin 32768) (k : Fin 1024) : val_main_v87 x0 x1 x2 x3 x4 x5 x6 x7 x8 x9 x10 (ix2 R k) = out x0 x1 x2 x3 x4 x5 x6 x7 x8 x9 x10 R.val k := by
  rw [← v86]
  unfold val_main_v87
  generalize val_main_v86 x0 x1 x2 x3 x4 x5 x6 x7 x8 x9 x10 = y
  have hR := R.isLt
  pointwise
  refine congrArg y ?_
  congr 1
  apply Fin.ext
  show R.val / 4096 = R.val / 4096 % 8
  omega

end Cert.ReferenceIdeal.Rd
end
-- ==== Proof.Tie1.lean ====
/-
  THE LAST FEED-FORWARD, KERNEL AGAINST REFERENCE: where the arguments agree, the array the kernel's run leaves and the
  reference's result are one function of the row and the column.
-/
module
public import proofs.«01_k».proof.Proof.Value1
public import proofs.«01_k».proof.Proof.Ref1
@[expose] public section
noncomputable section
namespace Cert.Tie
open Idealize.ShloMosaic Idealize.ShloMosaic.TcCoe Idealize.SL.Sem Idealize.ShloMosaic.Tactic

theorem ffn1 (m : (ℓ : Loc Cert.KernelIdeal.nD Cert.KernelIdeal.τ Cert.KernelIdeal.sig) → Buf (Elt Ideal) ℓ) (c : Dev Cert.KernelIdeal.nD) :
    Cert.ReferenceIdeal.Read.val_main_v87 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6)) (m ((c.tc : Thread _ _).loc Cert.KernelIdeal.main_arg7))
      (m ((c.tc : Thread _ _).loc Cert.KernelIdeal.main_arg8)) (m ((c.tc : Thread _ _).loc Cert.KernelIdeal.main_arg9)) (m ((c.tc : Thread _ _).loc Cert.KernelIdeal.main_arg10))
    = Cert.KernelIdeal.Value.G10 m c := by
  funext i
  have hi : i = ix2 (i 0) (i 1) := by
    funext a
    match a with
    | ⟨0, _⟩ => rfl
    | ⟨1, _⟩ => rfl
  rw [hi]
  exact (Cert.ReferenceIdeal.Rd.v87 _ _ _ _ _ _ _ _ _ _ _ (i 0) (i 1)).trans (Cert.KernelIdeal.Blk.G10_apply m c (i 0) (i 1)).symm

end Cert.Tie
end
-- ==== Proof.Mix.lean ====
/-
  THE MIXERS' OUTPUT PROJECTION on a tile of 256 rows: the two mixers' outputs, each against its half of the rows of the
  output weights, gated and added to the activation.
-/
module

public import proofs.«01_k».proof.Proof.Tile

@[expose] public section

noncomputable section

namespace Cert.Ffn

open Idealize.ShloMosaic Idealize.SL.Sem

abbrev SY : Shape := ⟨2, ![256, 512]⟩
abbrev SWo : Shape := ⟨2, ![1024, 1024]⟩
abbrev SWoH : Shape := ⟨2, ![512, 1024]⟩

/-- Half of the output projection: [256,512] by [512,1024]. -/
def dotMix : DotDims SY SWoH SX where
  lhsContracting := [1]
  rhsContracting := [0]
  lhsNonContracting := [0]
  rhsNonContracting := [1]
  lhsBatch := []
  rhsBatch := []
  wf := by decide

theorem inbWo (s : Fin 2) : ∀ a, (![512 * s.val, 0] : Fin 2 → ℕ) a + (![512, 1024] : Fin 2 → ℕ) a ≤ SWo.size a := by
  intro a; have := s.isLt; fin_cases a <;> simp <;> omega

variable {F : FTy → Type} [FloatOps F]

/-- One mixer's output against half `s` of the output weights. -/
def halfMixV (y : FVec F SY .bf16) (wo : SWo.Idx → Elt F .bf16) (s : Fin 2) : FVec F SX .f32 :=
  matmul dotMix none y (View.ld (Val := Elt F) wo (Rect.unit (s := SWo) ![512 * s.val, 0] ![512, 1024] (inbWo s)) : FVec F SWoH .bf16)
    (constant SX .f32 0x00000000#32)

/-- The activation after the mixers. -/
def mixV (x : FVec F SX .f32) (ys ya : FVec F SY .bf16) (wo : SWo.Idx → Elt F .bf16) (g1 : FVec F SVc .f32) : FVec F SX .f32 :=
  addf x (mulf (broadcastTo SX (shapeCast SRw g1 (by decide)) (by decide)) (addf (halfMixV ys wo 0) (halfMixV ya wo 1)))

end Cert.Ffn

end
-- ==== Proof.Block2.lean ====
/-
  ONE GRID POINT OF THE FIRST LAYER'S FEED-FORWARD KERNEL: the terms its run found, opened into the tile of Tile.lean, the
  activation being the block's residual over the mixers' output projection (Mix.lean). At the first tile of a sequence
  (case A) the carried rows are zero; at the others (case B) they are what the tile before left.
-/
module

public import proofs.«01_k».proof.Proof.Gen.Kernel2Ideal.Value
public import proofs.«01_k».proof.Proof.Mix
public import Idealize.ShloMosaic.Lib.Pointwise
public import Idealize.ShloMosaic.Lib.Pointwise.Tactic

@[expose] public section
set_option maxRecDepth 16384
noncomputable section
namespace Cert.Kernel2Ideal.Blk
open Cert.Kernel2Ideal Cert.Kernel2Ideal.Gen Idealize.ShloMosaic Idealize.ShloMosaic.TcCoe Idealize.SL.Sem Idealize.ShloMosaic.Tactic
variable {F : FTy → Type} [FloatOps F]
theorem stepEq {α : Type} (f : α → α) (p : α → α → α) (d acc acc' : α) (h : acc = acc') (hf : ∀ a, f a = p a d) : f acc = p acc' d := by
  rw [h, hf]
theorem hz2 : (![0, 0] : Fin 2 → Nat) = fun _ => 0 := funext fun a => by fin_cases a <;> rfl
theorem hz3 : (![0, 0, 0] : Fin 3 → Nat) = fun _ => 0 := funext fun a => by fin_cases a <;> rfl

/-- The tile's activation after the mixers' output projection. -/
theorem pay1_eq (x0 : Vec F S256x1024 .f32) (x1 x2 : Vec F S256x512 .bf16) (x3 : Vec F S1024x1024 .bf16) (x4 : Vec F S1x1x1024 .f32) (h0 h1) :
    k0_pay1 x1 (View.ld (Val := Elt F) x3 (Rect.unit (s := S1024x1024) ![0, 0] S512x1024.size h0)) x2 (View.ld (Val := Elt F) x3 (Rect.unit (s := S1024x1024) ![512, 0] S512x1024.size h1)) x0 x4
      = Ffn.mixV x0 x1 x2 x3 x4 := by
  unfold_payloads
  simp only [shapeCast_self]
  rfl
/-- The modulated activations, as the tile's. -/
theorem pay4_eq (x : Vec F S256x1024 .f32) (x5 : Vec F S1x1024 .f32) (x6 x7 : Vec F S1x1x1024 .f32) :
    k0_pay4 x (k0_pay3 x5) x6 x7 = Ffn.hV x x5 x6 x7 := by
  unfold_payloads
  simp only [shapeCast_self]
  rfl
/-- What is written out, as the tile's. -/
theorem pay131_eq (x : Vec F S256x1024 .f32) (x8 : Vec F S1x1x1024 .f32) (a : Vec F S256x1024 .f32) :
    k0_pay131 x x8 a = Ffn.resV x x8 a := by
  unfold_payloads
  rfl

section
variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S4x2816 .f32) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S11x2x264x128 .f32) (harg16 : arg16.IsWhole) (arg17 : Memref sig .tc .vmem S11x8x256 .f32) (harg17 : arg17.IsWhole) (arg18 : Memref sig .tc .vmem S256x1024 .f32) (harg18 : arg18.IsWhole) (arg19 : Memref sig .tc .vmem S256x1024 .bf16) (harg19 : arg19.IsWhole) (hc0 : ¬cond0_0 i)
    (x0 : Vec F S256x1024 .f32) (x1 : Vec F S256x512 .bf16) (x2 : Vec F S256x512 .bf16) (x3 : Vec F S1024x1024 .bf16) (x4 : Vec F S1x1x1024 .f32) (x5 : Vec F S1x1024 .f32) (x6 : Vec F S1x1x1024 .f32) (x7 : Vec F S1x1x1024 .f32) (x8 : Vec F S1x1x1024 .f32) (x9 : Vec F S1x1024x2816 .bf16) (x10 : Vec F S1x1024x2816 .bf16) (x11 : Vec F S4x2816 .f32) (x12 : Vec F S1x2816x1024 .bf16) (x13 : Vec F S1x1024 .f32) (xs1 : Vec F S11x8x256 .f32)

set_option maxHeartbeats 1000000 in
/-- What the tile writes out: the residual sum over the accumulated down projection. -/
theorem out_B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1
    = Ffn.resV (Ffn.mixV x0 x1 x2 x3 x4) x8 (Ffn.accV (Ffn.hV (Ffn.mixV x0 x1 x2 x3 x4) x5 x6 x7) x9 x10 x11 x12 xs1) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1)]
  unfold kernelRun0_B
  dsimp only
  sl_unfold_words
  simp (disch := decide) only [↓ Ffn.fold_cat, ↓ View.readCov_unit_zero (S := S256x1024) _ hz2, ↓ View.readCov_cons_toLoadRect, ↓ Ffn.read_back, ↓ Ffn.skip_half, ↓ Ffn.skip_carry, ↓ Ffn.read_carry,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S256x1024) hz2, View.ld_unit_zero (S := S256x512) hz2, View.ld_unit_zero (S := S1x1024) hz2, View.ld_unit_zero (S := S1x1x1024) hz3, View.canon_unit_zero (S := S256x1024) hz2]
  have hmix : ∀ h0 h1, k0_pay1 x1 (View.ld (Val := Elt F) x3 (Rect.unit (s := S1024x1024) ![0, 0] S512x1024.size h0)) x2 (View.ld (Val := Elt F) x3 (Rect.unit (s := S1024x1024) ![512, 0] S512x1024.size h1)) x0 x4 = Ffn.mixV x0 x1 x2 x3 x4 := fun _ _ => pay1_eq _ _ _ _ _ _ _
  simp only [hmix, pay4_eq]
  generalize Ffn.mixV x0 x1 x2 x3 x4 = x
  generalize Ffn.hV x x5 x6 x7 = h
  refine (pay131_eq _ _ _).trans (congrArg (Ffn.resV x x8) ?_)
  unfold Ffn.accV
  iterate 10
    refine stepEq _ addf _ _ _ ?_ (fun a => ?_)
    rotate_left
    · unfold_payloads
      simp only [Ffn.downV, Ffn.siluV, Ffn.convV, Ffn.tapV, shapeCast_self]
      rfl
  unfold_payloads
  simp only [Ffn.downV, Ffn.siluV, Ffn.convV, Ffn.tapV, shapeCast_self]
  rfl
/-- What the tile leaves carried: the last eight rows of each column block of its gate projection. -/
theorem sout_B (j : Fin 11) (r : Fin 8) (l : Fin 256) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1 (ix3 j r l) = Ffn.lastV (Ffn.hV (Ffn.mixV x0 x1 x2 x3 x4) x5 x6 x7) x9 j (ix3 0 r l) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs1)]
  unfold kernelRun0_B
  dsimp only
  sl_unfold_words
  simp (disch := decide) only [↓ View.readCov_unit_zero (S := S256x1024) _ hz2, ↓ View.readCov_cons_toLoadRect,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S256x1024) hz2, View.ld_unit_zero (S := S256x512) hz2, View.ld_unit_zero (S := S1x1024) hz2, View.ld_unit_zero (S := S1x1x1024) hz3]
  have hmix : ∀ h0 h1, k0_pay1 x1 (View.ld (Val := Elt F) x3 (Rect.unit (s := S1024x1024) ![0, 0] S512x1024.size h0)) x2 (View.ld (Val := Elt F) x3 (Rect.unit (s := S1024x1024) ![512, 0] S512x1024.size h1)) x0 x4 = Ffn.mixV x0 x1 x2 x3 x4 := fun _ _ => pay1_eq _ _ _ _ _ _ _
  simp only [hmix, pay4_eq]
  generalize Ffn.hV (Ffn.mixV x0 x1 x2 x3 x4) x5 x6 x7 = h
  obtain ⟨j, hj⟩ := j
  interval_cases j <;>
    simp (disch := decide) only [Ffn.carry_hit, Ffn.carry_miss] <;> unfold_payloads <;> rfl

end

section
variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S4x2816 .f32) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S11x2x264x128 .f32) (harg16 : arg16.IsWhole) (arg17 : Memref sig .tc .vmem S11x8x256 .f32) (harg17 : arg17.IsWhole) (arg18 : Memref sig .tc .vmem S256x1024 .f32) (harg18 : arg18.IsWhole) (arg19 : Memref sig .tc .vmem S256x1024 .bf16) (harg19 : arg19.IsWhole) (hc0 : cond0_0 i)
    (x0 : Vec F S256x1024 .f32) (x1 : Vec F S256x512 .bf16) (x2 : Vec F S256x512 .bf16) (x3 : Vec F S1024x1024 .bf16) (x4 : Vec F S1x1x1024 .f32) (x5 : Vec F S1x1024 .f32) (x6 : Vec F S1x1x1024 .f32) (x7 : Vec F S1x1x1024 .f32) (x8 : Vec F S1x1x1024 .f32) (x9 : Vec F S1x1024x2816 .bf16) (x10 : Vec F S1x1024x2816 .bf16) (x11 : Vec F S4x2816 .f32) (x12 : Vec F S1x2816x1024 .bf16) (x13 : Vec F S1x1024 .f32)

set_option maxHeartbeats 1000000 in
/-- What the tile writes out: the residual sum over the accumulated down projection, nothing carried. -/
theorem out_A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13
    = Ffn.resV (Ffn.mixV x0 x1 x2 x3 x4) x8 (Ffn.accV (Ffn.hV (Ffn.mixV x0 x1 x2 x3 x4) x5 x6 x7) x9 x10 x11 x12 (k0_pay2 (F := F))) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)]
  unfold kernelRun0_A
  dsimp only
  sl_unfold_words
  simp (disch := decide) only [↓ Ffn.fold_cat, ↓ View.readCov_unit_zero (S := S256x1024) _ hz2, ↓ View.readCov_cons_toLoadRect, ↓ Ffn.read_back, ↓ Ffn.skip_half, ↓ Ffn.skip_carry, ↓ Ffn.read_carry,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) hz2, View.ld_unit_zero (S := S256x512) hz2, View.ld_unit_zero (S := S1x1024) hz2, View.ld_unit_zero (S := S1x1x1024) hz3, View.canon_unit_zero (S := S256x1024) hz2]
  have hmix : ∀ h0 h1, k0_pay1 x1 (View.ld (Val := Elt F) x3 (Rect.unit (s := S1024x1024) ![0, 0] S512x1024.size h0)) x2 (View.ld (Val := Elt F) x3 (Rect.unit (s := S1024x1024) ![512, 0] S512x1024.size h1)) x0 x4 = Ffn.mixV x0 x1 x2 x3 x4 := fun _ _ => pay1_eq _ _ _ _ _ _ _
  simp only [hmix, pay4_eq]
  generalize Ffn.mixV x0 x1 x2 x3 x4 = x
  generalize Ffn.hV x x5 x6 x7 = h
  refine (pay131_eq _ _ _).trans (congrArg (Ffn.resV x x8) ?_)
  unfold Ffn.accV
  iterate 10
    refine stepEq _ addf _ _ _ ?_ (fun a => ?_)
    rotate_left
    · unfold_payloads
      simp only [Ffn.downV, Ffn.siluV, Ffn.convV, Ffn.tapV, shapeCast_self]
      rfl
  unfold_payloads
  simp only [Ffn.downV, Ffn.siluV, Ffn.convV, Ffn.tapV, shapeCast_self]
  rfl
/-- What the tile leaves carried: the last eight rows of each column block of its gate projection. -/
theorem sout_A (j : Fin 11) (r : Fin 8) (l : Fin 256) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 (ix3 j r l) = Ffn.lastV (Ffn.hV (Ffn.mixV x0 x1 x2 x3 x4) x5 x6 x7) x9 j (ix3 0 r l) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)]
  unfold kernelRun0_A
  dsimp only
  sl_unfold_words
  simp (disch := decide) only [↓ View.readCov_unit_zero (S := S256x1024) _ hz2, ↓ View.readCov_cons_toLoadRect,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) hz2, View.ld_unit_zero (S := S256x512) hz2, View.ld_unit_zero (S := S1x1024) hz2, View.ld_unit_zero (S := S1x1x1024) hz3]
  have hmix : ∀ h0 h1, k0_pay1 x1 (View.ld (Val := Elt F) x3 (Rect.unit (s := S1024x1024) ![0, 0] S512x1024.size h0)) x2 (View.ld (Val := Elt F) x3 (Rect.unit (s := S1024x1024) ![512, 0] S512x1024.size h1)) x0 x4 = Ffn.mixV x0 x1 x2 x3 x4 := fun _ _ => pay1_eq _ _ _ _ _ _ _
  simp only [hmix, pay4_eq]
  generalize Ffn.hV (Ffn.mixV x0 x1 x2 x3 x4) x5 x6 x7 = h
  obtain ⟨j, hj⟩ := j
  interval_cases j <;>
    simp (disch := decide) only [Ffn.carry_hit, Ffn.carry_miss] <;> unfold_payloads <;> rfl

end

end Cert.Kernel2Ideal.Blk
end
-- ==== Proof.MixSpec.lean ====
/-
  THE MIXERS' OUTPUT PROJECTION over the extended reals: the two outputs side by side against the output weights, a sum
  over 1024 columns that splits at the boundary between the two.
-/
module
public import proofs.«01_k».proof.Proof.Spec
@[expose] public section
noncomputable section
namespace Cert.Ffn
open Idealize.ShloMosaic

/-- Row `R` of the mixers' output projection: the first mixer against the upper half of the weights' rows, the second
    against the lower. -/
def mixed (ys ya : ℕ → Fin 512 → EReal) (wo : Fin 1024 → Fin 1024 → EReal) (R : ℕ) (k : Fin 1024) : EReal :=
  ∑ q : Fin 512, ys R q * wo ⟨q.val, by omega⟩ k + ∑ q : Fin 512, ya R q * wo ⟨512 + q.val, by omega⟩ k

/-- The same row as one sum over the two outputs side by side. -/
theorem mixed_eq (ys ya : ℕ → Fin 512 → EReal) (wo : Fin 1024 → Fin 1024 → EReal) (R : ℕ) (k : Fin 1024) :
    ∑ q : Fin 1024, (if h : q.val < 512 then ys R ⟨q.val, h⟩ else ya R ⟨q.val - 512, by omega⟩) * wo q k = mixed ys ya wo R k := by
  rw [show (∑ q : Fin 1024, (if h : q.val < 512 then ys R ⟨q.val, h⟩ else ya R ⟨q.val - 512, by omega⟩) * wo q k)
      = ∑ q : Fin (512 + 512), (if h : q.val < 512 then ys R ⟨q.val, h⟩ else ya R ⟨q.val - 512, by omega⟩) * wo q k from rfl, Fin.sum_univ_add]
  unfold mixed
  congr 1

end Cert.Ffn
end
-- ==== Proof.MixIdeal.lean ====
/-
  THE MIXERS' OUTPUT PROJECTION OF A TILE AT AN INDEX, over the extended reals.
-/
module
public import proofs.«01_k».proof.Proof.Mix
public import proofs.«01_k».proof.Proof.MixSpec
public import proofs.«01_k».proof.Proof.TileIdeal
@[expose] public section
noncomputable section
namespace Cert.Ffn
open Idealize.ShloMosaic Idealize.SL.Sem Idealize.ShloMosaic.Tactic

theorem ld_wo (w : SWo.Idx → Elt Ideal .bf16) (s : Fin 2) (q : Fin 512) (k : Fin 1024) :
    (View.ld (Val := Elt Ideal) w (Rect.unit (s := SWo) ![512 * s.val, 0] ![512, 1024] (inbWo s)) : SWoH.Idx → Elt Ideal .bf16) (ix2 q k)
    = w (ix2 ⟨512 * s.val + q.val, by omega⟩ k) := by
  refine View.ld_unit_apply_of w _ _ _ _ _ fun a => ?_
  fin_cases a <;> simp <;> rfl

theorem halfMixV_apply (y : FVec Ideal SY .bf16) (w : SWo.Idx → Elt Ideal .bf16) (s : Fin 2) (r : Fin 256) (k : Fin 1024) :
    halfMixV y w s (ix2 r k) = ∑ q : Fin 512, y (ix2 r q) * w (ix2 ⟨512 * s.val + q.val, by omega⟩ k) := by
  unfold halfMixV
  refine (Ideal.matmul_plain_apply (M := 256) (K := 512) (N := 1024) none _ _ _ r k).trans ?_
  simp only [vix2]
  rw [show (constant SX FTy.f32 0x00000000#32 : FVec Ideal SX .f32) (ix2 r k) = 0 from by pointwise, zero_add]
  exact Finset.sum_congr rfl fun q _ => by rw [ld_wo]

theorem mixV_apply (x : FVec Ideal SX .f32) (ys ya : FVec Ideal SY .bf16) (w : SWo.Idx → Elt Ideal .bf16) (g1 : FVec Ideal SVc .f32) (r : Fin 256) (k : Fin 1024) :
    mixV x ys ya w g1 (ix2 r k) = x (ix2 r k) + g1 (ix3 0 0 k) * (∑ q : Fin 512, ys (ix2 r q) * w (ix2 ⟨q.val, by omega⟩ k) + ∑ q : Fin 512, ya (ix2 r q) * w (ix2 ⟨512 + q.val, by omega⟩ k)) := by
  have h0 := halfMixV_apply ys w 0 r k
  have h1 := halfMixV_apply ya w 1 r k
  have e0 : ∀ q : Fin 512, (⟨512 * (0 : Fin 2).val + q.val, by have := q.isLt; simp; omega⟩ : Fin 1024) = ⟨q.val, by omega⟩ := fun q => Fin.ext (by simp)
  have e1 : ∀ q : Fin 512, (⟨512 * (1 : Fin 2).val + q.val, by have := q.isLt; simp; omega⟩ : Fin 1024) = ⟨512 + q.val, by omega⟩ := fun q => Fin.ext (by simp)
  simp only [e0] at h0
  simp only [e1] at h1
  rw [← h0, ← h1]
  unfold mixV
  generalize halfMixV ys w 0 = a
  generalize halfMixV ya w 1 = b
  pointwise

end Cert.Ffn
end
-- ==== Proof.Blocks2.lean ====
/-
  THE FIRST LAYER'S FEED-FORWARD KERNEL'S BLOCKS, over the extended reals: each window's block at a grid point, read from
  the program's arguments at the tile's global row numbers.
-/
module
public import proofs.«01_k».proof.Proof.Block2
public import proofs.«01_k».proof.Proof.MixIdeal
public import Idealize.ShloMosaic.Lib.Pipeline.ValueKit
@[expose] public section
set_option maxRecDepth 16384
noncomputable section
namespace Cert.Kernel2Ideal.Blk
open Cert.Kernel2Ideal Cert.Kernel2Ideal.Gen Idealize.ShloMosaic Idealize.ShloMosaic.TcCoe Idealize.SL.Sem Idealize.ShloMosaic.Tactic

theorem pay2_apply (i : S11x8x256.Idx) : k0_pay2 (F := Ideal) i = 0 := by
  unfold_payloads
  simp only [shapeCast_self]
  pointwise

/-- Where each window's block starts, at each grid point. -/
theorem idx : ∀ t : Fin cfg0.N, t.val < 128 ∧ win0_0.index t 0 = t.val ∧ win0_0.index t 1 = 0
    ∧ win0_1.index t 0 = t.val ∧ win0_1.index t 1 = 0 ∧ win0_2.index t 0 = t.val ∧ win0_2.index t 1 = 0
    ∧ win0_3.index t 0 = 0 ∧ win0_3.index t 1 = 0
    ∧ win0_4.index t 0 = t.val / 16 ∧ win0_4.index t 1 = 0 ∧ win0_4.index t 2 = 0
    ∧ win0_5.index t 0 = 0 ∧ win0_5.index t 1 = 0
    ∧ win0_6.index t 0 = t.val / 16 ∧ win0_6.index t 1 = 0 ∧ win0_6.index t 2 = 0
    ∧ win0_7.index t 0 = t.val / 16 ∧ win0_7.index t 1 = 0 ∧ win0_7.index t 2 = 0
    ∧ win0_8.index t 0 = t.val / 16 ∧ win0_8.index t 1 = 0 ∧ win0_8.index t 2 = 0
    ∧ win0_9.index t 0 = 0 ∧ win0_9.index t 1 = 0 ∧ win0_9.index t 2 = 0
    ∧ win0_10.index t 0 = 0 ∧ win0_10.index t 1 = 0 ∧ win0_10.index t 2 = 0
    ∧ win0_11.index t 0 = 0 ∧ win0_11.index t 1 = 0
    ∧ win0_12.index t 0 = 0 ∧ win0_12.index t 1 = 0 ∧ win0_12.index t 2 = 0
    ∧ win0_14.index t 0 = t.val ∧ win0_14.index t 1 = 0 :=
  (by decide +kernel : ∀ t : Fin grid0.N, _)

variable (m : (ℓ : Loc nD τ sig) → Buf (Elt Ideal) ℓ) (c : Dev nD)

/-- The arguments as functions of coordinates. -/
def aX0 (R : ℕ) (k : Fin 1024) : EReal := m ((c : Thread nD τ).loc main_arg0) (ix3 (Ffn.bOf R) (Ffn.rOf R) k)
def aYs (R : ℕ) (q : Fin 512) : EReal := m ((c : Thread nD τ).loc main_arg1) (ix3 (Ffn.bOf R) (Ffn.rOf R) q)
def aYa (R : ℕ) (q : Fin 512) : EReal := m ((c : Thread nD τ).loc main_arg2) (ix3 (Ffn.bOf R) (Ffn.rOf R) q)
def aWo (q : Fin 1024) (k : Fin 1024) : EReal := m ((c : Thread nD τ).loc main_arg3) (ix3 0 q k)
def aG1 (b : Fin 8) (k : Fin 1024) : EReal := m ((c : Thread nD τ).loc main_arg4) (ix2 b k)
def aG (k : Fin 1024) : EReal := m ((c : Thread nD τ).loc main_arg5) (ix3 0 1 k)
def aSh (b : Fin 8) (k : Fin 1024) : EReal := m ((c : Thread nD τ).loc main_arg6) (ix2 b k)
def aSc (b : Fin 8) (k : Fin 1024) : EReal := m ((c : Thread nD τ).loc main_arg7) (ix2 b k)
def aGt (b : Fin 8) (k : Fin 1024) : EReal := m ((c : Thread nD τ).loc main_arg8) (ix2 b k)
def aWu (k : Fin 1024) (n : Fin 2816) : EReal := m ((c : Thread nD τ).loc main_arg9) (ix3 0 k n)
def aWg (k : Fin 1024) (n : Fin 2816) : EReal := m ((c : Thread nD τ).loc main_arg10) (ix3 0 k n)
def aCw (a : Fin 3) (n : Fin 2816) : EReal := m ((c : Thread nD τ).loc main_arg11) (ix3 0 a n)
def aCb (n : Fin 2816) : EReal := m ((c : Thread nD τ).loc main_arg12) (ix2 0 n)
def aWd (n : Fin 2816) (k : Fin 1024) : EReal := m ((c : Thread nD τ).loc main_arg13) (ix3 0 n k)
/-- The activation after the mixers. -/
def aX : ℕ → Fin 1024 → EReal := Ffn.res (aX0 m c) (aG1 m c) (Ffn.mixed (aYs m c) (aYa m c) (aWo m c))

theorem blk0 (t : Fin cfg0.N) (r : Fin 256) (k : Fin 1024) : iblk m c 0 t (ix2 r k) = aX0 m c (256 * t.val + r.val) k := by
  unfold aX0 Ffn.bOf Ffn.rOf
  blk_ext! [iblk, V, idx t]
theorem blk1 (t : Fin cfg0.N) (r : Fin 256) (q : Fin 512) : iblk m c 1 t (ix2 r q) = aYs m c (256 * t.val + r.val) q := by
  unfold aYs Ffn.bOf Ffn.rOf
  blk_ext! [iblk, V, idx t]
theorem blk2 (t : Fin cfg0.N) (r : Fin 256) (q : Fin 512) : iblk m c 2 t (ix2 r q) = aYa m c (256 * t.val + r.val) q := by
  unfold aYa Ffn.bOf Ffn.rOf
  blk_ext! [iblk, V, idx t]
theorem blk3 (t : Fin cfg0.N) (q k : Fin 1024) : iblk m c 3 t (ix2 q k) = aWo m c q k := by
  unfold aWo
  blk_ext! [iblk, V, idx t]
theorem blk4 (t : Fin cfg0.N) (r : Fin 256) (k : Fin 1024) : iblk m c 4 t (ix3 0 0 k) = aG1 m c (Ffn.bOf (256 * t.val + r.val)) k := by
  unfold aG1 Ffn.bOf
  blk_ext! [iblk, V, idx t]
theorem blk5 (t : Fin cfg0.N) (k : Fin 1024) : iblk m c 5 t (ix2 0 k) = aG m c k := by
  unfold aG
  blk_ext! [iblk, V, idx t]
theorem blk6 (t : Fin cfg0.N) (r : Fin 256) (k : Fin 1024) : iblk m c 6 t (ix3 0 0 k) = aSc m c (Ffn.bOf (256 * t.val + r.val)) k := by
  unfold aSc Ffn.bOf
  blk_ext! [iblk, V, idx t]
theorem blk7 (t : Fin cfg0.N) (r : Fin 256) (k : Fin 1024) : iblk m c 7 t (ix3 0 0 k) = aSh m c (Ffn.bOf (256 * t.val + r.val)) k := by
  unfold aSh Ffn.bOf
  blk_ext! [iblk, V, idx t]
theorem blk8 (t : Fin cfg0.N) (r : Fin 256) (k : Fin 1024) : iblk m c 8 t (ix3 0 0 k) = aGt m c (Ffn.bOf (256 * t.val + r.val)) k := by
  unfold aGt Ffn.bOf
  blk_ext! [iblk, V, idx t]
theorem blk9 (t : Fin cfg0.N) (k : Fin 1024) (n : Fin 2816) : iblk m c 9 t (ix3 0 k n) = aWg m c k n := by
  unfold aWg
  blk_ext! [iblk, V, idx t]
theorem blk10 (t : Fin cfg0.N) (k : Fin 1024) (n : Fin 2816) : iblk m c 10 t (ix3 0 k n) = aWu m c k n := by
  unfold aWu
  blk_ext! [iblk, V, idx t]
theorem blk11 (t : Fin cfg0.N) (a : Fin 4) (n : Fin 2816) : iblk m c 11 t (ix2 a n) = Ffn.taps (aCw m c) (aCb m c) a n := by
  have h1 : iblk m c 11 t (ix2 a n) = V m c main_v5 (ix2 a n) := by blk_ext [iblk, idx t]
  rw [h1]
  unfold Ffn.taps aCw aCb
  entry_read
  pointwise
theorem blk12 (t : Fin cfg0.N) (k : Fin 1024) (n : Fin 2816) : iblk m c 12 t (ix3 0 n k) = aWd m c n k := by
  unfold aWd
  blk_ext! [iblk, V, idx t]

end Cert.Kernel2Ideal.Blk
end
-- ==== Proof.Value2.lean ====
/-
  THE FIRST LAYER'S FEED-FORWARD KERNEL'S RESULT: by what each point leaves carried, every tile computes the layer of its rows, so
  the array the run leaves is the layer's result row by row.
-/
module
public import proofs.«01_k».proof.Proof.Blocks2
@[expose] public section
set_option maxRecDepth 16384
noncomputable section
namespace Cert.Kernel2Ideal.Blk
open Cert.Kernel2Ideal Cert.Kernel2Ideal.Gen Idealize.ShloMosaic Idealize.ShloMosaic.TcCoe Idealize.SL.Sem Idealize.ShloMosaic.Tactic

variable (m : (ℓ : Loc nD τ sig) → Buf (Elt Ideal) ℓ) (c : Dev nD)

/-- The layer's modulated activations, row by row. -/
def H (R : ℕ) (k : Fin 1024) : EReal := Ffn.hid (aX m c) (aG m c) (aSc m c) (aSh m c) R k

theorem x_tile (t : Fin cfg0.N) (r : Fin 256) (k : Fin 1024) :
    (Ffn.mixV (F := Ideal) (iblk m c 0 t) (iblk m c 1 t) (iblk m c 2 t) (iblk m c 3 t) (iblk m c 4 t)) (ix2 r k) = aX m c (256 * t.val + r.val) k := by
  rw [Ffn.mixV_apply]
  simp only [blk0, blk1, blk2, blk3, blk4 m c t r]
  rfl

theorem h_tile (t : Fin cfg0.N) (r : Fin 256) (k : Fin 1024) :
    (Ffn.hV (F := Ideal) (Ffn.mixV (F := Ideal) (iblk m c 0 t) (iblk m c 1 t) (iblk m c 2 t) (iblk m c 3 t) (iblk m c 4 t)) (iblk m c 5 t) (iblk m c 6 t) (iblk m c 7 t)) (ix2 r k) = H m c (256 * t.val + r.val) k := by
  rw [Ffn.hV_apply, Ffn.normV_apply]
  simp only [x_tile, blk5, blk6 m c t r, blk7 m c t r]
  rfl

theorem wg_tile (t : Fin cfg0.N) : (fun k n => iblk m c 9 t (ix3 0 k n)) = aWg m c := by
  funext k n; exact blk9 m c t k n
theorem wu_tile (t : Fin cfg0.N) : (fun k n => iblk m c 10 t (ix3 0 k n)) = aWu m c := by
  funext k n; exact blk10 m c t k n
theorem cw_tile (t : Fin cfg0.N) : (fun a n => iblk m c 11 t (ix2 a n)) = Ffn.taps (aCw m c) (aCb m c) := by
  funext k n; exact blk11 m c t k n
theorem wd_tile (t : Fin cfg0.N) : (fun n k => iblk m c 12 t (ix3 0 n k)) = aWd m c := by
  funext n k; exact blk12 m c t k n

/-- What a point leaves carried: the gate projection of its last eight rows. -/
theorem carry (n : ℕ) (hn : n < cfg0.N) (j : Fin 11) (i : Fin 8) (l : Fin 256) :
    (outsAt0 m c n hn).2 (ix3 j i l) = Ffn.proj (H m c) (aWg m c) (256 * n + 248 + i.val) ⟨256 * j.val + l.val, by omega⟩ := by
  have key := Ffn.last_tile n _ (iblk m c 9 ⟨n, hn⟩) (H m c) (h_tile m c ⟨n, hn⟩) j i l
  rw [wg_tile] at key
  rw [← key]
  by_cases h0 : n % 16 = 0
  · rw [outsAt0_A m c ⟨n, hn⟩ h0]
    dsimp only
    rw [sout_A]
  · rw [outsAt0_B m c ⟨n, hn⟩ h0]
    dsimp only
    rw [sout_B]

/-- The layer's result, row by row. -/
def out (R : ℕ) (k : Fin 1024) : EReal :=
  Ffn.res (aX m c) (aGt m c) (Ffn.ffn (H m c) (aWg m c) (aWu m c) (Ffn.taps (aCw m c) (aCb m c)) (aWd m c)) R k

theorem out_tile (t : Fin cfg0.N) (xs : Vec Ideal S11x8x256 .f32)
    (hx : ∀ (j : Fin 11) (i : Fin 8) (l : Fin 256), xs (ix3 j i l) =
      if t.val % 16 = 0 then 0 else Ffn.proj (H m c) (aWg m c) (256 * t.val - 8 + i.val) ⟨256 * j.val + l.val, by omega⟩)
    (r : Fin 256) (k : Fin 1024) :
    Ffn.resV (F := Ideal) (Ffn.mixV (F := Ideal) (iblk m c 0 t) (iblk m c 1 t) (iblk m c 2 t) (iblk m c 3 t) (iblk m c 4 t)) (iblk m c 8 t) (Ffn.accV (Ffn.hV (F := Ideal) (Ffn.mixV (F := Ideal) (iblk m c 0 t) (iblk m c 1 t) (iblk m c 2 t) (iblk m c 3 t) (iblk m c 4 t)) (iblk m c 5 t) (iblk m c 6 t) (iblk m c 7 t))
      (iblk m c 9 t) (iblk m c 10 t) (iblk m c 11 t) (iblk m c 12 t) xs) (ix2 r k) = out m c (256 * t.val + r.val) k := by
  rw [← wg_tile m c t] at hx
  have key := fun k => Ffn.acc_tile t.val _ (iblk m c 9 t) (iblk m c 10 t) (iblk m c 11 t) (iblk m c 12 t) xs (H m c) (h_tile m c t) hx r k
  rw [wg_tile, wu_tile, cw_tile, wd_tile] at key
  simp only [Ffn.resV_apply, key, x_tile, blk8 m c t r]
  rfl

/-- What a point writes out. -/
theorem out_at (n : ℕ) (hn : n < cfg0.N) (r : Fin 256) (k : Fin 1024) :
    (outsAt0 m c n hn).1 (ix2 r k) = out m c (256 * n + r.val) k := by
  by_cases h0 : n % 16 = 0
  · rw [outsAt0_A m c ⟨n, hn⟩ h0]
    dsimp only
    rw [out_A]
    exact out_tile m c ⟨n, hn⟩ _ (fun j i l => by rw [pay2_apply, if_pos h0]) r k
  · rw [outsAt0_B m c ⟨n, hn⟩ h0]
    dsimp only
    rw [out_B]
    refine out_tile m c ⟨n, hn⟩ _ (fun j i l => ?_) r k
    rw [if_neg h0, carry]
    congr 1
    simp only []
    omega

/-- The array the run leaves. -/
theorem G14_apply (R : Fin 32768) (k : Fin 1024) : Value.G14 m c (ix2 R k) = out m c R.val k := by
  have hR := R.isLt
  have hk := k.isLt
  have hp : Value.pt14Of (ix2 R k) = R.val / 256 := by
    show 1 * (R.val / 256 - 0) + 1 * (k.val / 1024 - 0) = _
    omega
  have hN : Value.pt14Of (ix2 R k) < cfg0.N := by rw [hp, show cfg0.N = 128 from N_0]; omega
  unfold Value.G14
  rw [dif_pos hN, ← Value.outsAt0_sweep m c _ hN]
  have hl : Value.loc14Of (ix2 R k) = ix2 ⟨R.val % 256, by omega⟩ k := by
    funext a; apply Fin.ext
    match a with
    | ⟨0, _⟩ => rfl
    | ⟨1, _⟩ => show k.val % 1024 = k.val; omega
  rw [hl, out_at]
  congr 1
  rw [hp]
  simp only []
  omega

end Cert.Kernel2Ideal.Blk
end
-- ==== Proof.Ref2.lean ====
/-
  THE REFERENCE OF THE FIRST LAYER'S FEED-FORWARD READ AT AN INDEX: its result at row `R` is the layer of Spec.lean over
  the activation after the mixers, the padded products being the gate projection of the rows above.
-/
module
public import proofs.«01_k».proof.Proof.Gen.Reference2Ideal.Read
public import proofs.«01_k».proof.Proof.MixSpec
public import Idealize.ShloMosaic.Lib.Pointwise
public import Idealize.ShloMosaic.Lib.Pointwise.Tactic
@[expose] public section
set_option maxRecDepth 16384
noncomputable section
namespace Cert.Reference2Ideal.Rd
open Cert.Reference2Ideal Cert.Reference2Ideal.Read Cert.Ffn Idealize.ShloMosaic Idealize.ShloMosaic.TcCoe Idealize.SL.Sem Idealize.ShloMosaic.Tactic

variable (x0 : (⟨S8x4096x1024, .f32⟩ : BufTy).Contents (Elt Ideal)) (x1 x2 : (⟨S8x4096x512, .bf16⟩ : BufTy).Contents (Elt Ideal))
  (x3 : (⟨S1x1024x1024, .f32⟩ : BufTy).Contents (Elt Ideal)) (x4 : (⟨S8x1024, .f32⟩ : BufTy).Contents (Elt Ideal))
  (x5 : (⟨S2x2x1024, .f32⟩ : BufTy).Contents (Elt Ideal))
  (x6 x7 x8 : (⟨S8x1024, .f32⟩ : BufTy).Contents (Elt Ideal)) (x9 x10 : (⟨S2x1024x2816, .f32⟩ : BufTy).Contents (Elt Ideal))
  (x11 : (⟨S2x3x2816, .f32⟩ : BufTy).Contents (Elt Ideal)) (x12 : (⟨S2x2816, .f32⟩ : BufTy).Contents (Elt Ideal))
  (x13 : (⟨S2x2816x1024, .f32⟩ : BufTy).Contents (Elt Ideal))

/-- The activation after the mixers. -/
def X : ℕ → Fin 1024 → EReal := res (fun R k => x0 (ix3 (bOf R) (rOf R) k)) (fun b k => x4 (ix2 b k))
  (mixed (fun R q => x1 (ix3 (bOf R) (rOf R) q)) (fun R q => x2 (ix3 (bOf R) (rOf R) q)) (fun q k => x3 (ix3 0 q k)))
def H : ℕ → Fin 1024 → EReal := hid (X x0 x1 x2 x3 x4) (fun k => x5 (ix3 0 1 k)) (fun b k => x7 (ix2 b k)) (fun b k => x6 (ix2 b k))

theorem v4 (R : ℕ) (k : Fin 1024) : val_main_v4 x1 x2 x3 (ix3 (bOf R) (rOf R) k) =
    mixed (fun R q => x1 (ix3 (bOf R) (rOf R) q)) (fun R q => x2 (ix3 (bOf R) (rOf R) q)) (fun q k => x3 (ix3 0 q k)) R k := by
  rw [← mixed_eq]
  simp only []
  generalize bOf R = b
  generalize rOf R = r
  pointwise [val_main_v4, val_main_v3, val_main_v2, val_main_v1, val_main_v0]

theorem v8 (R : ℕ) (k : Fin 1024) : val_main_v8 x0 x1 x2 x3 x4 (ix3 (bOf R) (rOf R) k) = X x0 x1 x2 x3 x4 R k := by
  unfold X res
  rw [← v4]
  dsimp only
  unfold val_main_v8 val_main_v7
  generalize val_main_v4 x1 x2 x3 = y
  generalize bOf R = b
  generalize rOf R = r
  pointwise [val_main_v6, val_main_v5]

theorem v31 (R : ℕ) (k : Fin 1024) : val_main_v31 x0 x1 x2 x3 x4 x5 x6 x7 (ix3 (bOf R) (rOf R) k) = H x0 x1 x2 x3 x4 x5 x6 x7 R k := by
  unfold H hid rmsn
  simp only [← v8]
  generalize bOf R = b
  generalize rOf R = r
  unfold val_main_v31 val_main_v28 val_main_v23 val_main_v20 val_main_v19 val_main_v18 val_main_v17 val_main_v15 val_main_v13 val_main_v12 val_main_v11
  generalize val_main_v8 x0 x1 x2 x3 x4 = y
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2]

theorem v43 (R : ℕ) (n : Fin 2816) : val_main_v43 x0 x1 x2 x3 x4 x5 x6 x7 x10 (ix3 (bOf R) (rOf R) n) = proj (H x0 x1 x2 x3 x4 x5 x6 x7) (fun k n => x10 (ix3 0 k n)) R n := by
  unfold proj
  simp only [← v31]
  generalize bOf R = b
  generalize rOf R = r
  unfold val_main_v43
  generalize val_main_v31 x0 x1 x2 x3 x4 x5 x6 x7 = y
  pointwise [val_main_v36, val_main_v35]

theorem v77 (R : ℕ) (n : Fin 2816) : val_main_v77 x0 x1 x2 x3 x4 x5 x6 x7 x9 (ix3 (bOf R) (rOf R) n) = proj (H x0 x1 x2 x3 x4 x5 x6 x7) (fun k n => x9 (ix3 0 k n)) R n := by
  unfold proj
  simp only [← v31]
  generalize bOf R = b
  generalize rOf R = r
  unfold val_main_v77
  generalize val_main_v31 x0 x1 x2 x3 x4 x5 x6 x7 = y
  pointwise [val_main_v34, val_main_v33]

theorem v44 (b : Fin 8) (s : Fin 4098) (n : Fin 2816) : val_main_v44 x0 x1 x2 x3 x4 x5 x6 x7 x10 (ix3 b s n) =
    if h : 2 ≤ s.val then val_main_v43 x0 x1 x2 x3 x4 x5 x6 x7 x10 (ix3 b ⟨s.val - 2, by omega⟩ n) else 0 := by
  unfold val_main_v44
  generalize val_main_v43 x0 x1 x2 x3 x4 x5 x6 x7 x10 = y
  have h0 : (FloatOps.sitofp FTy.f32 0#32 : Ideal .f32) = 0 := by
    show (((0#32 : BitVec 32).toInt : ℝ) : EReal) = 0
    simp
  pointwise [val_main_call0_v0, val_main_c]
  rw [h0]
  by_cases h : 2 ≤ s.val
  · rw [dif_pos ⟨h, by omega⟩, dif_pos h]
  · rw [dif_neg (by omega), dif_neg h]

theorem shifted (d : ℕ) (hd : d ≤ 2) (R : ℕ) (n : Fin 2816) (s : Fin 4098) (hs : s.val + d = R % 4096 + 2) :
    val_main_v44 x0 x1 x2 x3 x4 x5 x6 x7 x10 (ix3 (bOf R) s n) = prev (H x0 x1 x2 x3 x4 x5 x6 x7) (fun k n => x10 (ix3 0 k n)) d R n := by
  rw [v44]
  unfold prev
  by_cases h : d ≤ R % 4096
  · rw [dif_pos (by omega), if_pos h, ← v43]
    congr 2
    · apply Fin.ext; show R / 4096 % 8 = (R - d) / 4096 % 8; omega
    · apply Fin.ext; show s.val - 2 = (R - d) % 4096; omega
  · rw [dif_neg (by omega), if_neg h]

theorem v69 (R : ℕ) (n : Fin 2816) : val_main_v69 x0 x1 x2 x3 x4 x5 x6 x7 x10 x11 x12 (ix3 (bOf R) (rOf R) n) =
    conv (H x0 x1 x2 x3 x4 x5 x6 x7) (fun k n => x10 (ix3 0 k n)) (taps (fun a n => x11 (ix3 0 a n)) (fun n => x12 (ix2 0 n))) R n := by
  have h2 := shifted x0 x1 x2 x3 x4 x5 x6 x7 x10 2 (by omega) R n ⟨(rOf R).val, by omega⟩ (by show R % 4096 + 2 = _; omega)
  have h1 := shifted x0 x1 x2 x3 x4 x5 x6 x7 x10 1 (by omega) R n ⟨1 + (rOf R).val, by omega⟩ (by show 1 + R % 4096 + 1 = _; omega)
  have h0 := shifted x0 x1 x2 x3 x4 x5 x6 x7 x10 0 (by omega) R n ⟨2 + (rOf R).val, by omega⟩ (by show 2 + R % 4096 + 0 = _; omega)
  have e0 : prev (H x0 x1 x2 x3 x4 x5 x6 x7) (fun k n => x10 (ix3 0 k n)) 0 R n = proj (H x0 x1 x2 x3 x4 x5 x6 x7) (fun k n => x10 (ix3 0 k n)) R n := rfl
  unfold conv
  rw [← h2, ← h1, ← e0, ← h0]
  unfold taps
  unfold val_main_v69 val_main_v66 val_main_v59 val_main_v52 val_main_v65 val_main_v58 val_main_v50 val_main_v62 val_main_v55 val_main_v47
  generalize val_main_v44 x0 x1 x2 x3 x4 x5 x6 x7 x10 = y
  pointwise [val_main_v51, val_main_cst_3, val_main_v49, val_main_v48, val_main_v46, val_main_v45, val_main_v38, val_main_v37, val_main_v57, val_main_v56, val_main_v54, val_main_v53, val_main_v64, val_main_v63, val_main_v61, val_main_v60, val_main_v68, val_main_v67, val_main_v40, val_main_v39]

theorem v78 (R : ℕ) (n : Fin 2816) : val_main_v78 x0 x1 x2 x3 x4 x5 x6 x7 x9 x10 x11 x12 (ix3 (bOf R) (rOf R) n) =
    siluL (conv (H x0 x1 x2 x3 x4 x5 x6 x7) (fun k n => x10 (ix3 0 k n)) (taps (fun a n => x11 (ix3 0 a n)) (fun n => x12 (ix2 0 n))) R n)
      * proj (H x0 x1 x2 x3 x4 x5 x6 x7) (fun k n => x9 (ix3 0 k n)) R n := by
  rw [← v69, ← v77]
  unfold val_main_v78 siluL
  generalize val_main_v77 x0 x1 x2 x3 x4 x5 x6 x7 x9 = z
  unfold val_main_v76 val_main_v75 val_main_v73 val_main_v71 val_main_v70
  generalize val_main_v69 x0 x1 x2 x3 x4 x5 x6 x7 x10 x11 x12 = y
  generalize bOf R = b
  generalize rOf R = r
  pointwise [val_main_v74, val_main_cst_5, val_main_v72, val_main_cst_4]
  rfl

/-- The reference's result before the last reshape. -/
def out : ℕ → Fin 1024 → EReal :=
  res (X x0 x1 x2 x3 x4) (fun b k => x8 (ix2 b k)) (ffn (H x0 x1 x2 x3 x4 x5 x6 x7) (fun k n => x10 (ix3 0 k n)) (fun k n => x9 (ix3 0 k n))
    (taps (fun a n => x11 (ix3 0 a n)) (fun n => x12 (ix2 0 n))) (fun n k => x13 (ix3 0 n k)))

theorem v79 (R : ℕ) (k : Fin 1024) : val_main_v79 x0 x1 x2 x3 x4 x5 x6 x7 x9 x10 x11 x12 x13 (ix3 (bOf R) (rOf R) k) =
    ffn (H x0 x1 x2 x3 x4 x5 x6 x7) (fun k n => x10 (ix3 0 k n)) (fun k n => x9 (ix3 0 k n))
      (taps (fun a n => x11 (ix3 0 a n)) (fun n => x12 (ix2 0 n))) (fun n k => x13 (ix3 0 n k)) R k := by
  unfold ffn
  simp only [← v78]
  generalize bOf R = b
  generalize rOf R = r
  unfold val_main_v79
  generalize val_main_v78 x0 x1 x2 x3 x4 x5 x6 x7 x9 x10 x11 x12 = y
  pointwise [val_main_v42, val_main_v41]

theorem v82 (R : ℕ) (k : Fin 1024) : val_main_v82 x0 x1 x2 x3 x4 x5 x6 x7 x8 x9 x10 x11 x12 x13 (ix3 (bOf R) (rOf R) k) = out x0 x1 x2 x3 x4 x5 x6 x7 x8 x9 x10 x11 x12 x13 R k := by
  unfold out res
  simp only [← v79, ← v8]
  unfold val_main_v82 val_main_v81
  generalize val_main_v79 x0 x1 x2 x3 x4 x5 x6 x7 x9 x10 x11 x12 x13 = z
  generalize val_main_v8 x0 x1 x2 x3 x4 = y
  generalize bOf R = b
  generalize rOf R = r
  pointwise [val_main_v80, val_main_v32]

theorem v83 (R : Fin 32768) (k : Fin 1024) : val_main_v83 x0 x1 x2 x3 x4 x5 x6 x7 x8 x9 x10 x11 x12 x13 (ix2 R k) = out x0 x1 x2 x3 x4 x5 x6 x7 x8 x9 x10 x11 x12 x13 R.val k := by
  rw [← v82]
  unfold val_main_v83
  generalize val_main_v82 x0 x1 x2 x3 x4 x5 x6 x7 x8 x9 x10 x11 x12 x13 = y
  have hR := R.isLt
  pointwise
  refine congrArg y ?_
  congr 1
  apply Fin.ext
  show R.val / 4096 = R.val / 4096 % 8
  omega

end Cert.Reference2Ideal.Rd
end
-- ==== Proof.Tie2.lean ====
/-
  THE FIRST LAYER'S FEED-FORWARD, KERNEL AGAINST REFERENCE: where the arguments agree, the array the kernel's run leaves and the
  reference's result are one function of the row and the column.
-/
module
public import proofs.«01_k».proof.Proof.Value2
public import proofs.«01_k».proof.Proof.Ref2
@[expose] public section
noncomputable section
namespace Cert.Tie
open Idealize.ShloMosaic Idealize.ShloMosaic.TcCoe Idealize.SL.Sem Idealize.ShloMosaic.Tactic

theorem ffn2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v83 (F := Ideal) (m ((c.tc : Thread _ _).loc Cert.Kernel2Ideal.main_arg0))
      (m ((c.tc : Thread _ _).loc Cert.Kernel2Ideal.main_arg1))
      (m ((c.tc : Thread _ _).loc Cert.Kernel2Ideal.main_arg2))
      (m ((c.tc : Thread _ _).loc Cert.Kernel2Ideal.main_arg3))
      (m ((c.tc : Thread _ _).loc Cert.Kernel2Ideal.main_arg4))
      (m ((c.tc : Thread _ _).loc Cert.Kernel2Ideal.main_arg5))
      (m ((c.tc : Thread _ _).loc Cert.Kernel2Ideal.main_arg6))
      (m ((c.tc : Thread _ _).loc Cert.Kernel2Ideal.main_arg7))
      (m ((c.tc : Thread _ _).loc Cert.Kernel2Ideal.main_arg8))
      (m ((c.tc : Thread _ _).loc Cert.Kernel2Ideal.main_arg9))
      (m ((c.tc : Thread _ _).loc Cert.Kernel2Ideal.main_arg10))
      (m ((c.tc : Thread _ _).loc Cert.Kernel2Ideal.main_arg11))
      (m ((c.tc : Thread _ _).loc Cert.Kernel2Ideal.main_arg12))
      (m ((c.tc : Thread _ _).loc Cert.Kernel2Ideal.main_arg13))
    = Cert.Kernel2Ideal.Value.G14 m c := by
  funext i
  have hi : i = ix2 (i 0) (i 1) := by
    funext a
    match a with
    | ⟨0, _⟩ => rfl
    | ⟨1, _⟩ => rfl
  rw [hi]
  exact (Cert.Reference2Ideal.Rd.v83 _ _ _ _ _ _ _ _ _ _ _ _ _ _ (i 0) (i 1)).trans (Cert.Kernel2Ideal.Blk.G14_apply m c (i 0) (i 1)).symm

end Cert.Tie
end
-- ==== Proof.Strip.lean ====
/-
  READING EVERY FOURTH ROW BACK. The input projection writes its first 512 columns into a scratch block of four strips of
  128 columns, all 1024 rows of each, and reads each strip back with a row stride of four from row `s`: row `i` of what it
  reads is row `4 i + s` of the strip. The reads meet no other strip.
-/
module

public import Idealize.ShloMosaic.Lib.Pipeline.ValueKit
public import Idealize.ShloMosaic.Lib.ValueIdx

@[expose] public section

noncomputable section

namespace Cert.Inp

open Idealize.ShloMosaic Idealize.SL.Sem

abbrev SStr : Shape := ⟨3, ![4, 1024, 128]⟩
abbrev SOne : Shape := ⟨3, ![1, 1024, 128]⟩
abbrev SFour : Shape := ⟨3, ![1, 256, 128]⟩
abbrev SU : Shape := ⟨3, ![4, 256, 512]⟩
abbrev SU1 : Shape := ⟨3, ![1, 256, 512]⟩

variable {F : FTy → Type} [FloatOps F]

/-- Every fourth row of a strip, from row `s`. -/
def fourth (s : ℕ) (w : SOne.Idx → Elt F .f32) : SFour.Idx → Elt F .f32 := fun y =>
  w (ix3 0 ⟨(s + 4 * (y 1).val) % 1024, Nat.mod_lt _ (by omega)⟩ (y 2))

/-- A store at another strip is not met. -/
theorem skip_strip {sig : RefSig} {κ : Kind} {sp : Space} (v : View sig κ sp SStr .f32) (l l' s : ℕ) (inb inb')
    (w : _) (L : List (View.Piece (Elt F) SStr .f32)) (h : l ≠ l') :
    v.readCov ((⟨Rect.unit (s := SStr) ![l', 0, 0] ![1, 1024, 128] inb', w⟩ : View.Piece (Elt F) SStr .f32) :: L)
      (⟨![l, s, 0], ![1, 256, 128], ![1, 4, 1], inb⟩ : LoadRect SStr)
    = v.readCov L (⟨![l, s, 0], ![1, 256, 128], ![1, 4, 1], inb⟩ : LoadRect SStr) := by
  rw [View.readCov_eq_canon', View.readCov_eq_canon']
  funext y
  refine View.canon_cons_of_not_mem _ _ fun hm => ?_
  obtain ⟨x, hx⟩ := LoadRect.exists_idx_of_mem _ hm
  have h1 := congrArg (fun t : SStr.Idx => (t 0).val) hx
  have hx1 : (x 0).val < 1 := (x 0).isLt
  have hy1 : (y 0).val < 1 := (y 0).isLt
  have e1 : l' + 1 * (x 0).val = l + 1 * (y 0).val := h1
  omega

/-- The read of a strip just stored. -/
theorem read_strip {sig : RefSig} {κ : Kind} {sp : Space} (v : View sig κ sp SStr .f32) (l s : ℕ) (inb inb')
    (w : SOne.Idx → Elt F .f32) (L : List (View.Piece (Elt F) SStr .f32)) (hs : s < 4) :
    v.readCov ((⟨Rect.unit (s := SStr) ![l, 0, 0] ![1, 1024, 128] inb', w⟩ : View.Piece (Elt F) SStr .f32) :: L)
      (⟨![l, s, 0], ![1, 256, 128], ![1, 4, 1], inb⟩ : LoadRect SStr)
    = fourth s w := by
  rw [View.readCov_eq_canon']
  funext y
  have y0 : (y 0).val < 1 := (y 0).isLt
  have y1 : (y 1).val < 256 := (y 1).isLt
  unfold fourth
  have e : (⟨![l, s, 0], ![1, 256, 128], ![1, 4, 1], inb⟩ : LoadRect SStr).idx y
      = (Rect.unit (s := SStr) ![l, 0, 0] ![1, 1024, 128] inb').emb (ix3 0 ⟨(s + 4 * (y 1).val) % 1024, Nat.mod_lt _ (by omega)⟩ (y 2)) := by
    funext a
    refine Fin.ext ?_
    match a with
    | 0 => show l + 1 * (y 0).val = l + 1 * 0; omega
    | 1 => show s + 4 * (y 1).val = 0 + 1 * ((s + 4 * (y 1).val) % 1024); omega
    | 2 => rfl
  rw [e]
  exact View.canon_cons_emb _ _ _ _

/-- Of four stores, one slice each, the one at slice `s` is read there. -/
theorem slice_hit (s : ℕ) (inb) (w : SU1.Idx → Elt F .f32) (L : List (View.Piece (Elt F) SU .f32)) (i : Fin 256) (n : Fin 512) (hs : s < 4) :
    View.canon ((⟨Rect.unit (s := SU) ![s, 0, 0] ![1, 256, 512] inb, w⟩ : View.Piece (Elt F) SU .f32) :: L) (ix3 ⟨s, hs⟩ i n) = w (ix3 0 i n) := by
  have e : (ix3 ⟨s, hs⟩ i n : SU.Idx) = (Rect.unit (s := SU) ![s, 0, 0] ![1, 256, 512] inb).emb (ix3 0 i n) := by
    funext a
    refine Fin.ext ?_
    match a with
    | 0 => show s = s + 1 * 0; omega
    | 1 => show i.val = 0 + 1 * i.val; omega
    | 2 => show n.val = 0 + 1 * n.val; omega
  rw [e]
  exact View.canon_cons_emb _ _ _ _
theorem slice_miss (s s' : ℕ) (inb) (w : _) (L : List (View.Piece (Elt F) SU .f32)) (i : Fin 256) (n : Fin 512) (hs : s < 4) (h : s ≠ s') :
    View.canon ((⟨Rect.unit (s := SU) ![s', 0, 0] ![1, 256, 512] inb, w⟩ : View.Piece (Elt F) SU .f32) :: L) (ix3 ⟨s, hs⟩ i n) = View.canon L (ix3 ⟨s, hs⟩ i n) := by
  refine View.canon_cons_of_not_mem _ _ fun hm => ?_
  obtain ⟨x, hx⟩ := LoadRect.exists_idx_of_mem _ hm
  have h1 := congrArg (fun t : SU.Idx => (t 0).val) hx
  have hx1 : (x 0).val < 1 := (x 0).isLt
  have e1 : s' + 1 * (x 0).val = s := h1
  omega

end Cert.Inp
end
-- ==== Proof.Block3.lean ====
/-
  ONE GRID POINT OF THE INPUT PROJECTION: the terms its run found, opened. The queries, keys and values are slices of the
  tile's projection; the first 512 columns are written out by the row's residue mod four.
-/
module

public import proofs.«01_k».proof.Proof.Gen.Kernel3Ideal.Value
public import proofs.«01_k».proof.Proof.Strip
public import Idealize.ShloMosaic.Lib.Pointwise
public import Idealize.ShloMosaic.Lib.Pointwise.Tactic

@[expose] public section
set_option maxRecDepth 16384
noncomputable section
namespace Cert.Kernel3Ideal.Blk
open Cert.Kernel3Ideal Cert.Kernel3Ideal.Gen Idealize.ShloMosaic Idealize.ShloMosaic.TcCoe Idealize.SL.Sem Idealize.ShloMosaic.Tactic
variable {F : FTy → Type} [FloatOps F]
theorem hz2 : (![0, 0] : Fin 2 → Nat) = fun _ => 0 := funext fun a => by fin_cases a <;> rfl
theorem hz3 : (![0, 0, 0] : Fin 3 → Nat) = fun _ => 0 := funext fun a => by fin_cases a <;> rfl

/-- Four strips' rows side by side. -/
theorem cat_apply (a b d e : Vec F S1x256x128 .f32) (j : Fin 256) (n : Fin 512) : k0_pay11 a b d e (ix3 0 j n) =
    if h : n.val < 128 then a (ix3 0 j ⟨n.val, h⟩) else if h : n.val - 128 < 128 then b (ix3 0 j ⟨n.val - 128, h⟩)
    else if h : n.val - 128 - 128 < 128 then d (ix3 0 j ⟨n.val - 128 - 128, h⟩) else e (ix3 0 j ⟨n.val - 128 - 128 - 128, by omega⟩) := by
  pointwise [k0_pay11]

/-- A strip of the projection. -/
theorem strip0 (p : FVec F S1024x2048 .f32) (r : Fin 1024) (n : Fin 128) (h1) (h2) :
    (shapeCast S1x1024x128 (extractStridedSlice S1024x128 ![0, 0] p h1) h2 : FVec F S1x1024x128 .f32) (ix3 0 r n) = p (ix2 r ⟨n.val, by omega⟩) := by pointwise
theorem strip1 (p : FVec F S1024x2048 .f32) (r : Fin 1024) (n : Fin 128) (h1) (h2) :
    (shapeCast S1x1024x128 (extractStridedSlice S1024x128 ![0, 128] p h1) h2 : FVec F S1x1024x128 .f32) (ix3 0 r n) = p (ix2 r ⟨128 + n.val, by omega⟩) := by pointwise
theorem strip2 (p : FVec F S1024x2048 .f32) (r : Fin 1024) (n : Fin 128) (h1) (h2) :
    (shapeCast S1x1024x128 (extractStridedSlice S1024x128 ![0, 256] p h1) h2 : FVec F S1x1024x128 .f32) (ix3 0 r n) = p (ix2 r ⟨256 + n.val, by omega⟩) := by pointwise
theorem strip3 (p : FVec F S1024x2048 .f32) (r : Fin 1024) (n : Fin 128) (h1) (h2) :
    (shapeCast S1x1024x128 (extractStridedSlice S1024x128 ![0, 384] p h1) h2 : FVec F S1x1024x128 .f32) (ix3 0 r n) = p (ix2 r ⟨384 + n.val, by omega⟩) := by pointwise

/-- Every fourth row of the four strips side by side: every fourth row of the first 512 columns. -/
theorem strip_cols (p : FVec F S1024x2048 .f32) (s : ℕ) (hs : s < 4) (j : Fin 256) (n : Fin 512) :
    k0_pay11 (Inp.fourth s (shapeCast S1x1024x128 (extractStridedSlice S1024x128 ![0, 0] p slices_S1024x2048_o0_0_S1024x128) shapeCasts_S1024x128_S1x1024x128))
      (Inp.fourth s (shapeCast S1x1024x128 (extractStridedSlice S1024x128 ![0, 128] p slices_S1024x2048_o0_128_S1024x128) shapeCasts_S1024x128_S1x1024x128))
      (Inp.fourth s (k0_pay9 p)) (Inp.fourth s (k0_pay10 p)) (ix3 0 j n)
    = p (ix2 ⟨4 * j.val + s, by omega⟩ ⟨n.val, by omega⟩) := by
  rw [cat_apply]
  unfold k0_pay9 k0_pay10 Inp.fourth
  have e : (s + 4 * j.val) % 1024 = 4 * j.val + s := by omega
  split
  · refine (strip0 _ _ _ _ _).trans ?_
    congr 2
    exact Fin.ext e
  · split
    · refine (strip1 _ _ _ _ _).trans ?_
      congr 2
      · exact Fin.ext e
      · apply Fin.ext; show 128 + (n.val - 128) = n.val; omega
    · split
      · refine (strip2 _ _ _ _ _).trans ?_
        congr 2
        · exact Fin.ext e
        · apply Fin.ext; show 256 + (n.val - 128 - 128) = n.val; omega
      · refine (strip3 _ _ _ _ _).trans ?_
        congr 2
        · exact Fin.ext e
        · apply Fin.ext; show 384 + (n.val - 128 - 128 - 128) = n.val; omega

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x2048 .bf16) (harg5 : arg5.IsWhole) (arg6 : Memref sig .tc .vmem S4x256x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S4x1024x128 .f32) (harg10 : arg10.IsWhole)
    (x0 : Vec F S1024x1024 .f32) (x1 : Vec F S1x1024 .f32) (x2 : Vec F S1x1x1024 .f32) (x3 : Vec F S1x1x1024 .f32) (x4 : Vec F S1024x2048 .bf16)

/-- The queries the tile writes out. -/
theorem out_q : out0_A_6 c i arg1 harg1 arg2 harg2 arg3 harg3 arg4 harg4 arg5 harg5 arg6 harg6 arg7 harg7 arg8 harg8 arg9 harg9 arg10 harg10 x0 x1 x2 x3 x4 = k0_pay2 (k0_pay5 x0 x1 x2 x3 x4) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S1024x1024) hz2, View.ld_unit_zero (S := S1x1024) hz2, View.ld_unit_zero (S := S1x1x1024) hz3, View.ld_unit_zero (S := S1024x2048) hz2, View.canon_unit_zero (S := S1024x512) hz2]

/-- The keys the tile writes out. -/
theorem out_k : out0_A_7 c i arg1 harg1 arg2 harg2 arg3 harg3 arg4 harg4 arg5 harg5 arg6 harg6 arg7 harg7 arg8 harg8 arg9 harg9 arg10 harg10 x0 x1 x2 x3 x4 = k0_pay3 (k0_pay5 x0 x1 x2 x3 x4) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S1024x1024) hz2, View.ld_unit_zero (S := S1x1024) hz2, View.ld_unit_zero (S := S1x1x1024) hz3, View.ld_unit_zero (S := S1024x2048) hz2, View.canon_unit_zero (S := S1024x512) hz2]

/-- The values the tile writes out. -/
theorem out_v : out0_A_8 c i arg1 harg1 arg2 harg2 arg3 harg3 arg4 harg4 arg5 harg5 arg6 harg6 arg7 harg7 arg8 harg8 arg9 harg9 arg10 harg10 x0 x1 x2 x3 x4 = k0_pay4 (k0_pay5 x0 x1 x2 x3 x4) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S1024x1024) hz2, View.ld_unit_zero (S := S1x1024) hz2, View.ld_unit_zero (S := S1x1x1024) hz3, View.ld_unit_zero (S := S1024x2048) hz2, View.canon_unit_zero (S := S1024x512) hz2]

/-- What the tile writes out of the first 512 columns: at slice `s`, the rows `4 i + s`. -/
theorem out_u (s : Fin 4) (j : Fin 256) (n : Fin 512) : out0_A_5 c i arg1 harg1 arg2 harg2 arg3 harg3 arg4 harg4 arg5 harg5 arg6 harg6 arg7 harg7 arg8 harg8 arg9 harg9 arg10 harg10 x0 x1 x2 x3 x4 (ix3 s j n) = k0_pay5 x0 x1 x2 x3 x4 (ix2 ⟨4 * j.val + s.val, by omega⟩ ⟨n.val, by omega⟩) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp (disch := decide) only [↓ Inp.skip_strip, ↓ Inp.read_strip,
    View.readAt_eq_ld, harg1.read_unread, harg2.read_unread, harg3.read_unread, harg4.read_unread, harg5.read_unread,
    View.ld_unit_zero (S := S1024x1024) hz2, View.ld_unit_zero (S := S1x1024) hz2, View.ld_unit_zero (S := S1x1x1024) hz3, View.ld_unit_zero (S := S1024x2048) hz2]
  obtain ⟨s, hs⟩ := s
  interval_cases s <;> simp (disch := decide) only [Inp.slice_hit, Inp.slice_miss]
  · exact strip_cols _ 0 (by omega) j n
  · exact strip_cols _ 1 (by omega) j n
  · exact strip_cols _ 2 (by omega) j n
  · exact strip_cols _ 3 (by omega) j n

end
end Cert.Kernel3Ideal.Blk
end
-- ==== Proof.Blocks3.lean ====
/-
  THE INPUT PROJECTION'S BLOCKS AND ITS TILE, over the extended reals: each window's block at a grid point, read from the
  program's arguments at the tile's global row numbers, and the tile's projection as a sum over the modulated activations.
-/
module
public import proofs.«01_k».proof.Proof.Block3
public import proofs.«01_k».proof.Proof.TileIdeal
public import Idealize.ShloMosaic.Lib.Pipeline.ValueKit
@[expose] public section
set_option maxRecDepth 16384
noncomputable section
namespace Cert.Kernel3Ideal.Blk
open Cert.Kernel3Ideal Cert.Kernel3Ideal.Gen Idealize.ShloMosaic Idealize.ShloMosaic.TcCoe Idealize.SL.Sem Idealize.ShloMosaic.Tactic

/-- Where each window's block starts, at each grid point. -/
theorem idx : ∀ t : Fin cfg0.N, t.val < 32 ∧ win0_0.index t 0 = t.val ∧ win0_0.index t 1 = 0 ∧ win0_1.index t 0 = 0 ∧ win0_1.index t 1 = 0
    ∧ win0_2.index t 0 = t.val / 4 ∧ win0_2.index t 1 = 0 ∧ win0_2.index t 2 = 0
    ∧ win0_3.index t 0 = t.val / 4 ∧ win0_3.index t 1 = 0 ∧ win0_3.index t 2 = 0
    ∧ win0_4.index t 0 = 0 ∧ win0_4.index t 1 = 0
    ∧ win0_5.index t 0 = 0 ∧ win0_5.index t 1 = t.val ∧ win0_5.index t 2 = 0
    ∧ win0_6.index t 0 = t.val ∧ win0_6.index t 1 = 0
    ∧ win0_7.index t 0 = t.val ∧ win0_7.index t 1 = 0
    ∧ win0_8.index t 0 = t.val ∧ win0_8.index t 1 = 0 :=
  (by decide +kernel : ∀ t : Fin grid0.N, _)

variable (m : (ℓ : Loc nD τ sig) → Buf (Elt Ideal) ℓ) (c : Dev nD)

/-- The arguments as functions of coordinates. -/
def aX (R : ℕ) (k : Fin 1024) : EReal := m ((c : Thread nD τ).loc main_arg0) (ix3 (Ffn.bOf R) (Ffn.rOf R) k)
def aG (k : Fin 1024) : EReal := m ((c : Thread nD τ).loc main_arg1) (ix3 0 0 k)
def aSh (b : Fin 8) (k : Fin 1024) : EReal := m ((c : Thread nD τ).loc main_arg2) (ix2 b k)
def aSc (b : Fin 8) (k : Fin 1024) : EReal := m ((c : Thread nD τ).loc main_arg3) (ix2 b k)
def aW (k : Fin 1024) (n : Fin 2048) : EReal := m ((c : Thread nD τ).loc main_arg4) (ix3 0 k n)

theorem blk0 (t : Fin cfg0.N) (r : Fin 1024) (k : Fin 1024) : iblk m c 0 t (ix2 r k) = aX m c (1024 * t.val + r.val) k := by
  unfold aX Ffn.bOf Ffn.rOf
  blk_ext! [iblk, V, idx t]
theorem blk1 (t : Fin cfg0.N) (k : Fin 1024) : iblk m c 1 t (ix2 0 k) = aG m c k := by
  unfold aG
  blk_ext! [iblk, V, idx t]
theorem blk2 (t : Fin cfg0.N) (r : Fin 1024) (k : Fin 1024) : iblk m c 2 t (ix3 0 0 k) = aSc m c (Ffn.bOf (1024 * t.val + r.val)) k := by
  unfold aSc Ffn.bOf
  blk_ext! [iblk, V, idx t]
theorem blk3 (t : Fin cfg0.N) (r : Fin 1024) (k : Fin 1024) : iblk m c 3 t (ix3 0 0 k) = aSh m c (Ffn.bOf (1024 * t.val + r.val)) k := by
  unfold aSh Ffn.bOf
  blk_ext! [iblk, V, idx t]
theorem blk4 (t : Fin cfg0.N) (k : Fin 1024) (n : Fin 2048) : iblk m c 4 t (ix2 k n) = aW m c k n := by
  unfold aW
  blk_ext! [iblk, V, idx t]

/-- The projection's tile at an index. -/
theorem pay5_apply (x0 : Vec Ideal S1024x1024 .f32) (x1 : Vec Ideal S1x1024 .f32) (x2 x3 : Vec Ideal S1x1x1024 .f32) (x4 : Vec Ideal S1024x2048 .bf16)
    (r : Fin 1024) (n : Fin 2048) : k0_pay5 x0 x1 x2 x3 x4 (ix2 r n) =
    ∑ k : Fin 1024, (Ffn.rmsn (fun l => x0 (ix2 r l)) k * x1 (ix2 0 k) * (1 + x2 (ix3 0 0 k)) + x3 (ix3 0 0 k)) * x4 (ix2 k n) := by
  unfold k0_pay5
  dsimp only
  refine (Ideal.matmul_plain_apply (M := 1024) (K := 1024) (N := 2048) none _ _ _ r n).trans ?_
  simp only [Ffn.vix2]
  rw [show (constant S1024x2048 FTy.f32 0x00000000#32 : FVec Ideal S1024x2048 .f32) (ix2 r n) = 0 from by pointwise, zero_add]
  refine Finset.sum_congr rfl fun k _ => ?_
  congr 1
  · unfold Ffn.rmsn
    pointwise
  · rw [shapeCast_self]

end Cert.Kernel3Ideal.Blk
end
-- ==== Proof.InpSpec.lean ====
/-
  THE INPUT PROJECTION IN PLAIN WORDS, row by row of the 32768 tokens: the modulated activations of a row against the
  2048 columns of the weight. The first 512 columns are the state-space mixer's input, then the queries (scaled), keys and values.
-/
module
public import proofs.«01_k».proof.Proof.Spec
@[expose] public section
noncomputable section
namespace Cert.Inp
open Idealize.ShloMosaic

/-- A row of activations against a column of the weight. -/
def pro (h : ℕ → Fin 1024 → EReal) (w : Fin 1024 → Fin 2048 → EReal) (R : ℕ) (n : Fin 2048) : EReal := ∑ k : Fin 1024, h R k * w k n

/-- The queries' factor: one over the root of the head's width, times the base-two logarithm of e, as the programs spell it. -/
def qs : EReal := Ideal.ofBits .f32 0x3E38AA3B#32

end Cert.Inp
end
-- ==== Proof.Value3.lean ====
/-
  THE INPUT PROJECTION'S RESULTS: each of the four arrays the run leaves, at an index, is the projection of Spec.lean's
  modulated activations: block by block, since every grid point writes its own block.
-/
module
public import proofs.«01_k».proof.Proof.Blocks3
public import proofs.«01_k».proof.Proof.InpSpec
@[expose] public section
set_option maxRecDepth 16384
noncomputable section
namespace Cert.Kernel3Ideal.Blk
open Cert.Kernel3Ideal Cert.Kernel3Ideal.Gen Idealize.ShloMosaic Idealize.ShloMosaic.TcCoe Idealize.SL.Sem Idealize.ShloMosaic.Tactic

variable (m : (ℓ : Loc nD τ sig) → Buf (Elt Ideal) ℓ) (c : Dev nD)

/-- The modulated activations, row by row. -/
def H : ℕ → Fin 1024 → EReal := Ffn.hid (aX m c) (aG m c) (aSc m c) (aSh m c)

/-- A tile's projection, at its global rows. -/
theorem p_tile (t : Fin cfg0.N) (r : Fin 1024) (n : Fin 2048) :
    k0_pay5 (F := Ideal) (iblk m c 0 t) (iblk m c 1 t) (iblk m c 2 t) (iblk m c 3 t) (iblk m c 4 t) (ix2 r n) = Inp.pro (H m c) (aW m c) (1024 * t.val + r.val) n := by
  rw [pay5_apply]
  simp only [blk0, blk1, blk2 m c t r, blk3 m c t r, blk4]
  rfl

theorem pay2_apply (p : FVec Ideal S1024x2048 .f32) (r : Fin 1024) (n : Fin 512) : k0_pay2 p (ix2 r n) = p (ix2 r ⟨512 + n.val, by omega⟩) * Inp.qs := by
  unfold Inp.qs
  pointwise [k0_pay2]
theorem pay3_apply (p : FVec Ideal S1024x2048 .f32) (r : Fin 1024) (n : Fin 512) : k0_pay3 p (ix2 r n) = p (ix2 r ⟨1024 + n.val, by omega⟩) := by
  pointwise [k0_pay3]
theorem pay4_apply (p : FVec Ideal S1024x2048 .f32) (r : Fin 1024) (n : Fin 512) : k0_pay4 p (ix2 r n) = p (ix2 r ⟨1536 + n.val, by omega⟩) := by
  pointwise [k0_pay4]

theorem read5 (A : Vec Ideal S4x8192x512 .f32) (t : Fin cfg0.N) (s : Fin 4) (j : Fin 256) (n : Fin 512) (h : 256 * t.val + j.val < 8192) :
    ((cfg0.win 5).blk t).view.read (Elt Ideal) A (ix3 s j n) = A (ix3 s ⟨256 * t.val + j.val, h⟩ n) := by
  blk_ext [idx t]

/-- The mixer's input: slice `s` holds the rows that leave `s` on division by four. -/
theorem arr5_apply (s : Fin 4) (i : Fin 8192) (n : Fin 512) :
    (dats m 0 c).arrAt 5 cfg0.N (ix3 s i n) = Inp.pro (H m c) (aW m c) (4 * i.val + s.val) ⟨n.val, by omega⟩ := by
  have hN : cfg0.N = 32 := N_0
  have hi := i.isLt
  have ht : i.val / 256 < cfg0.N := by omega
  have hr : i.val % 256 < 256 := Nat.mod_lt _ (by omega)
  have key := congrFun (Value.blocks5 m c ⟨i.val / 256, ht⟩ (flush0_5 _)) (ix3 s ⟨i.val % 256, hr⟩ n)
  rw [read5 _ _ _ _ _ (by simp only []; omega), Value.flushed5_A] at key
  have e : (⟨256 * (i.val / 256) + i.val % 256, by omega⟩ : Fin 8192) = i := Fin.ext (by simp only []; omega)
  rw [show (ix3 s i n : S4x8192x512.Idx) = ix3 s ⟨256 * (i.val / 256) + i.val % 256, by omega⟩ n from by rw [e]]
  refine key.trans ?_
  show out0_A_5 _ _ _ _ _ _ _ _ _ _ _ _ _ _ _ _ _ _ _ _ _ _ _ _ _ _ _ (ix3 s _ n) = _
  rw [out_u, p_tile]
  congr 1
  simp only []
  omega

theorem read6 (A : Vec Ideal S32768x512 .bf16) (t : Fin cfg0.N) (r : Fin 1024) (n : Fin 512) (h : 1024 * t.val + r.val < 32768) :
    ((cfg0.win 6).blk t).view.read (Elt Ideal) A (ix2 r n) = A (ix2 ⟨1024 * t.val + r.val, h⟩ n) := by
  blk_ext [idx t]

/-- The queries. -/
theorem arr6_apply (R : Fin 32768) (n : Fin 512) :
    (dats m 0 c).arrAt 6 cfg0.N (ix2 R n) = Inp.pro (H m c) (aW m c) R.val ⟨512 + n.val, by omega⟩ * Inp.qs := by
  have hN : cfg0.N = 32 := N_0
  have hR := R.isLt
  have ht : R.val / 1024 < cfg0.N := by omega
  have hr : R.val % 1024 < 1024 := Nat.mod_lt _ (by omega)
  have key := congrFun (Value.blocks6 m c ⟨R.val / 1024, ht⟩ (flush0_6 _)) (ix2 ⟨R.val % 1024, hr⟩ n)
  rw [read6 _ _ _ _ (by simp only []; omega), Value.flushed6_A] at key
  have e : (⟨1024 * (R.val / 1024) + R.val % 1024, by omega⟩ : Fin 32768) = R := Fin.ext (by simp only []; omega)
  rw [show (ix2 R n : S32768x512.Idx) = ix2 ⟨1024 * (R.val / 1024) + R.val % 1024, by omega⟩ n from by rw [e]]
  refine key.trans ?_
  show out0_A_6 _ _ _ _ _ _ _ _ _ _ _ _ _ _ _ _ _ _ _ _ _ _ _ _ _ _ _ (ix2 _ n) = _
  rw [out_q, pay2_apply, p_tile]
  congr 2
  simp only []
  omega

theorem read7 (A : Vec Ideal S32768x512 .bf16) (t : Fin cfg0.N) (r : Fin 1024) (n : Fin 512) (h : 1024 * t.val + r.val < 32768) :
    ((cfg0.win 7).blk t).view.read (Elt Ideal) A (ix2 r n) = A (ix2 ⟨1024 * t.val + r.val, h⟩ n) := by
  blk_ext [idx t]

/-- The keys. -/
theorem arr7_apply (R : Fin 32768) (n : Fin 512) :
    (dats m 0 c).arrAt 7 cfg0.N (ix2 R n) = Inp.pro (H m c) (aW m c) R.val ⟨1024 + n.val, by omega⟩ := by
  have hN : cfg0.N = 32 := N_0
  have hR := R.isLt
  have ht : R.val / 1024 < cfg0.N := by omega
  have hr : R.val % 1024 < 1024 := Nat.mod_lt _ (by omega)
  have key := congrFun (Value.blocks7 m c ⟨R.val / 1024, ht⟩ (flush0_7 _)) (ix2 ⟨R.val % 1024, hr⟩ n)
  rw [read7 _ _ _ _ (by simp only []; omega), Value.flushed7_A] at key
  have e : (⟨1024 * (R.val / 1024) + R.val % 1024, by omega⟩ : Fin 32768) = R := Fin.ext (by simp only []; omega)
  rw [show (ix2 R n : S32768x512.Idx) = ix2 ⟨1024 * (R.val / 1024) + R.val % 1024, by omega⟩ n from by rw [e]]
  refine key.trans ?_
  show out0_A_7 _ _ _ _ _ _ _ _ _ _ _ _ _ _ _ _ _ _ _ _ _ _ _ _ _ _ _ (ix2 _ n) = _
  rw [out_k, pay3_apply, p_tile]
  congr 2
  simp only []
  omega

theorem read8 (A : Vec Ideal S32768x512 .bf16) (t : Fin cfg0.N) (r : Fin 1024) (n : Fin 512) (h : 1024 * t.val + r.val < 32768) :
    ((cfg0.win 8).blk t).view.read (Elt Ideal) A (ix2 r n) = A (ix2 ⟨1024 * t.val + r.val, h⟩ n) := by
  blk_ext [idx t]

/-- The values. -/
theorem arr8_apply (R : Fin 32768) (n : Fin 512) :
    (dats m 0 c).arrAt 8 cfg0.N (ix2 R n) = Inp.pro (H m c) (aW m c) R.val ⟨1536 + n.val, by omega⟩ := by
  have hN : cfg0.N = 32 := N_0
  have hR := R.isLt
  have ht : R.val / 1024 < cfg0.N := by omega
  have hr : R.val % 1024 < 1024 := Nat.mod_lt _ (by omega)
  have key := congrFun (Value.blocks8 m c ⟨R.val / 1024, ht⟩ (flush0_8 _)) (ix2 ⟨R.val % 1024, hr⟩ n)
  rw [read8 _ _ _ _ (by simp only []; omega), Value.flushed8_A] at key
  have e : (⟨1024 * (R.val / 1024) + R.val % 1024, by omega⟩ : Fin 32768) = R := Fin.ext (by simp only []; omega)
  rw [show (ix2 R n : S32768x512.Idx) = ix2 ⟨1024 * (R.val / 1024) + R.val % 1024, by omega⟩ n from by rw [e]]
  refine key.trans ?_
  show out0_A_8 _ _ _ _ _ _ _ _ _ _ _ _ _ _ _ _ _ _ _ _ _ _ _ _ _ _ _ (ix2 _ n) = _
  rw [out_v, pay4_apply, p_tile]
  congr 2
  simp only []
  omega

end Cert.Kernel3Ideal.Blk
end
-- ==== Proof.Ref3.lean ====
/-
  THE REFERENCE OF THE INPUT PROJECTION READ AT AN INDEX: its four results are the projection of InpSpec.lean at the same
  rows and columns.
-/
module
public import proofs.«01_k».proof.Proof.Gen.Reference3Ideal.Read
public import proofs.«01_k».proof.Proof.InpSpec
public import Idealize.ShloMosaic.Lib.Pointwise
public import Idealize.ShloMosaic.Lib.Pointwise.Tactic
@[expose] public section
set_option maxRecDepth 16384
noncomputable section
namespace Cert.Reference3Ideal.Rd
open Cert.Reference3Ideal Cert.Reference3Ideal.Read Cert.Ffn Idealize.ShloMosaic Idealize.ShloMosaic.TcCoe Idealize.SL.Sem Idealize.ShloMosaic.Tactic

variable (x0 : (⟨S8x4096x1024, .f32⟩ : BufTy).Contents (Elt Ideal)) (x1 : (⟨S2x2x1024, .f32⟩ : BufTy).Contents (Elt Ideal))
  (x2 x3 : (⟨S8x1024, .f32⟩ : BufTy).Contents (Elt Ideal)) (x4 : (⟨S1x1024x2048, .f32⟩ : BufTy).Contents (Elt Ideal))

def H : ℕ → Fin 1024 → EReal := hid (fun R k => x0 (ix3 (bOf R) (rOf R) k)) (fun k => x1 (ix3 0 0 k)) (fun b k => x3 (ix2 b k)) (fun b k => x2 (ix2 b k))

theorem v22 (R : ℕ) (k : Fin 1024) : val_main_v22 x0 x1 x2 x3 (ix3 (bOf R) (rOf R) k) = H x0 x1 x2 x3 R k := by
  unfold H hid rmsn
  dsimp only
  generalize bOf R = b
  generalize rOf R = r
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]

theorem v24 (R : ℕ) (n : Fin 2048) : val_main_v24 x0 x1 x2 x3 x4 (ix3 (bOf R) (rOf R) n) = Inp.pro (H x0 x1 x2 x3) (fun k n => x4 (ix3 0 k n)) R n := by
  unfold Inp.pro
  simp only [← v22]
  generalize bOf R = b
  generalize rOf R = r
  unfold val_main_v24
  generalize val_main_v22 x0 x1 x2 x3 = y
  pointwise [val_main_v23]

/-- The flattened projection: row `R` is row `R mod 4096` of batch element `R / 4096`. -/
theorem v25 (R : Fin 32768) (n : Fin 2048) : val_main_v25 x0 x1 x2 x3 x4 (ix2 R n) = Inp.pro (H x0 x1 x2 x3) (fun k n => x4 (ix3 0 k n)) R.val n := by
  rw [← v24]
  unfold val_main_v25
  generalize val_main_v24 x0 x1 x2 x3 x4 = y
  unfold bOf rOf
  pointwise
  congr 2
  apply Fin.ext
  show R.val / 4096 = R.val / 4096 % 8
  omega

theorem u (s : Fin 4) (i : Fin 8192) (n : Fin 512) : val_main_v28 x0 x1 x2 x3 x4 (ix3 s i n) = Inp.pro (H x0 x1 x2 x3) (fun k n => x4 (ix3 0 k n)) (4 * i.val + s.val) ⟨n.val, by omega⟩ := by
  refine Eq.trans ?_ (v25 x0 x1 x2 x3 x4 ⟨4 * i.val + s.val, by omega⟩ ⟨n.val, by omega⟩)
  unfold val_main_v28 val_main_v27 val_main_v26
  generalize val_main_v25 x0 x1 x2 x3 x4 = y
  pointwise
  congr 2
  apply Fin.ext
  show i.val * 4 + s.val = 4 * i.val + s.val
  omega

theorem q (R : Fin 32768) (n : Fin 512) : val_main_v34 x0 x1 x2 x3 x4 (ix2 R n) = Inp.pro (H x0 x1 x2 x3) (fun k n => x4 (ix3 0 k n)) R.val ⟨512 + n.val, by omega⟩ * Inp.qs := by
  rw [← v25]
  unfold val_main_v34 val_main_v31 val_main_v29 Inp.qs
  generalize val_main_v25 x0 x1 x2 x3 x4 = y
  pointwise [val_main_v30, val_main_cst_3]

theorem k (R : Fin 32768) (n : Fin 512) : val_main_v35 x0 x1 x2 x3 x4 (ix2 R n) = Inp.pro (H x0 x1 x2 x3) (fun k n => x4 (ix3 0 k n)) R.val ⟨1024 + n.val, by omega⟩ := by
  rw [← v25]
  unfold val_main_v35 val_main_v32
  generalize val_main_v25 x0 x1 x2 x3 x4 = y
  pointwise

theorem v (R : Fin 32768) (n : Fin 512) : val_main_v36 x0 x1 x2 x3 x4 (ix2 R n) = Inp.pro (H x0 x1 x2 x3) (fun k n => x4 (ix3 0 k n)) R.val ⟨1536 + n.val, by omega⟩ := by
  rw [← v25]
  unfold val_main_v36 val_main_v33
  generalize val_main_v25 x0 x1 x2 x3 x4 = y
  pointwise

end Cert.Reference3Ideal.Rd
end
-- ==== Proof.Tie3.lean ====
/-
  THE INPUT PROJECTION, KERNEL AGAINST REFERENCE: where the arguments agree, each array the kernel's run leaves and the
  reference's result are one function of the index.
-/
module
public import proofs.«01_k».proof.Proof.Value3
public import proofs.«01_k».proof.Proof.Ref3
@[expose] public section
noncomputable section
namespace Cert.Tie
open Idealize.ShloMosaic Idealize.ShloMosaic.TcCoe Idealize.SL.Sem Idealize.ShloMosaic.Tactic

theorem inp_u (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v28 (F := Ideal)
      (m ((c.tc : Thread _ _).loc Cert.Kernel3Ideal.main_arg0))
      (m ((c.tc : Thread _ _).loc Cert.Kernel3Ideal.main_arg1))
      (m ((c.tc : Thread _ _).loc Cert.Kernel3Ideal.main_arg2))
      (m ((c.tc : Thread _ _).loc Cert.Kernel3Ideal.main_arg3))
      (m ((c.tc : Thread _ _).loc Cert.Kernel3Ideal.main_arg4))
    = (Cert.Kernel3Ideal.Gen.dats m 0 c).arrAt 5 Cert.Kernel3Ideal.cfg0.N := by
  funext i
  have hi : i = ix3 (i 0) (i 1) (i 2) := by
    funext a
    match a with
    | ⟨0, _⟩ => rfl
    | ⟨1, _⟩ => rfl
    | ⟨2, _⟩ => rfl
  rw [hi]
  exact (Cert.Reference3Ideal.Rd.u _ _ _ _ _ (i 0) (i 1) (i 2)).trans (Cert.Kernel3Ideal.Blk.arr5_apply m c (i 0) (i 1) (i 2)).symm

theorem inp_q (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v34 (F := Ideal)
      (m ((c.tc : Thread _ _).loc Cert.Kernel3Ideal.main_arg0))
      (m ((c.tc : Thread _ _).loc Cert.Kernel3Ideal.main_arg1))
      (m ((c.tc : Thread _ _).loc Cert.Kernel3Ideal.main_arg2))
      (m ((c.tc : Thread _ _).loc Cert.Kernel3Ideal.main_arg3))
      (m ((c.tc : Thread _ _).loc Cert.Kernel3Ideal.main_arg4))
    = (Cert.Kernel3Ideal.Gen.dats m 0 c).arrAt 6 Cert.Kernel3Ideal.cfg0.N := by
  funext i
  have hi : i = ix2 (i 0) (i 1) := by
    funext a
    match a with
    | ⟨0, _⟩ => rfl
    | ⟨1, _⟩ => rfl
  rw [hi]
  exact (Cert.Reference3Ideal.Rd.q _ _ _ _ _ (i 0) (i 1)).trans (Cert.Kernel3Ideal.Blk.arr6_apply m c (i 0) (i 1)).symm

theorem inp_k (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v35 (F := Ideal)
      (m ((c.tc : Thread _ _).loc Cert.Kernel3Ideal.main_arg0))
      (m ((c.tc : Thread _ _).loc Cert.Kernel3Ideal.main_arg1))
      (m ((c.tc : Thread _ _).loc Cert.Kernel3Ideal.main_arg2))
      (m ((c.tc : Thread _ _).loc Cert.Kernel3Ideal.main_arg3))
      (m ((c.tc : Thread _ _).loc Cert.Kernel3Ideal.main_arg4))
    = (Cert.Kernel3Ideal.Gen.dats m 0 c).arrAt 7 Cert.Kernel3Ideal.cfg0.N := by
  funext i
  have hi : i = ix2 (i 0) (i 1) := by
    funext a
    match a with
    | ⟨0, _⟩ => rfl
    | ⟨1, _⟩ => rfl
  rw [hi]
  exact (Cert.Reference3Ideal.Rd.k _ _ _ _ _ (i 0) (i 1)).trans (Cert.Kernel3Ideal.Blk.arr7_apply m c (i 0) (i 1)).symm

theorem inp_v (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v36 (F := Ideal)
      (m ((c.tc : Thread _ _).loc Cert.Kernel3Ideal.main_arg0))
      (m ((c.tc : Thread _ _).loc Cert.Kernel3Ideal.main_arg1))
      (m ((c.tc : Thread _ _).loc Cert.Kernel3Ideal.main_arg2))
      (m ((c.tc : Thread _ _).loc Cert.Kernel3Ideal.main_arg3))
      (m ((c.tc : Thread _ _).loc Cert.Kernel3Ideal.main_arg4))
    = (Cert.Kernel3Ideal.Gen.dats m 0 c).arrAt 8 Cert.Kernel3Ideal.cfg0.N := by
  funext i
  have hi : i = ix2 (i 0) (i 1) := by
    funext a
    match a with
    | ⟨0, _⟩ => rfl
    | ⟨1, _⟩ => rfl
  rw [hi]
  exact (Cert.Reference3Ideal.Rd.v _ _ _ _ _ (i 0) (i 1)).trans (Cert.Kernel3Ideal.Blk.arr8_apply m c (i 0) (i 1)).symm

end Cert.Tie
end
-- ==== Proof.Value4.lean ====
/-
  THE MODULATION'S RESULT: every grid point takes one layer and 1536 columns, and writes the activated conditioning vector
  against them; the array the run leaves, at an index, is that sum plus the bias.
-/
module
public import proofs.«01_k».proof.Proof.Gen.Kernel4Ideal.Value
public import proofs.«01_k».proof.Proof.TileIdeal
public import Idealize.ShloMosaic.Lib.Pointwise
public import Idealize.ShloMosaic.Lib.Pointwise.Tactic
public import Idealize.ShloMosaic.Lib.Pipeline.ValueKit
@[expose] public section
set_option maxRecDepth 16384
noncomputable section
namespace Cert.Kernel4Ideal.Blk
open Cert.Kernel4Ideal Cert.Kernel4Ideal.Gen Idealize.ShloMosaic Idealize.ShloMosaic.TcCoe Idealize.SL.Sem Idealize.ShloMosaic.Tactic
theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block starts, at each grid point. -/
theorem idx : ∀ t : Fin cfg0.N, t.val < 8 ∧ win0_0.index t 0 = 0 ∧ win0_0.index t 1 = 0
    ∧ win0_1.index t 0 = t.val / 4 ∧ win0_1.index t 1 = 0 ∧ win0_1.index t 2 = t.val % 4
    ∧ win0_2.index t 0 = t.val / 4 ∧ win0_2.index t 1 = 0 ∧ win0_2.index t 2 = t.val % 4
    ∧ win0_3.index t 0 = t.val / 4 ∧ win0_3.index t 1 = 0 ∧ win0_3.index t 2 = t.val % 4 :=
  (by decide +kernel : ∀ t : Fin grid0.N, _)

/-- What a point writes: one payload. -/
theorem out_eq {F : FTy → Type} [FloatOps F] (x0 : Vec F S8x1024 .f32) (x1 : Vec F S1x1024x1536 .f32) (x2 : Vec F S1x1x1536 .f32) : out0_3 x0 x1 x2 = k0_pay1 x0 x1 x2 := by
  unfold out0_3 r0_3 r0_2 r0_1 r0_0
  simp only [View.ld_unit_zero (S := S8x1024) hz2, View.ld_unit_zero (S := S1x1024x1536) hz3, View.ld_unit_zero (S := S1x1x1536) hz3, View.canon_unit_zero (S := S1x8x1536) hz3]

theorem act_apply (x0 : FVec Ideal S8x1024 .f32) (h) (b : Fin 8) (k : Fin 1024) :
    (truncf .bf16 (mulf x0 (addf (mulf (broadcast S8x1024 (Scalar.ofBits .f32 0x3F000000#32 : Ideal .f32)) (tanh (mulf (broadcast S8x1024 (Scalar.ofBits .f32 0x3F000000#32 : Ideal .f32)) x0)))
      (broadcast S8x1024 (Scalar.ofBits .f32 0x3F000000#32 : Ideal .f32)))) h : FVec Ideal S8x1024 .bf16) (ix2 b k) = Ffn.siluT (x0 (ix2 b k)) := by
  unfold Ffn.siluT
  pointwise

theorem up_apply (z : FVec Ideal S8x1536 .f32) (b : Fin 8) (n : Fin 1536) (h) : (shapeCast S1x8x1536 z h : FVec Ideal S1x8x1536 .f32) (ix3 0 b n) = z (ix2 b n) := by
  pointwise
theorem wt_apply (z : FVec Ideal S1x1024x1536 .f32) (k : Fin 1024) (n : Fin 1536) (h) (h') : (truncf .bf16 (shapeCast S1024x1536 z h : FVec Ideal S1024x1536 .f32) h' : FVec Ideal S1024x1536 .bf16) (ix2 k n) = z (ix3 0 k n) := by
  pointwise

/-- The payload at an index. -/
theorem pay_apply (x0 : Vec Ideal S8x1024 .f32) (x1 : Vec Ideal S1x1024x1536 .f32) (x2 : Vec Ideal S1x1x1536 .f32) (b : Fin 8) (n : Fin 1536) :
    k0_pay1 x0 x1 x2 (ix3 0 b n) = (∑ k : Fin 1024, Ffn.siluL (x0 (ix2 b k)) * x1 (ix3 0 k n)) + x2 (ix3 0 0 n) := by
  unfold k0_pay1
  refine (up_apply _ b n _).trans ?_
  refine congr (congrArg HAdd.hAdd ?_) ?_
  · refine (Ideal.matmul_plain_apply (M := 8) (K := 1024) (N := 1536) none _ _ _ b n).trans ?_
    simp only [Ffn.vix2]
    rw [show (constant S8x1536 FTy.f32 0x00000000#32 : FVec Ideal S8x1536 .f32) (ix2 b n) = 0 from by pointwise, zero_add]
    refine Finset.sum_congr rfl fun k _ => ?_
    rw [act_apply, Ffn.siluT_eq, wt_apply]
  · pointwise

variable (m : (ℓ : Loc nD τ sig) → Buf (Elt Ideal) ℓ) (c : Dev nD)

theorem blk0 (t : Fin cfg0.N) (b : Fin 8) (k : Fin 1024) : iblk m c 0 t (ix2 b k) = m ((c : Thread nD τ).loc main_arg0) (ix2 b k) := by
  blk_ext! [iblk, V, idx t]
theorem blk1 (t : Fin cfg0.N) (k : Fin 1024) (n : Fin 1536) (h0 : t.val / 4 < 2) (h1 : 1536 * (t.val % 4) + n.val < 6144) :
    iblk m c 1 t (ix3 0 k n) = m ((c : Thread nD τ).loc main_arg1) (ix3 ⟨t.val / 4, h0⟩ k ⟨1536 * (t.val % 4) + n.val, h1⟩) := by
  blk_ext! [iblk, V, idx t]
theorem blk2 (t : Fin cfg0.N) (n : Fin 1536) (h0 : t.val / 4 < 2) (h1 : 1536 * (t.val % 4) + n.val < 6144) :
    iblk m c 2 t (ix3 0 0 n) = m ((c : Thread nD τ).loc main_arg2) (ix2 ⟨t.val / 4, h0⟩ ⟨1536 * (t.val % 4) + n.val, h1⟩) := by
  blk_ext! [iblk, V, idx t]

theorem read3 (A : Vec Ideal S2x8x6144 .f32) (t : Fin cfg0.N) (b : Fin 8) (n : Fin 1536) (h0 : t.val / 4 < 2) (h1 : 1536 * (t.val % 4) + n.val < 6144) :
    ((cfg0.win 3).blk t).view.read (Elt Ideal) A (ix3 0 b n) = A (ix3 ⟨t.val / 4, h0⟩ b ⟨1536 * (t.val % 4) + n.val, h1⟩) := by
  blk_ext [idx t]

/-- The array the run leaves. -/
theorem arr3_apply (l : Fin 2) (b : Fin 8) (n : Fin 6144) : (dats m 0 c).arrAt 3 cfg0.N (ix3 l b n) =
    (∑ k : Fin 1024, Ffn.siluL (m ((c : Thread nD τ).loc main_arg0) (ix2 b k)) * m ((c : Thread nD τ).loc main_arg1) (ix3 l k n)) + m ((c : Thread nD τ).loc main_arg2) (ix2 l n) := by
  have hN : cfg0.N = 8 := N_0
  have hl := l.isLt
  have hn := n.isLt
  have ht : 4 * l.val + n.val / 1536 < cfg0.N := by omega
  have hr : n.val % 1536 < 1536 := Nat.mod_lt _ (by omega)
  have h0 : (4 * l.val + n.val / 1536) / 4 < 2 := by omega
  have h1 : 1536 * ((4 * l.val + n.val / 1536) % 4) + n.val % 1536 < 6144 := by omega
  have key := congrFun (Value.blocks3 m c ⟨4 * l.val + n.val / 1536, ht⟩ (flush0_3 _)) (ix3 0 b ⟨n.val % 1536, hr⟩)
  rw [read3 _ _ _ _ h0 h1, Value.flushed3] at key
  have el : (⟨(4 * l.val + n.val / 1536) / 4, h0⟩ : Fin 2) = l := Fin.ext (by simp only []; omega)
  have en : (⟨1536 * ((4 * l.val + n.val / 1536) % 4) + n.val % 1536, h1⟩ : Fin 6144) = n := Fin.ext (by simp only []; omega)
  have key2 : (dats m 0 c).arrAt 3 cfg0.N (ix3 ⟨(4 * l.val + n.val / 1536) / 4, h0⟩ b ⟨1536 * ((4 * l.val + n.val / 1536) % 4) + n.val % 1536, h1⟩) =
      out0_3 (iblk m c 0 ⟨4 * l.val + n.val / 1536, ht⟩) (iblk m c 1 ⟨4 * l.val + n.val / 1536, ht⟩) (iblk m c 2 ⟨4 * l.val + n.val / 1536, ht⟩) (ix3 0 b ⟨n.val % 1536, hr⟩) := key
  rw [out_eq, pay_apply, blk2 m c _ _ h0 h1] at key2
  simp only [blk0, fun k => blk1 m c ⟨4 * l.val + n.val / 1536, ht⟩ k ⟨n.val % 1536, hr⟩ h0 h1, el, en] at key2
  exact key2

end Cert.Kernel4Ideal.Blk
end
-- ==== Proof.Ref4.lean ====
/-
  THE REFERENCE OF THE MODULATION READ AT AN INDEX: the activated conditioning vector against a layer's weight, plus its bias.
-/
module
public import proofs.«01_k».proof.Proof.Gen.Reference4Ideal.Read
public import proofs.«01_k».proof.Proof.Spec
public import Idealize.ShloMosaic.Lib.Pointwise
public import Idealize.ShloMosaic.Lib.Pointwise.Tactic
@[expose] public section
set_option maxRecDepth 16384
noncomputable section
namespace Cert.Reference4Ideal.Rd
open Cert.Reference4Ideal Cert.Reference4Ideal.Read Cert.Ffn Idealize.ShloMosaic Idealize.ShloMosaic.TcCoe Idealize.SL.Sem Idealize.ShloMosaic.Tactic

variable (x0 : (⟨S8x1024, .f32⟩ : BufTy).Contents (Elt Ideal)) (x1 : (⟨S2x1024x6144, .f32⟩ : BufTy).Contents (Elt Ideal))
  (x2 : (⟨S2x6144, .f32⟩ : BufTy).Contents (Elt Ideal))

theorem v6 (b : Fin 8) (k : Fin 1024) : val_main_v6 x0 (ix2 b k) = siluL (x0 (ix2 b k)) := by
  unfold siluL Ideal.logistic
  pointwise [val_main_v6, val_main_v5, val_main_v4, val_main_cst_0, val_main_v3, val_main_v2, val_main_cst, val_main_v1, val_main_v0]

theorem v14 (b : Fin 8) (n : Fin 6144) : val_main_v14 x0 x1 x2 (ix2 b n) = (∑ k : Fin 1024, siluL (x0 (ix2 b k)) * x1 (ix3 0 k n)) + x2 (ix2 0 n) := by
  simp only [← v6]
  unfold val_main_v14 val_main_v9
  generalize val_main_v6 x0 = y
  pointwise [val_main_v7, val_main_v8, val_main_v10, val_main_v11, val_main_v12, val_main_v13]

theorem v22 (b : Fin 8) (n : Fin 6144) : val_main_v22 x0 x1 x2 (ix2 b n) = (∑ k : Fin 1024, siluL (x0 (ix2 b k)) * x1 (ix3 1 k n)) + x2 (ix2 1 n) := by
  simp only [← v6]
  unfold val_main_v22 val_main_v17
  generalize val_main_v6 x0 = y
  pointwise [val_main_v15, val_main_v16, val_main_v18, val_main_v19, val_main_v20, val_main_v21]

theorem v25 (l : Fin 2) (b : Fin 8) (n : Fin 6144) : val_main_v25 x0 x1 x2 (ix3 l b n) = (∑ k : Fin 1024, siluL (x0 (ix2 b k)) * x1 (ix3 l k n)) + x2 (ix2 l n) := by
  fin_cases l
  · refine Eq.trans ?_ (v14 x0 x1 x2 b n)
    unfold val_main_v25 val_main_v24 val_main_v23
    generalize val_main_v14 x0 x1 x2 = y
    generalize val_main_v22 x0 x1 x2 = z
    pointwise
  · refine Eq.trans ?_ (v22 x0 x1 x2 b n)
    unfold val_main_v25 val_main_v24 val_main_v23
    generalize val_main_v14 x0 x1 x2 = y
    generalize val_main_v22 x0 x1 x2 = z
    pointwise

end Cert.Reference4Ideal.Rd
end
-- ==== Proof.Tie4.lean ====
/-
  THE MODULATION, KERNEL AGAINST REFERENCE: where the arguments agree, the array the kernel's run leaves and the reference's
  result are one function of the index.
-/
module
public import proofs.«01_k».proof.Proof.Value4
public import proofs.«01_k».proof.Proof.Ref4
@[expose] public section
noncomputable section
namespace Cert.Tie
open Idealize.ShloMosaic Idealize.ShloMosaic.TcCoe Idealize.SL.Sem Idealize.ShloMosaic.Tactic

theorem modul (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v25 (F := Ideal)
      (m ((c.tc : Thread _ _).loc Cert.Kernel4Ideal.main_arg0))
      (m ((c.tc : Thread _ _).loc Cert.Kernel4Ideal.main_arg1))
      (m ((c.tc : Thread _ _).loc Cert.Kernel4Ideal.main_arg2))
    = (Cert.Kernel4Ideal.Gen.dats m 0 c).arrAt 3 Cert.Kernel4Ideal.cfg0.N := by
  funext i
  have hi : i = ix3 (i 0) (i 1) (i 2) := by
    funext a
    match a with
    | ⟨0, _⟩ => rfl
    | ⟨1, _⟩ => rfl
    | ⟨2, _⟩ => rfl
  rw [hi]
  exact (Cert.Reference4Ideal.Rd.v25 _ _ _ (i 0) (i 1) (i 2)).trans (Cert.Kernel4Ideal.Blk.arr3_apply m c (i 0) (i 1) (i 2)).symm

end Cert.Tie
end
-- ==== Proof.Block5.lean ====
/-
  ONE GRID POINT OF THE BIAS TILES: a head's two tiles, each the chain of 32 comparisons with the index constant.
-/
module
public import proofs.«01_k».proof.Proof.Gen.Kernel5Ideal.Value
public import Idealize.ShloMosaic.Lib.Pointwise
public import Idealize.ShloMosaic.Lib.Pointwise.Tactic
public import Idealize.ShloMosaic.Lib.Pipeline.ValueKit
@[expose] public section
set_option maxRecDepth 16384
noncomputable section
namespace Cert.Kernel5Ideal.Blk
open Cert.Kernel5Ideal Cert.Kernel5Ideal.Gen Idealize.ShloMosaic Idealize.ShloMosaic.TcCoe Idealize.SL.Sem Idealize.ShloMosaic.Tactic

/-- The chain of comparisons: the last of the first n buckets whose number the word is selects that bucket's scaled bias. -/
def chain (w : BitVec 32) (x : ℕ → EReal) : ℕ → EReal
  | 0 => Ideal.ofBits .f32 0xF149F2CA#32
  | n + 1 => Scalar.select (IntOp.cmpi .eq w (BitVec.ofNat 32 n)) (x n * Ideal.ofBits .f32 0x3FB8AA3B#32) (chain w x n)

theorem sel_eq : ∀ b < 32, ∀ n < 32, IntOp.cmpi .eq (BitVec.ofNat 32 b) (BitVec.ofNat 32 n) = if b = n then 1#1 else 0#1 := by decide +kernel
theorem sel_far : ∀ n < 32, IntOp.cmpi .eq 4294967295#32 (BitVec.ofNat 32 n) = 0#1 := by decide +kernel

theorem chain_hit (b : ℕ) (hb : b < 32) (x : ℕ → EReal) : ∀ n ≤ 32, chain (BitVec.ofNat 32 b) x n = if b < n then x b * Ideal.ofBits .f32 0x3FB8AA3B#32 else Ideal.ofBits .f32 0xF149F2CA#32
  | 0, _ => by rw [if_neg (by omega)]; rfl
  | n + 1, h => by
    show Scalar.select (IntOp.cmpi .eq (BitVec.ofNat 32 b) (BitVec.ofNat 32 n)) (x n * Ideal.ofBits .f32 0x3FB8AA3B#32) (chain (BitVec.ofNat 32 b) x n) = _
    rw [sel_eq b hb n (by omega), chain_hit b hb x n (by omega)]
    by_cases e : b = n
    · subst e
      rw [if_pos rfl, if_pos (Nat.lt_succ_self b)]
      rfl
    · rw [if_neg e]
      refine (if_neg (by decide)).trans ?_
      by_cases g : b < n
      · rw [if_pos g, if_pos (by omega)]
      · rw [if_neg g, if_neg (by omega)]

theorem chain_far (x : ℕ → EReal) : ∀ n ≤ 32, chain 4294967295#32 x n = Ideal.ofBits .f32 0xF149F2CA#32
  | 0, _ => rfl
  | n + 1, h => by
    unfold chain
    rw [sel_far n (by omega), chain_far x n (by omega)]
    exact if_neg (by decide)

/-- The row of the transposed bias table of a head. -/
def row (x0 : Vec Ideal S8x32 .f32) (hd : Fin 8) : ℕ → EReal := fun b => x0 (ix2 hd ⟨min b 31, by omega⟩)

theorem ld_word (x1 : Vec Ideal S2x256x256 .i32) (n : ℕ) (h) (t : Fin 2) (hn : t.val = n) (ko qo : Fin 256) :
    View.ld x1 (Rect.unit (s := S2x256x256) ![n, 0, 0] ![1, 256, 256] h) (ix3 0 ko qo) = x1 (ix3 t ko qo) := by
  refine View.ld_unit_apply_of x1 _ _ h _ _ (fun a => ?_)
  match a with
  | ⟨0, _⟩ => exact hn
  | ⟨1, _⟩ => exact (Nat.zero_add _).symm
  | ⟨2, _⟩ => exact (Nat.zero_add _).symm

theorem tile_hit (n : ℕ) (t : Fin 2) (hn : t.val = n) (ko qo : Fin 256) (inb) (w : S1x1x256x256.Idx → Elt Ideal .f32) (L : List (View.Piece (Elt Ideal) S1x2x256x256 .f32)) :
    View.canon ((⟨Rect.unit (s := S1x2x256x256) ![0, n, 0, 0] ![1, 1, 256, 256] inb, w⟩ : View.Piece (Elt Ideal) S1x2x256x256 .f32) :: L) (ix4 0 t ko qo)
    = w (ix4 0 0 ko qo) := by
  have e : (ix4 0 t ko qo : S1x2x256x256.Idx) = (Rect.unit (s := S1x2x256x256) ![0, n, 0, 0] ![1, 1, 256, 256] inb).emb (ix4 0 0 ko qo) := by
    funext a
    refine Fin.ext ?_
    match a with
    | 0 => rfl
    | 1 => show t.val = n + 1 * 0; omega
    | 2 => show ko.val = 0 + 1 * ko.val; omega
    | 3 => show qo.val = 0 + 1 * qo.val; omega
  rw [e]
  exact View.canon_cons_emb _ _ _ _

theorem tile_miss (n : ℕ) (t : Fin 2) (hn : t.val < n) (ko qo : Fin 256) (inb) (w : S1x1x256x256.Idx → Elt Ideal .f32) (L : List (View.Piece (Elt Ideal) S1x2x256x256 .f32)) :
    View.canon ((⟨Rect.unit (s := S1x2x256x256) ![0, n, 0, 0] ![1, 1, 256, 256] inb, w⟩ : View.Piece (Elt Ideal) S1x2x256x256 .f32) :: L) (ix4 0 t ko qo)
    = View.canon L (ix4 0 t ko qo) := by
  refine View.canon_cons_of_not_mem _ _ fun hm => ?_
  obtain ⟨x, hx⟩ := LoadRect.exists_idx_of_mem _ hm
  have h1 := congrArg (fun t : S1x2x256x256.Idx => (t 1).val) hx
  have e1 : n + 1 * (x 1).val = t.val := h1
  omega

section
variable (c : Dev nD) (i : grid0.Coords) (arg1 : Memref sig .tc .smem S8x32 .f32) (harg1 : arg1.IsWhole) (arg2 : Memref sig .tc .vmem S2x256x256 .i32) (harg2 : arg2.IsWhole) (arg3 : Memref sig .tc .vmem S1x2x256x256 .f32) (harg3 : arg3.IsWhole)
    (x0 : Vec Ideal S8x32 .f32) (x1 : Vec Ideal S2x256x256 .i32)

theorem off0 (hd : Fin 8) (hi : (i 0).val = hd.val) : (BitVec.ofNat 32 (i 0).val).toNat = hd.val := by
  have hh := hd.isLt
  rw [hi, BitVec.toNat_ofNat]
  omega

theorem ld_tab (hd : Fin 8) (b : ℕ) (off : Fin 2 → ℕ) (h) (h') (e0 : off 0 = hd.val) (e1 : off 1 = b) :
    View.readAt (Elt Ideal) arg1.view (Rect.unit (s := S8x32) off S1x1.size h).toLoadRect (harg1.unread x0) (Shape.Idx.first h') = row x0 hd b := by
  rw [View.readAt_eq_ld, harg1.read_unread]
  have hb : off 1 + 1 ≤ 32 := h 1
  refine View.ld_unit_apply_of x0 off S1x1.size h _ _ (fun a => ?_)
  match a with
  | ⟨0, _⟩ => exact e0.symm
  | ⟨1, _⟩ =>
    show min b 31 = off 1 + 0
    omega

theorem tab_0 (hd : Fin 8) (hi : (i 0).val = hd.val) : kernelRun0_A.sl.r c i arg1 harg1 x0 = row x0 hd 0 := ld_tab arg1 harg1 x0 hd 0 _ _ _ (off0 i hd hi) rfl
theorem tab_1 (hd : Fin 8) (hi : (i 0).val = hd.val) : kernelRun0_A.sl.r_1 c i arg1 harg1 x0 = row x0 hd 1 := ld_tab arg1 harg1 x0 hd 1 _ _ _ (off0 i hd hi) rfl
theorem tab_2 (hd : Fin 8) (hi : (i 0).val = hd.val) : kernelRun0_A.sl.r_2 c i arg1 harg1 x0 = row x0 hd 2 := ld_tab arg1 harg1 x0 hd 2 _ _ _ (off0 i hd hi) rfl
theorem tab_3 (hd : Fin 8) (hi : (i 0).val = hd.val) : kernelRun0_A.sl.r_3 c i arg1 harg1 x0 = row x0 hd 3 := ld_tab arg1 harg1 x0 hd 3 _ _ _ (off0 i hd hi) rfl
theorem tab_4 (hd : Fin 8) (hi : (i 0).val = hd.val) : kernelRun0_A.sl.r_4 c i arg1 harg1 x0 = row x0 hd 4 := ld_tab arg1 harg1 x0 hd 4 _ _ _ (off0 i hd hi) rfl
theorem tab_5 (hd : Fin 8) (hi : (i 0).val = hd.val) : kernelRun0_A.sl.r_7 c i arg1 harg1 x0 = row x0 hd 5 := ld_tab arg1 harg1 x0 hd 5 _ _ _ (off0 i hd hi) rfl
theorem tab_6 (hd : Fin 8) (hi : (i 0).val = hd.val) : kernelRun0_A.sl.r_8 c i arg1 harg1 x0 = row x0 hd 6 := ld_tab arg1 harg1 x0 hd 6 _ _ _ (off0 i hd hi) rfl
theorem tab_7 (hd : Fin 8) (hi : (i 0).val = hd.val) : kernelRun0_A.sl.r_9 c i arg1 harg1 x0 = row x0 hd 7 := ld_tab arg1 harg1 x0 hd 7 _ _ _ (off0 i hd hi) rfl
theorem tab_8 (hd : Fin 8) (hi : (i 0).val = hd.val) : kernelRun0_A.sl.r_10 c i arg1 harg1 x0 = row x0 hd 8 := ld_tab arg1 harg1 x0 hd 8 _ _ _ (off0 i hd hi) rfl
theorem tab_9 (hd : Fin 8) (hi : (i 0).val = hd.val) : kernelRun0_A.sl.r_11 c i arg1 harg1 x0 = row x0 hd 9 := ld_tab arg1 harg1 x0 hd 9 _ _ _ (off0 i hd hi) rfl
theorem tab_10 (hd : Fin 8) (hi : (i 0).val = hd.val) : kernelRun0_A.sl.r_12 c i arg1 harg1 x0 = row x0 hd 10 := ld_tab arg1 harg1 x0 hd 10 _ _ _ (off0 i hd hi) rfl
theorem tab_11 (hd : Fin 8) (hi : (i 0).val = hd.val) : kernelRun0_A.sl.r_14 c i arg1 harg1 x0 = row x0 hd 11 := ld_tab arg1 harg1 x0 hd 11 _ _ _ (off0 i hd hi) rfl
theorem tab_12 (hd : Fin 8) (hi : (i 0).val = hd.val) : kernelRun0_A.sl.r_15 c i arg1 harg1 x0 = row x0 hd 12 := ld_tab arg1 harg1 x0 hd 12 _ _ _ (off0 i hd hi) rfl
theorem tab_13 (hd : Fin 8) (hi : (i 0).val = hd.val) : kernelRun0_A.sl.r_16 c i arg1 harg1 x0 = row x0 hd 13 := ld_tab arg1 harg1 x0 hd 13 _ _ _ (off0 i hd hi) rfl
theorem tab_14 (hd : Fin 8) (hi : (i 0).val = hd.val) : kernelRun0_A.sl.r_17 c i arg1 harg1 x0 = row x0 hd 14 := ld_tab arg1 harg1 x0 hd 14 _ _ _ (off0 i hd hi) rfl
theorem tab_15 (hd : Fin 8) (hi : (i 0).val = hd.val) : kernelRun0_A.sl.r_18 c i arg1 harg1 x0 = row x0 hd 15 := ld_tab arg1 harg1 x0 hd 15 _ _ _ (off0 i hd hi) rfl
theorem tab_16 (hd : Fin 8) (hi : (i 0).val = hd.val) : kernelRun0_A.sl.r_19 c i arg1 harg1 x0 = row x0 hd 16 := ld_tab arg1 harg1 x0 hd 16 _ _ _ (off0 i hd hi) rfl
theorem tab_17 (hd : Fin 8) (hi : (i 0).val = hd.val) : kernelRun0_A.sl.r_21 c i arg1 harg1 x0 = row x0 hd 17 := ld_tab arg1 harg1 x0 hd 17 _ _ _ (off0 i hd hi) rfl
theorem tab_18 (hd : Fin 8) (hi : (i 0).val = hd.val) : kernelRun0_A.sl.r_22 c i arg1 harg1 x0 = row x0 hd 18 := ld_tab arg1 harg1 x0 hd 18 _ _ _ (off0 i hd hi) rfl
theorem tab_19 (hd : Fin 8) (hi : (i 0).val = hd.val) : kernelRun0_A.sl.r_23 c i arg1 harg1 x0 = row x0 hd 19 := ld_tab arg1 harg1 x0 hd 19 _ _ _ (off0 i hd hi) rfl
theorem tab_20 (hd : Fin 8) (hi : (i 0).val = hd.val) : kernelRun0_A.sl.r_24 c i arg1 harg1 x0 = row x0 hd 20 := ld_tab arg1 harg1 x0 hd 20 _ _ _ (off0 i hd hi) rfl
theorem tab_21 (hd : Fin 8) (hi : (i 0).val = hd.val) : kernelRun0_A.sl.r_25 c i arg1 harg1 x0 = row x0 hd 21 := ld_tab arg1 harg1 x0 hd 21 _ _ _ (off0 i hd hi) rfl
theorem tab_22 (hd : Fin 8) (hi : (i 0).val = hd.val) : kernelRun0_A.sl.r_26 c i arg1 harg1 x0 = row x0 hd 22 := ld_tab arg1 harg1 x0 hd 22 _ _ _ (off0 i hd hi) rfl
theorem tab_23 (hd : Fin 8) (hi : (i 0).val = hd.val) : kernelRun0_A.sl.r_28 c i arg1 harg1 x0 = row x0 hd 23 := ld_tab arg1 harg1 x0 hd 23 _ _ _ (off0 i hd hi) rfl
theorem tab_24 (hd : Fin 8) (hi : (i 0).val = hd.val) : kernelRun0_A.sl.r_29 c i arg1 harg1 x0 = row x0 hd 24 := ld_tab arg1 harg1 x0 hd 24 _ _ _ (off0 i hd hi) rfl
theorem tab_25 (hd : Fin 8) (hi : (i 0).val = hd.val) : kernelRun0_A.sl.r_30 c i arg1 harg1 x0 = row x0 hd 25 := ld_tab arg1 harg1 x0 hd 25 _ _ _ (off0 i hd hi) rfl
theorem tab_26 (hd : Fin 8) (hi : (i 0).val = hd.val) : kernelRun0_A.sl.r_31 c i arg1 harg1 x0 = row x0 hd 26 := ld_tab arg1 harg1 x0 hd 26 _ _ _ (off0 i hd hi) rfl
theorem tab_27 (hd : Fin 8) (hi : (i 0).val = hd.val) : kernelRun0_A.sl.r_32 c i arg1 harg1 x0 = row x0 hd 27 := ld_tab arg1 harg1 x0 hd 27 _ _ _ (off0 i hd hi) rfl
theorem tab_28 (hd : Fin 8) (hi : (i 0).val = hd.val) : kernelRun0_A.sl.r_33 c i arg1 harg1 x0 = row x0 hd 28 := ld_tab arg1 harg1 x0 hd 28 _ _ _ (off0 i hd hi) rfl
theorem tab_29 (hd : Fin 8) (hi : (i 0).val = hd.val) : kernelRun0_A.sl.r_35 c i arg1 harg1 x0 = row x0 hd 29 := ld_tab arg1 harg1 x0 hd 29 _ _ _ (off0 i hd hi) rfl
theorem tab_30 (hd : Fin 8) (hi : (i 0).val = hd.val) : kernelRun0_A.sl.r_36 c i arg1 harg1 x0 = row x0 hd 30 := ld_tab arg1 harg1 x0 hd 30 _ _ _ (off0 i hd hi) rfl
theorem tab_31 (hd : Fin 8) (hi : (i 0).val = hd.val) : kernelRun0_A.sl.r_37 c i arg1 harg1 x0 = row x0 hd 31 := ld_tab arg1 harg1 x0 hd 31 _ _ _ (off0 i hd hi) rfl

theorem word0 (ko qo : Fin 256) : View.readAt (Elt Ideal) arg2.view (Rect.unit (s := S2x256x256) ![0, 0, 0] S1x256x256.size inb_S2x256x256_S1x256x256_0_0_0).toLoadRect (harg2.unread x1) (ix3 0 ko qo) = x1 (ix3 0 ko qo) := by
  rw [View.readAt_eq_ld, harg2.read_unread]
  exact ld_word x1 0 _ 0 rfl ko qo
theorem word1 (ko qo : Fin 256) : View.readAt (Elt Ideal) arg2.view (Rect.unit (s := S2x256x256) ![1, 0, 0] S1x256x256.size inb_S2x256x256_S1x256x256_1_0_0).toLoadRect (harg2.unread x1) (ix3 0 ko qo) = x1 (ix3 1 ko qo) := by
  rw [View.readAt_eq_ld, harg2.read_unread]
  exact ld_word x1 1 _ 1 rfl ko qo

set_option maxHeartbeats 1000000 in
/-- What a point writes, at an index of its block. -/
theorem out_A (hd : Fin 8) (hi : (i 0).val = hd.val) (t : Fin 2) (ko qo : Fin 256) : out0_A_2 c i arg1 harg1 arg2 harg2 arg3 harg3 x0 x1 (ix4 0 t ko qo) = chain (x1 (ix3 t ko qo)) (row x0 hd) 32 := by
  unfold out0_A_2
  rw [View.read_writes_eq_canon _ _ _ (cover0_A_2 c i arg1 harg1 arg2 harg2 arg3 harg3 x0 x1)]
  unfold kernelRun0_A
  dsimp only
  have h01 : t = 0 ∨ t = 1 := by omega
  rcases h01 with rfl | rfl
  · refine (tile_miss 1 0 (by decide) ko qo _ _ _).trans ((tile_hit 0 0 rfl ko qo _ _ _).trans ?_)
    rw [← word0 arg2 harg2 x1]
    simp only [kernelRun0_A.sl.r_5, kernelRun0_A.sl.r_6, kernelRun0_A.sl.r_13, kernelRun0_A.sl.r_20, kernelRun0_A.sl.r_27, kernelRun0_A.sl.r_34, tab_0 c i arg1 harg1 x0 hd hi, tab_1 c i arg1 harg1 x0 hd hi, tab_2 c i arg1 harg1 x0 hd hi, tab_3 c i arg1 harg1 x0 hd hi, tab_4 c i arg1 harg1 x0 hd hi, tab_5 c i arg1 harg1 x0 hd hi, tab_6 c i arg1 harg1 x0 hd hi, tab_7 c i arg1 harg1 x0 hd hi, tab_8 c i arg1 harg1 x0 hd hi, tab_9 c i arg1 harg1 x0 hd hi, tab_10 c i arg1 harg1 x0 hd hi, tab_11 c i arg1 harg1 x0 hd hi, tab_12 c i arg1 harg1 x0 hd hi, tab_13 c i arg1 harg1 x0 hd hi, tab_14 c i arg1 harg1 x0 hd hi, tab_15 c i arg1 harg1 x0 hd hi, tab_16 c i arg1 harg1 x0 hd hi, tab_17 c i arg1 harg1 x0 hd hi, tab_18 c i arg1 harg1 x0 hd hi, tab_19 c i arg1 harg1 x0 hd hi, tab_20 c i arg1 harg1 x0 hd hi, tab_21 c i arg1 harg1 x0 hd hi, tab_22 c i arg1 harg1 x0 hd hi, tab_23 c i arg1 harg1 x0 hd hi, tab_24 c i arg1 harg1 x0 hd hi, tab_25 c i arg1 harg1 x0 hd hi, tab_26 c i arg1 harg1 x0 hd hi, tab_27 c i arg1 harg1 x0 hd hi, tab_28 c i arg1 harg1 x0 hd hi, tab_29 c i arg1 harg1 x0 hd hi, tab_30 c i arg1 harg1 x0 hd hi, tab_31 c i arg1 harg1 x0 hd hi]
    generalize View.readAt (Elt Ideal) arg2.view (Rect.unit (s := S2x256x256) ![0, 0, 0] S1x256x256.size inb_S2x256x256_S1x256x256_0_0_0).toLoadRect (harg2.unread x1) = w
    generalize row x0 hd = x
    unfold_payloads
    pointwise [chain]
  · refine (tile_hit 1 1 rfl ko qo _ _ _).trans ?_
    rw [← word1 arg2 harg2 x1]
    simp only [kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.cst_48, tab_0 c i arg1 harg1 x0 hd hi, tab_1 c i arg1 harg1 x0 hd hi, tab_2 c i arg1 harg1 x0 hd hi, tab_3 c i arg1 harg1 x0 hd hi, tab_4 c i arg1 harg1 x0 hd hi, tab_5 c i arg1 harg1 x0 hd hi, tab_6 c i arg1 harg1 x0 hd hi, tab_7 c i arg1 harg1 x0 hd hi, tab_8 c i arg1 harg1 x0 hd hi, tab_9 c i arg1 harg1 x0 hd hi, tab_10 c i arg1 harg1 x0 hd hi, tab_11 c i arg1 harg1 x0 hd hi, tab_12 c i arg1 harg1 x0 hd hi, tab_13 c i arg1 harg1 x0 hd hi, tab_14 c i arg1 harg1 x0 hd hi, tab_15 c i arg1 harg1 x0 hd hi, tab_16 c i arg1 harg1 x0 hd hi, tab_17 c i arg1 harg1 x0 hd hi, tab_18 c i arg1 harg1 x0 hd hi, tab_19 c i arg1 harg1 x0 hd hi, tab_20 c i arg1 harg1 x0 hd hi, tab_21 c i arg1 harg1 x0 hd hi, tab_22 c i arg1 harg1 x0 hd hi, tab_23 c i arg1 harg1 x0 hd hi, tab_24 c i arg1 harg1 x0 hd hi, tab_25 c i arg1 harg1 x0 hd hi, tab_26 c i arg1 harg1 x0 hd hi, tab_27 c i arg1 harg1 x0 hd hi, tab_28 c i arg1 harg1 x0 hd hi, tab_29 c i arg1 harg1 x0 hd hi, tab_30 c i arg1 harg1 x0 hd hi, tab_31 c i arg1 harg1 x0 hd hi]
    generalize View.readAt (Elt Ideal) arg2.view (Rect.unit (s := S2x256x256) ![1, 0, 0] S1x256x256.size inb_S2x256x256_S1x256x256_1_0_0).toLoadRect (harg2.unread x1) = w
    generalize row x0 hd = x
    unfold_payloads
    pointwise [chain]
end
end Cert.Kernel5Ideal.Blk
end
-- ==== Proof.Value5.lean ====
/-
  THE BIAS TILES' RESULT: every grid point is one head; the array the run leaves, at an index, is the chain over the
  index constant's word there.
-/
module
public import proofs.«01_k».proof.Proof.Block5
@[expose] public section
set_option maxRecDepth 16384
noncomputable section
namespace Cert.Kernel5Ideal.Blk
open Cert.Kernel5Ideal Cert.Kernel5Ideal.Gen Idealize.ShloMosaic Idealize.ShloMosaic.TcCoe Idealize.SL.Sem Idealize.ShloMosaic.Tactic

/-- Where each window's block starts, at each grid point. -/
theorem idx : ∀ t : Fin cfg0.N, t.val < 8 ∧ (grid0.coords t 0).val = t.val ∧ win0_0.index t 0 = 0 ∧ win0_0.index t 1 = 0
    ∧ win0_1.index t 0 = 0 ∧ win0_1.index t 1 = 0 ∧ win0_1.index t 2 = 0
    ∧ win0_2.index t 0 = t.val ∧ win0_2.index t 1 = 0 ∧ win0_2.index t 2 = 0 ∧ win0_2.index t 3 = 0 :=
  (by decide +kernel : ∀ t : Fin grid0.N, _)

variable (m : (ℓ : Loc nD τ sig) → Buf (Elt Ideal) ℓ) (c : Dev nD)

/-- The column of the bias table of a head. -/
def col (x0 : (⟨S32x8, .f32⟩ : BufTy).Contents (Elt Ideal)) (hd : Fin 8) : ℕ → EReal := fun b => x0 (ix2 ⟨min b 31, by omega⟩ hd)

theorem blk0 (t : Fin cfg0.N) (hd : Fin 8) (b : Fin 32) : iblk m c 0 t (ix2 hd b) = m ((c : Thread nD τ).loc main_arg0) (ix2 b hd) := by
  blk_ext! [iblk, V, idx t]

theorem blk1 (t : Fin cfg0.N) (a : Fin 2) (ko qo : Fin 256) : iblk m c 1 t (ix3 a ko qo) = lit0 (S2x256x256.rowMajor (ix3 a ko qo)) := by
  blk_ext! [iblk, V, idx t]

theorem row_eq (t : Fin cfg0.N) (hd : Fin 8) : row (iblk m c 0 t) hd = col (m ((c : Thread nD τ).loc main_arg0)) hd :=
  funext fun b => blk0 m c t hd ⟨min b 31, by omega⟩

theorem read2 (A : Vec Ideal S8x2x256x256 .f32) (t : Fin cfg0.N) (a : Fin 2) (ko qo : Fin 256) (h0 : t.val < 8) :
    ((cfg0.win 2).blk t).view.read (Elt Ideal) A (ix4 0 a ko qo) = A (ix4 ⟨t.val, h0⟩ a ko qo) := by
  blk_ext [idx t]

/-- The array the run leaves. -/
theorem arr2_apply (hd : Fin 8) (a : Fin 2) (ko qo : Fin 256) : (dats m 0 c).arrAt 2 cfg0.N (ix4 hd a ko qo) =
    chain (lit0 (S2x256x256.rowMajor (ix3 a ko qo))) (col (m ((c : Thread nD τ).loc main_arg0)) hd) 32 := by
  have hN : cfg0.N = 8 := N_0
  have hh := hd.isLt
  have ht : hd.val < cfg0.N := by omega
  have key := congrFun (Value.blocks2 m c ⟨hd.val, ht⟩ (flush0_2 _)) (ix4 0 a ko qo)
  rw [Value.flushed2_A] at key
  refine Eq.trans ((read2 _ ⟨hd.val, ht⟩ a ko qo hh).symm.trans key) ?_
  refine Eq.trans (out_A c _ _ _ _ _ _ _ _ _ hd (idx ⟨hd.val, ht⟩).2.1 a ko qo) ?_
  rw [blk1, row_eq]

end Cert.Kernel5Ideal.Blk
end
-- ==== Proof.Bucket.lean ====
/-
  THE DISTANCE BUCKETS: the bucket of a distance below 512 by its thresholds, and the logarithmic formula that the
  reference computes it by, over the reals.
-/
module
public import Idealize.ShloMosaic.PureOps
public import Mathlib.Analysis.Complex.Exponential
public import Mathlib.Analysis.SpecialFunctions.Log.Basic
@[expose] public section
noncomputable section
namespace Cert.Bias
open Idealize.ShloMosaic

/-- The bucket of a distance, by thresholds. -/
def bk (d : ℕ) : ℕ :=
  if d < 16 then d else if d < 19 then 16 else if d < 21 then 17 else if d < 24 then 18 else if d < 27 then 19
  else if d < 31 then 20 else if d < 35 then 21 else if d < 40 then 22 else if d < 46 then 23 else if d < 52 then 24
  else if d < 59 then 25 else if d < 67 then 26 else if d < 77 then 27 else if d < 87 then 28 else if d < 99 then 29
  else if d < 113 then 30 else 31

theorem bk_lt : ∀ d < 512, bk d < 32 := by decide +kernel
theorem bk_small : ∀ d < 16, bk d = d := by decide +kernel
theorem bk_top : ∀ d < 512, 113 ≤ d → bk d = 31 := by decide +kernel

/-- The word of the bucket table at a row-major index: the bucket, or minus one above the diagonal of the first tile. -/
def wordN (i : ℕ) : ℕ :=
  bif Nat.ble (i / 256 % 256) (256 * (i / 65536) + i % 256) then bk (256 * (i / 65536) + i % 256 - i / 256 % 256) else 4294967295

/-- The constant the reference divides by: the 32-bit float nearest the logarithm of eight. -/
def c8 : ℝ := 8721810 / 4194304

theorem log2_gt : 0.693 < Real.log 2 := by
  rw [Real.lt_log_iff_exp_lt (by norm_num)]
  refine lt_of_le_of_lt (Real.exp_bound' (x := 0.693) (by norm_num) (by norm_num) (n := 8) (by norm_num)) ?_
  norm_num [Finset.sum_range_succ, Nat.factorial]

theorem log2_lt : Real.log 2 < 0.6932 := by
  rw [Real.log_lt_iff_lt_exp (by norm_num)]
  refine lt_of_lt_of_le ?_ (Real.sum_le_exp_of_nonneg (x := 0.6932) (by norm_num) 8)
  norm_num [Finset.sum_range_succ, Nat.factorial]

theorem log_eq (T k : ℕ) (hT : 0 < T) : 16 * Real.log (T / 16) = Real.log ((T : ℝ) ^ 16 / (8 ^ k * 16 ^ 16)) + 3 * k * Real.log 2 := by
  have hT' : (0 : ℝ) < T := by exact_mod_cast hT
  rw [Real.log_div (by positivity) (by norm_num), Real.log_div (by positivity) (by positivity), Real.log_mul (by positivity) (by positivity),
    Real.log_pow, Real.log_pow, Real.log_pow, show (8 : ℝ) = 2 ^ 3 by norm_num, Real.log_pow]
  push_cast
  ring

theorem lo (T k n : ℕ) (hT : 0 < T) (hn : T ≤ n) (h : (k : ℝ) * c8 ≤ 1 - 8 ^ k * 16 ^ 16 / (T : ℝ) ^ 16 + 3 * k * 0.693) :
    (k : ℝ) ≤ Real.log (n / 16) / c8 * 16 := by
  have hT' : (0 : ℝ) < T := by exact_mod_cast hT
  have hc : (0 : ℝ) < c8 := by unfold c8; norm_num
  have hm : Real.log (T / 16) ≤ Real.log (n / 16) := Real.log_le_log (by positivity) (by have : (T : ℝ) ≤ n := by exact_mod_cast hn
                                                                                         linarith)
  have h1 := Real.one_sub_inv_le_log_of_pos (x := (T : ℝ) ^ 16 / (8 ^ k * 16 ^ 16)) (by positivity)
  rw [inv_div] at h1
  have h2 := log2_gt
  have h3 := log_eq T k hT
  have h4 : 3 * (k : ℝ) * 0.693 ≤ 3 * k * Real.log 2 := by
    apply mul_le_mul_of_nonneg_left h2.le; positivity
  have h5 : (k : ℝ) * c8 ≤ 16 * Real.log (n / 16) := by linarith
  rw [show Real.log (n / 16) / c8 * 16 = (16 * Real.log (n / 16)) / c8 by ring, le_div_iff₀ hc]
  exact h5

theorem hi (T k n : ℕ) (hn0 : 0 < n) (hn : n ≤ T) (h : (T : ℝ) ^ 16 / (8 ^ k * 16 ^ 16) - 1 + 3 * k * 0.6932 < k * c8) :
    Real.log (n / 16) / c8 * 16 < (k : ℝ) := by
  have hn' : (0 : ℝ) < n := by exact_mod_cast hn0
  have hT : 0 < T := by omega
  have hT' : (0 : ℝ) < T := by exact_mod_cast hT
  have hc : (0 : ℝ) < c8 := by unfold c8; norm_num
  have hm : Real.log (n / 16) ≤ Real.log (T / 16) := Real.log_le_log (by positivity) (by have : (n : ℝ) ≤ T := by exact_mod_cast hn
                                                                                         linarith)
  have h1 := Real.log_le_sub_one_of_pos (x := (T : ℝ) ^ 16 / (8 ^ k * 16 ^ 16)) (by positivity)
  have h2 := log2_lt
  have h3 := log_eq T k hT
  have h4 : 3 * (k : ℝ) * Real.log 2 ≤ 3 * k * 0.6932 := by
    apply mul_le_mul_of_nonneg_left h2.le; positivity
  have h5 : 16 * Real.log (n / 16) < k * c8 := by linarith
  rw [show Real.log (n / 16) / c8 * 16 = (16 * Real.log (n / 16)) / c8 by ring, div_lt_iff₀ hc]
  exact h5

theorem band (a b k n : ℕ) (ha : 0 < a) (hn : a ≤ n ∧ n < b) (h : (k : ℝ) * c8 ≤ 1 - 8 ^ k * 16 ^ 16 / (a : ℝ) ^ 16 + 3 * k * 0.693)
    (h' : ((b - 1 : ℕ) : ℝ) ^ 16 / (8 ^ (k + 1) * 16 ^ 16) - 1 + 3 * (k + 1 : ℕ) * 0.6932 < (k + 1 : ℕ) * c8) :
    ⌊Real.log (n / 16) / c8 * 16⌋ = k := by
  rw [Int.floor_eq_iff]
  have h1 := lo a k n ha hn.1 h
  have h2 := hi (b - 1) (k + 1) n (by omega) (by omega) h'
  push_cast at h2 ⊢
  exact ⟨h1, h2⟩

/-- What the formula's integer part has to be, at a distance. -/
def Good (n : ℕ) : Prop := ∃ k : ℕ, ⌊Real.log (n / 16) / c8 * 16⌋ = k ∧ k < 100 ∧ min (16 + k) 31 = bk n

theorem good_top (n : ℕ) (h113 : 113 ≤ n) (h : n < 512) : Good n := by
  have h1 := lo 113 15 n (by norm_num) h113 (by unfold c8; norm_num)
  have h2 := hi 512 40 n (by omega) (by omega) (by unfold c8; norm_num)
  have hb := bk_top n h h113
  have a1 : (15 : ℤ) ≤ ⌊Real.log (n / 16) / c8 * 16⌋ := Int.le_floor.2 (by push_cast at h1 ⊢; exact h1)
  have a2 : ⌊Real.log (n / 16) / c8 * 16⌋ < 40 := Int.floor_lt.2 (by push_cast at h2 ⊢; exact h2)
  refine ⟨⌊Real.log (n / 16) / c8 * 16⌋.toNat, ?_, ?_, ?_⟩ <;> omega

theorem bk0 : ∀ n < 19, 16 ≤ n → min (16 + 0) 31 = bk n := by decide +kernel
theorem good0 (n : ℕ) (ha : 16 ≤ n) (hb : n < 19) : Good n :=
  ⟨0, band 16 19 0 n (by norm_num) ⟨ha, hb⟩ (by unfold c8; norm_num) (by unfold c8; norm_num), by norm_num, bk0 n hb ha⟩
theorem bk1 : ∀ n < 21, 19 ≤ n → min (16 + 1) 31 = bk n := by decide +kernel
theorem good1 (n : ℕ) (ha : 19 ≤ n) (hb : n < 21) : Good n :=
  ⟨1, band 19 21 1 n (by norm_num) ⟨ha, hb⟩ (by unfold c8; norm_num) (by unfold c8; norm_num), by norm_num, bk1 n hb ha⟩
theorem bk2 : ∀ n < 24, 21 ≤ n → min (16 + 2) 31 = bk n := by decide +kernel
theorem good2 (n : ℕ) (ha : 21 ≤ n) (hb : n < 24) : Good n :=
  ⟨2, band 21 24 2 n (by norm_num) ⟨ha, hb⟩ (by unfold c8; norm_num) (by unfold c8; norm_num), by norm_num, bk2 n hb ha⟩
theorem bk3 : ∀ n < 27, 24 ≤ n → min (16 + 3) 31 = bk n := by decide +kernel
theorem good3 (n : ℕ) (ha : 24 ≤ n) (hb : n < 27) : Good n :=
  ⟨3, band 24 27 3 n (by norm_num) ⟨ha, hb⟩ (by unfold c8; norm_num) (by unfold c8; norm_num), by norm_num, bk3 n hb ha⟩
theorem bk4 : ∀ n < 31, 27 ≤ n → min (16 + 4) 31 = bk n := by decide +kernel
theorem good4 (n : ℕ) (ha : 27 ≤ n) (hb : n < 31) : Good n :=
  ⟨4, band 27 31 4 n (by norm_num) ⟨ha, hb⟩ (by unfold c8; norm_num) (by unfold c8; norm_num), by norm_num, bk4 n hb ha⟩
theorem bk5 : ∀ n < 35, 31 ≤ n → min (16 + 5) 31 = bk n := by decide +kernel
theorem good5 (n : ℕ) (ha : 31 ≤ n) (hb : n < 35) : Good n :=
  ⟨5, band 31 35 5 n (by norm_num) ⟨ha, hb⟩ (by unfold c8; norm_num) (by unfold c8; norm_num), by norm_num, bk5 n hb ha⟩
theorem bk6 : ∀ n < 40, 35 ≤ n → min (16 + 6) 31 = bk n := by decide +kernel
theorem good6 (n : ℕ) (ha : 35 ≤ n) (hb : n < 40) : Good n :=
  ⟨6, band 35 40 6 n (by norm_num) ⟨ha, hb⟩ (by unfold c8; norm_num) (by unfold c8; norm_num), by norm_num, bk6 n hb ha⟩
theorem bk7 : ∀ n < 46, 40 ≤ n → min (16 + 7) 31 = bk n := by decide +kernel
theorem good7 (n : ℕ) (ha : 40 ≤ n) (hb : n < 46) : Good n :=
  ⟨7, band 40 46 7 n (by norm_num) ⟨ha, hb⟩ (by unfold c8; norm_num) (by unfold c8; norm_num), by norm_num, bk7 n hb ha⟩
theorem bk8 : ∀ n < 52, 46 ≤ n → min (16 + 8) 31 = bk n := by decide +kernel
theorem good8 (n : ℕ) (ha : 46 ≤ n) (hb : n < 52) : Good n :=
  ⟨8, band 46 52 8 n (by norm_num) ⟨ha, hb⟩ (by unfold c8; norm_num) (by unfold c8; norm_num), by norm_num, bk8 n hb ha⟩
theorem bk9 : ∀ n < 59, 52 ≤ n → min (16 + 9) 31 = bk n := by decide +kernel
theorem good9 (n : ℕ) (ha : 52 ≤ n) (hb : n < 59) : Good n :=
  ⟨9, band 52 59 9 n (by norm_num) ⟨ha, hb⟩ (by unfold c8; norm_num) (by unfold c8; norm_num), by norm_num, bk9 n hb ha⟩
theorem bk10 : ∀ n < 67, 59 ≤ n → min (16 + 10) 31 = bk n := by decide +kernel
theorem good10 (n : ℕ) (ha : 59 ≤ n) (hb : n < 67) : Good n :=
  ⟨10, band 59 67 10 n (by norm_num) ⟨ha, hb⟩ (by unfold c8; norm_num) (by unfold c8; norm_num), by norm_num, bk10 n hb ha⟩
theorem bk11 : ∀ n < 77, 67 ≤ n → min (16 + 11) 31 = bk n := by decide +kernel
theorem good11 (n : ℕ) (ha : 67 ≤ n) (hb : n < 77) : Good n :=
  ⟨11, band 67 77 11 n (by norm_num) ⟨ha, hb⟩ (by unfold c8; norm_num) (by unfold c8; norm_num), by norm_num, bk11 n hb ha⟩
theorem bk12 : ∀ n < 87, 77 ≤ n → min (16 + 12) 31 = bk n := by decide +kernel
theorem good12 (n : ℕ) (ha : 77 ≤ n) (hb : n < 87) : Good n :=
  ⟨12, band 77 87 12 n (by norm_num) ⟨ha, hb⟩ (by unfold c8; norm_num) (by unfold c8; norm_num), by norm_num, bk12 n hb ha⟩
theorem bk13 : ∀ n < 99, 87 ≤ n → min (16 + 13) 31 = bk n := by decide +kernel
theorem good13 (n : ℕ) (ha : 87 ≤ n) (hb : n < 99) : Good n :=
  ⟨13, band 87 99 13 n (by norm_num) ⟨ha, hb⟩ (by unfold c8; norm_num) (by unfold c8; norm_num), by norm_num, bk13 n hb ha⟩
theorem bk14 : ∀ n < 113, 99 ≤ n → min (16 + 14) 31 = bk n := by decide +kernel
theorem good14 (n : ℕ) (ha : 99 ≤ n) (hb : n < 113) : Good n :=
  ⟨14, band 99 113 14 n (by norm_num) ⟨ha, hb⟩ (by unfold c8; norm_num) (by unfold c8; norm_num), by norm_num, bk14 n hb ha⟩

/-- The formula's integer part at a distance of at least sixteen: at most 31 after the shift, it is the bucket. -/
theorem floor_bk (n : ℕ) (h16 : 16 ≤ n) (h : n < 512) : Good n := by
  by_cases g0 : n < 19
  · exact good0 n (by omega) g0
  by_cases g1 : n < 21
  · exact good1 n (by omega) g1
  by_cases g2 : n < 24
  · exact good2 n (by omega) g2
  by_cases g3 : n < 27
  · exact good3 n (by omega) g3
  by_cases g4 : n < 31
  · exact good4 n (by omega) g4
  by_cases g5 : n < 35
  · exact good5 n (by omega) g5
  by_cases g6 : n < 40
  · exact good6 n (by omega) g6
  by_cases g7 : n < 46
  · exact good7 n (by omega) g7
  by_cases g8 : n < 52
  · exact good8 n (by omega) g8
  by_cases g9 : n < 59
  · exact good9 n (by omega) g9
  by_cases g10 : n < 67
  · exact good10 n (by omega) g10
  by_cases g11 : n < 77
  · exact good11 n (by omega) g11
  by_cases g12 : n < 87
  · exact good12 n (by omega) g12
  by_cases g13 : n < 99
  · exact good13 n (by omega) g13
  by_cases g14 : n < 113
  · exact good14 n (by omega) g14
  exact good_top n (by omega) h

end Cert.Bias
end
-- ==== Proof.Ref5.lean ====
/-
  THE REFERENCE OF THE BIAS TILES READ AT AN INDEX: the bias of the head at the bucket of the distance.
-/
module
public import proofs.«01_k».proof.Proof.Gen.Reference5Ideal.Read
public import proofs.«01_k».proof.Proof.Bucket
public import proofs.«01_k».proof.Proof.Spec
public import Idealize.ShloMosaic.Lib.Pointwise
public import Idealize.ShloMosaic.Lib.Pointwise.Tactic
public import Idealize.ShloMosaic.Lib.ValueIdxCore
@[expose] public section
set_option maxRecDepth 16384
noncomputable section
namespace Cert.Reference5Ideal.Rd
open Cert.Reference5Ideal Cert.Reference5Ideal.Gen Cert.Reference5Ideal.Read Cert.Bias Idealize.ShloMosaic Idealize.ShloMosaic.TcCoe Idealize.SL.Sem Idealize.ShloMosaic.Tactic

/-- The distance of a query from a key as the reference computes it, in 32-bit words. -/
def distW (t : Fin 2) (ko qo : Fin 256) : BitVec 32 :=
  if t.val < 1 then IntOp.subi (BitVec.ofNat 32 qo.val) (BitVec.ofNat 32 ko.val)
  else IntOp.addi (IntOp.subi (BitVec.ofNat 32 qo.val) (BitVec.ofNat 32 ko.val)) 256#32

theorem v15 (t : Fin 2) (ko qo : Fin 256) : val_main_v15 (F := Ideal) (ix3 t ko qo) = distW t ko qo := by
  fin_cases t
  · refine Eq.trans ?_ (if_pos (by decide)).symm
    pointwise [val_main_v15, val_main_v13, val_main_v14, val_main_v12, val_main_v11, val_main_c, val_main_v10, val_main_v9, val_main_v8, val_main_v7, val_main_v6, val_main_v5, val_main_v4, val_main_v3, val_main_v2, val_main_v1, val_main_v0]
  · refine Eq.trans ?_ (if_neg (by decide)).symm
    pointwise [val_main_v15, val_main_v13, val_main_v14, val_main_v12, val_main_v11, val_main_c, val_main_v10, val_main_v9, val_main_v8, val_main_v7, val_main_v6, val_main_v5, val_main_v4, val_main_v3, val_main_v2, val_main_v1, val_main_v0]

/-- The logarithmic formula of a distance at least one. -/
def largeW (D : BitVec 32) : BitVec 32 :=
  IntOp.minsi (IntOp.addi 16#32 (Ideal.fptosi 32 (Ideal.div (Ideal.log (Ideal.div (((IntOp.maxsi D 1#32).toInt : ℝ) : EReal) (Ideal.ofBits .f32 0x41800000#32)))
    (Ideal.ofBits .f32 0x40051592#32) * (Ideal.ofBits .f32 0x41800000#32)))) 31#32

/-- The bucket as the reference computes it of the distance, in 32-bit words. -/
def bucketW (D : BitVec 32) : BitVec 32 :=
  Scalar.select (IntOp.cmpi .slt (IntOp.maxsi D 0#32) 16#32) (IntOp.maxsi D 0#32) (largeW (IntOp.maxsi D 0#32))

theorem v32 (i : S2x256x256.Idx) : val_main_v32 (F := Ideal) i = largeW (IntOp.maxsi (val_main_v15 (F := Ideal) i) 0#32) := by
  unfold largeW
  rfl

theorem v35 (i : S2x256x256.Idx) : val_main_v35 (F := Ideal) i = bucketW (val_main_v15 (F := Ideal) i) := by
  unfold bucketW
  rw [val_main_v35_apply, v32]
  rfl

theorem v40 (i : S2x256x256.Idx) : val_main_v40 (F := Ideal) i =
    Scalar.select (IntOp.cmpi .slt (bucketW (val_main_v15 (F := Ideal) i)) 0#32) (IntOp.addi (bucketW (val_main_v15 (F := Ideal) i)) 32#32) (bucketW (val_main_v15 (F := Ideal) i)) := by
  rw [← v35]
  rfl

theorem fptosi_nat (r : ℝ) (k : ℕ) (hk : k < 100) (h : ⌊r⌋ = k) : Ideal.fptosi 32 (r : EReal) = BitVec.ofNat 32 k := by
  have h0 : 0 ≤ r := by
    have := Int.floor_le r
    rw [h] at this
    exact le_trans (by positivity) this
  show BitVec.ofInt 32 (max _ (min _ (if 0 ≤ r then ⌊r⌋ else ⌈r⌉))) = _
  rw [if_pos h0, h]
  rw [show max (-((2 ^ (32 - 1) : ℕ) : ℤ)) (min (((2 ^ (32 - 1) : ℕ) : ℤ) - 1) (k : ℤ)) = k by omega]
  exact BitVec.ofInt_natCast _ _

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem bits16 : Ideal.ofBits .f32 0x41800000#32 = ((16 : ℝ) : EReal) := by
  simp [Ideal.ofBits, Ideal.ieee, -EReal.coe_mul]; norm_num
theorem bitsc8 : Ideal.ofBits .f32 0x40051592#32 = ((c8 : ℝ) : EReal) := by
  unfold c8
  simp [Ideal.ofBits, Ideal.ieee, -EReal.coe_mul]; norm_num

theorem maxsi_one : ∀ d < 512, 16 ≤ d → (IntOp.maxsi (BitVec.ofNat 32 d) 1#32).toInt = (d : ℤ) := by decide +kernel
theorem maxsi_zero : ∀ d < 512, IntOp.maxsi (BitVec.ofNat 32 d) 0#32 = BitVec.ofNat 32 d := by decide +kernel
theorem min31 : ∀ k < 100, IntOp.minsi (IntOp.addi 16#32 (BitVec.ofNat 32 k)) 31#32 = BitVec.ofNat 32 (min (16 + k) 31) := by decide +kernel
theorem cmp16 : ∀ d < 512, IntOp.cmpi .slt (BitVec.ofNat 32 d) 16#32 = if d < 16 then 1#1 else 0#1 := by decide +kernel
theorem wrap : ∀ b < 32, Scalar.select (IntOp.cmpi .slt (BitVec.ofNat 32 b) 0#32) (IntOp.addi (BitVec.ofNat 32 b) 32#32) (BitVec.ofNat 32 b) = BitVec.ofNat 32 b := by decide +kernel
theorem row_toNat : ∀ b < 32, min (BitVec.ofNat 32 b).toInt.toNat (32 - 1) = b := by decide +kernel

theorem large_eq (d : ℕ) (h16 : 16 ≤ d) (h : d < 512) : largeW (BitVec.ofNat 32 d) = BitVec.ofNat 32 (bk d) := by
  obtain ⟨k, hk, hk100, hb⟩ := floor_bk d h16 h
  have hd : (0 : ℝ) < d := by exact_mod_cast (by omega : 0 < d)
  have hc : (c8 : ℝ) ≠ 0 := by unfold c8; norm_num
  unfold largeW
  rw [maxsi_one d h h16, bits16, bitsc8, div_coe _ _ (by norm_num), Ideal.log_coe, Int.cast_natCast,
    if_neg (not_le.2 (by positivity)), div_coe _ _ hc, ← EReal.coe_mul, fptosi_nat _ k hk100 hk, min31 k hk100, hb]

/-- The bucket of a distance below 512. -/
theorem bucket_eq (d : ℕ) (h : d < 512) : bucketW (BitVec.ofNat 32 d) = BitVec.ofNat 32 (bk d) := by
  unfold bucketW
  rw [maxsi_zero d h, cmp16 d h]
  by_cases h16 : d < 16
  · rw [if_pos h16, bk_small d h16]
    rfl
  · rw [if_neg h16, large_eq d (by omega) h]
    rfl

/-- The row of the table a word selects. -/
def rowOf (w : BitVec 32) : Fin 32 := ⟨min w.toInt.toNat (32 - 1), by omega⟩

theorem rowOf_eq (b : ℕ) (hb : b < 32) : rowOf (BitVec.ofNat 32 b) = ⟨min b 31, by omega⟩ := Fin.ext ((row_toNat b hb).trans (by show b = min b 31; omega))

theorem gather_apply {α : Type} (x : S32x8.Idx → α) (idx : IVec S2x256x256x1 32) (t : Fin 2) (ko qo : Fin 256) (hd : Fin 8) :
    Host.gather gather_S32x8_S2x256x256x1_S2x256x256x8_3_0_n_n_0_3_18 x idx (ix4 t ko qo hd)
      = x (ix2 (rowOf (idx (ix4 t ko qo 0))) hd) := by
  unfold Host.gather
  congr 1
  funext a
  refine Fin.ext ?_
  generalize hD : (gather_S32x8_S2x256x256x1_S2x256x256x8_3_0_n_n_0_3_18 : GatherDims S32x8 S2x256x256x1 S2x256x256x8) = D
  show D.start (ix4 t ko qo hd) idx a + D.batchCoord (ix4 t ko qo hd) a + D.offCoord (ix4 t ko qo hd) a = _
  subst hD
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2x256x256x1_S2x256x256x8_3_0_n_n_0_3_18.startIndexMap from List.mem_singleton.mpr rfl)]
    rw [show GatherDims.siIdx gather_S32x8_S2x256x256x1_S2x256x256x8_3_0_n_n_0_3_18 (ix4 t ko qo hd) _ = ix4 t ko qo 0 from by
      funext b; refine Fin.ext ?_
      match b with
      | ⟨0, _⟩ => rfl
      | ⟨1, _⟩ => rfl
      | ⟨2, _⟩ => rfl
      | ⟨3, _⟩ => rfl]
    rfl
  · rw [GatherDims.batchCoord_eq_zero _ _ _ List.not_mem_nil]
    unfold GatherDims.start GatherDims.offCoord
    rw [dif_neg (show ¬ (1 : Fin 2) ∈ gather_S32x8_S2x256x256x1_S2x256x256x8_3_0_n_n_0_3_18.startIndexMap by decide),
      dif_pos (show (1 : Fin 2) ∈ gather_S32x8_S2x256x256x1_S2x256x256x8_3_0_n_n_0_3_18.sKept by decide)]
    simp only [Nat.zero_add]
    rfl

/-- The distance's word where the key is not past the query. -/
theorem distW_pos (t : Fin 2) (ko qo : Fin 256) (h : ko.val ≤ 256 * t.val + qo.val) : distW t ko qo = BitVec.ofNat 32 (256 * t.val + qo.val - ko.val) := by
  have h1 := t.isLt
  have h2 := ko.isLt
  have h3 := qo.isLt
  unfold distW IntOp.subi IntOp.addi
  apply BitVec.eq_of_toNat_eq
  split_ifs with g
  · simp only [BitVec.toNat_sub, BitVec.toNat_ofNat]
    omega
  · simp only [BitVec.toNat_add, BitVec.toNat_sub, BitVec.toNat_ofNat]
    omega

theorem distW_neg (t : Fin 2) (ko qo : Fin 256) (h : ¬ ko.val ≤ 256 * t.val + qo.val) : IntOp.cmpi .sge (distW t ko qo) 0#32 = 0#1 := by
  have h1 := t.isLt
  have h2 := ko.isLt
  have h3 := qo.isLt
  have ht : t.val < 1 := by omega
  have e : distW t ko qo = BitVec.ofNat 32 (4294967296 + qo.val - ko.val) := by
    unfold distW
    rw [if_pos ht]
    unfold IntOp.subi
    apply BitVec.eq_of_toNat_eq
    simp only [BitVec.toNat_sub, BitVec.toNat_ofNat]
    omega
  rw [e]
  have hs : (0#32).sle (BitVec.ofNat 32 (4294967296 + qo.val - ko.val)) = false := by
    simp only [BitVec.sle, BitVec.toInt_eq_toNat_cond, BitVec.toNat_ofNat, decide_eq_false_iff_not]
    omega
  unfold IntOp.cmpi
  simp only [hs]
  rfl

theorem sge_pos : ∀ d < 512, IntOp.cmpi .sge (BitVec.ofNat 32 d) 0#32 = 1#1 := by decide +kernel

/-- The bias tile at an index: past the diagonal the mask's constant, else the head's bias at the distance's bucket, scaled. -/
def biasAt (x : ℕ → EReal) (t : Fin 2) (ko qo : Fin 256) : EReal :=
  if ko.val ≤ 256 * t.val + qo.val then x (bk (256 * t.val + qo.val - ko.val)) * Ideal.ofBits .f32 0x3FB8AA3B#32 else Ideal.ofBits .f32 0xF149F2CA#32

/-- The column of the bias table of a head. -/
def col (x0 : (⟨S32x8, .f32⟩ : BufTy).Contents (Elt Ideal)) (hd : Fin 8) : ℕ → EReal := fun b => x0 (ix2 ⟨min b 31, by omega⟩ hd)

variable (x0 : (⟨S32x8, .f32⟩ : BufTy).Contents (Elt Ideal))

theorem v41 (t : Fin 2) (ko qo : Fin 256) : val_main_v41 (F := Ideal) (ix4 t ko qo 0) = val_main_v40 (F := Ideal) (ix3 t ko qo) := by
  unfold val_main_v41
  generalize val_main_v40 (F := Ideal) = y
  pointwise

theorem v43 (hd : Fin 8) (t : Fin 2) (ko qo : Fin 256) : val_main_v43 (F := Ideal) x0 (ix4 hd t ko qo) = val_main_v42 (F := Ideal) x0 (ix4 t ko qo hd) := by
  unfold val_main_v43
  generalize val_main_v42 (F := Ideal) x0 = y
  pointwise

theorem v42 (hd : Fin 8) (t : Fin 2) (ko qo : Fin 256) : val_main_v42 (F := Ideal) x0 (ix4 t ko qo hd)
    = x0 (ix2 (rowOf (val_main_v41 (F := Ideal) (ix4 t ko qo 0))) hd) := by
  unfold val_main_v42
  generalize val_main_v41 (F := Ideal) = y
  exact gather_apply x0 y t ko qo hd

theorem v48 (hd : Fin 8) (t : Fin 2) (ko qo : Fin 256) : val_main_v48 (F := Ideal) x0 (ix4 hd t ko qo) = biasAt (col x0 hd) t ko qo := by
  have e : val_main_v48 (F := Ideal) x0 (ix4 hd t ko qo) = Scalar.select (IntOp.cmpi .sge (val_main_v15 (F := Ideal) (ix3 t ko qo)) 0#32)
      (val_main_v43 (F := Ideal) x0 (ix4 hd t ko qo) * Ideal.ofBits .f32 0x3FB8AA3B#32) (Ideal.ofBits .f32 0xF149F2CA#32) := by
    unfold val_main_v48 val_main_v45 val_main_call1_v1 val_main_v47
    generalize val_main_v43 (F := Ideal) x0 = y
    generalize val_main_v15 (F := Ideal) = z
    pointwise [val_main_v44, val_main_cst_9, val_main_c_10, val_main_v46, val_main_cst_11, val_main_call1_v0, val_main_call1_v2]
    rfl
  rw [e, v15]
  unfold biasAt
  have h1 := t.isLt
  have h2 := ko.isLt
  have h3 := qo.isLt
  by_cases h : ko.val ≤ 256 * t.val + qo.val
  · have hd512 : 256 * t.val + qo.val - ko.val < 512 := by omega
    have hb := bk_lt _ hd512
    have hw : val_main_v41 (F := Ideal) (ix4 t ko qo 0) = BitVec.ofNat 32 (bk (256 * t.val + qo.val - ko.val)) := by
      rw [v41, v40, v15, distW_pos t ko qo h, bucket_eq _ hd512, wrap _ hb]
    rw [if_pos h, v43, v42, distW_pos t ko qo h, sge_pos _ hd512]
    refine (if_pos rfl).trans ?_
    unfold col
    rw [hw, rowOf_eq _ hb]
  · rw [if_neg h, distW_neg t ko qo h]
    rfl

end Cert.Reference5Ideal.Rd
end
-- ==== Proof.Table0.lean ====
/-
  THE BUCKET TABLE, entries 0 to 16383: each is the bucket of its distance.
-/
module
public import proofs.«01_k».proof.Kernel5Ideal
public import proofs.«01_k».proof.Proof.Bucket
@[expose] public section
set_option maxRecDepth 16384
noncomputable section
namespace Cert.Bias
open Idealize.ShloMosaic

theorem tab0_0 : ∀ b : Fin 8, ∀ j : Fin 128, Nat.beq (Cert.Kernel5Ideal.lit0t (128 * (0 + b.val) + j.val)).toNat (wordN (128 * (0 + b.val) + j.val)) = true := by
  decide +kernel
theorem tab0_1 : ∀ b : Fin 8, ∀ j : Fin 128, Nat.beq (Cert.Kernel5Ideal.lit0t (128 * (8 + b.val) + j.val)).toNat (wordN (128 * (8 + b.val) + j.val)) = true := by
  decide +kernel
theorem tab0_2 : ∀ b : Fin 8, ∀ j : Fin 128, Nat.beq (Cert.Kernel5Ideal.lit0t (128 * (16 + b.val) + j.val)).toNat (wordN (128 * (16 + b.val) + j.val)) = true := by
  decide +kernel
theorem tab0_3 : ∀ b : Fin 8, ∀ j : Fin 128, Nat.beq (Cert.Kernel5Ideal.lit0t (128 * (24 + b.val) + j.val)).toNat (wordN (128 * (24 + b.val) + j.val)) = true := by
  decide +kernel
theorem tab0_4 : ∀ b : Fin 8, ∀ j : Fin 128, Nat.beq (Cert.Kernel5Ideal.lit0t (128 * (32 + b.val) + j.val)).toNat (wordN (128 * (32 + b.val) + j.val)) = true := by
  decide +kernel
theorem tab0_5 : ∀ b : Fin 8, ∀ j : Fin 128, Nat.beq (Cert.Kernel5Ideal.lit0t (128 * (40 + b.val) + j.val)).toNat (wordN (128 * (40 + b.val) + j.val)) = true := by
  decide +kernel
theorem tab0_6 : ∀ b : Fin 8, ∀ j : Fin 128, Nat.beq (Cert.Kernel5Ideal.lit0t (128 * (48 + b.val) + j.val)).toNat (wordN (128 * (48 + b.val) + j.val)) = true := by
  decide +kernel
theorem tab0_7 : ∀ b : Fin 8, ∀ j : Fin 128, Nat.beq (Cert.Kernel5Ideal.lit0t (128 * (56 + b.val) + j.val)).toNat (wordN (128 * (56 + b.val) + j.val)) = true := by
  decide +kernel
theorem tab0_8 : ∀ b : Fin 8, ∀ j : Fin 128, Nat.beq (Cert.Kernel5Ideal.lit0t (128 * (64 + b.val) + j.val)).toNat (wordN (128 * (64 + b.val) + j.val)) = true := by
  decide +kernel
theorem tab0_9 : ∀ b : Fin 8, ∀ j : Fin 128, Nat.beq (Cert.Kernel5Ideal.lit0t (128 * (72 + b.val) + j.val)).toNat (wordN (128 * (72 + b.val) + j.val)) = true := by
  decide +kernel
theorem tab0_10 : ∀ b : Fin 8, ∀ j : Fin 128, Nat.beq (Cert.Kernel5Ideal.lit0t (128 * (80 + b.val) + j.val)).toNat (wordN (128 * (80 + b.val) + j.val)) = true := by
  decide +kernel
theorem tab0_11 : ∀ b : Fin 8, ∀ j : Fin 128, Nat.beq (Cert.Kernel5Ideal.lit0t (128 * (88 + b.val) + j.val)).toNat (wordN (128 * (88 + b.val) + j.val)) = true := by
  decide +kernel
theorem tab0_12 : ∀ b : Fin 8, ∀ j : Fin 128, Nat.beq (Cert.Kernel5Ideal.lit0t (128 * (96 + b.val) + j.val)).toNat (wordN (128 * (96 + b.val) + j.val)) = true := by
  decide +kernel
theorem tab0_13 : ∀ b : Fin 8, ∀ j : Fin 128, Nat.beq (Cert.Kernel5Ideal.lit0t (128 * (104 + b.val) + j.val)).toNat (wordN (128 * (104 + b.val) + j.val)) = true := by
  decide +kernel
theorem tab0_14 : ∀ b : Fin 8, ∀ j : Fin 128, Nat.beq (Cert.Kernel5Ideal.lit0t (128 * (112 + b.val) + j.val)).toNat (wordN (128 * (112 + b.val) + j.val)) = true := by
  decide +kernel
theorem tab0_15 : ∀ b : Fin 8, ∀ j : Fin 128, Nat.beq (Cert.Kernel5Ideal.lit0t (128 * (120 + b.val) + j.val)).toNat (wordN (128 * (120 + b.val) + j.val)) = true := by
  decide +kernel

theorem tab0 (i : ℕ) (h0 : 0 ≤ i) (hi : i < 16384) : (Cert.Kernel5Ideal.lit0t i).toNat = wordN i := by
  by_cases g0 : i < 1024
  · have h := Nat.eq_of_beq_eq_true (tab0_0 ⟨i / 128 - 0, by omega⟩ ⟨i % 128, by omega⟩)
    simpa only [show 128 * (0 + (i / 128 - 0)) + i % 128 = i by omega] using h
  by_cases g1 : i < 2048
  · have h := Nat.eq_of_beq_eq_true (tab0_1 ⟨i / 128 - 8, by omega⟩ ⟨i % 128, by omega⟩)
    simpa only [show 128 * (8 + (i / 128 - 8)) + i % 128 = i by omega] using h
  by_cases g2 : i < 3072
  · have h := Nat.eq_of_beq_eq_true (tab0_2 ⟨i / 128 - 16, by omega⟩ ⟨i % 128, by omega⟩)
    simpa only [show 128 * (16 + (i / 128 - 16)) + i % 128 = i by omega] using h
  by_cases g3 : i < 4096
  · have h := Nat.eq_of_beq_eq_true (tab0_3 ⟨i / 128 - 24, by omega⟩ ⟨i % 128, by omega⟩)
    simpa only [show 128 * (24 + (i / 128 - 24)) + i % 128 = i by omega] using h
  by_cases g4 : i < 5120
  · have h := Nat.eq_of_beq_eq_true (tab0_4 ⟨i / 128 - 32, by omega⟩ ⟨i % 128, by omega⟩)
    simpa only [show 128 * (32 + (i / 128 - 32)) + i % 128 = i by omega] using h
  by_cases g5 : i < 6144
  · have h := Nat.eq_of_beq_eq_true (tab0_5 ⟨i / 128 - 40, by omega⟩ ⟨i % 128, by omega⟩)
    simpa only [show 128 * (40 + (i / 128 - 40)) + i % 128 = i by omega] using h
  by_cases g6 : i < 7168
  · have h := Nat.eq_of_beq_eq_true (tab0_6 ⟨i / 128 - 48, by omega⟩ ⟨i % 128, by omega⟩)
    simpa only [show 128 * (48 + (i / 128 - 48)) + i % 128 = i by omega] using h
  by_cases g7 : i < 8192
  · have h := Nat.eq_of_beq_eq_true (tab0_7 ⟨i / 128 - 56, by omega⟩ ⟨i % 128, by omega⟩)
    simpa only [show 128 * (56 + (i / 128 - 56)) + i % 128 = i by omega] using h
  by_cases g8 : i < 9216
  · have h := Nat.eq_of_beq_eq_true (tab0_8 ⟨i / 128 - 64, by omega⟩ ⟨i % 128, by omega⟩)
    simpa only [show 128 * (64 + (i / 128 - 64)) + i % 128 = i by omega] using h
  by_cases g9 : i < 10240
  · have h := Nat.eq_of_beq_eq_true (tab0_9 ⟨i / 128 - 72, by omega⟩ ⟨i % 128, by omega⟩)
    simpa only [show 128 * (72 + (i / 128 - 72)) + i % 128 = i by omega] using h
  by_cases g10 : i < 11264
  · have h := Nat.eq_of_beq_eq_true (tab0_10 ⟨i / 128 - 80, by omega⟩ ⟨i % 128, by omega⟩)
    simpa only [show 128 * (80 + (i / 128 - 80)) + i % 128 = i by omega] using h
  by_cases g11 : i < 12288
  · have h := Nat.eq_of_beq_eq_true (tab0_11 ⟨i / 128 - 88, by omega⟩ ⟨i % 128, by omega⟩)
    simpa only [show 128 * (88 + (i / 128 - 88)) + i % 128 = i by omega] using h
  by_cases g12 : i < 13312
  · have h := Nat.eq_of_beq_eq_true (tab0_12 ⟨i / 128 - 96, by omega⟩ ⟨i % 128, by omega⟩)
    simpa only [show 128 * (96 + (i / 128 - 96)) + i % 128 = i by omega] using h
  by_cases g13 : i < 14336
  · have h := Nat.eq_of_beq_eq_true (tab0_13 ⟨i / 128 - 104, by omega⟩ ⟨i % 128, by omega⟩)
    simpa only [show 128 * (104 + (i / 128 - 104)) + i % 128 = i by omega] using h
  by_cases g14 : i < 15360
  · have h := Nat.eq_of_beq_eq_true (tab0_14 ⟨i / 128 - 112, by omega⟩ ⟨i % 128, by omega⟩)
    simpa only [show 128 * (112 + (i / 128 - 112)) + i % 128 = i by omega] using h
  by_cases g15 : i < 16384
  · have h := Nat.eq_of_beq_eq_true (tab0_15 ⟨i / 128 - 120, by omega⟩ ⟨i % 128, by omega⟩)
    simpa only [show 128 * (120 + (i / 128 - 120)) + i % 128 = i by omega] using h
  omega

end Cert.Bias
end
-- ==== Proof.Table1.lean ====
/-
  THE BUCKET TABLE, entries 16384 to 32767: each is the bucket of its distance.
-/
module
public import proofs.«01_k».proof.Kernel5Ideal
public import proofs.«01_k».proof.Proof.Bucket
@[expose] public section
set_option maxRecDepth 16384
noncomputable section
namespace Cert.Bias
open Idealize.ShloMosaic

theorem tab1_0 : ∀ b : Fin 8, ∀ j : Fin 128, Nat.beq (Cert.Kernel5Ideal.lit0t (128 * (128 + b.val) + j.val)).toNat (wordN (128 * (128 + b.val) + j.val)) = true := by
  decide +kernel
theorem tab1_1 : ∀ b : Fin 8, ∀ j : Fin 128, Nat.beq (Cert.Kernel5Ideal.lit0t (128 * (136 + b.val) + j.val)).toNat (wordN (128 * (136 + b.val) + j.val)) = true := by
  decide +kernel
theorem tab1_2 : ∀ b : Fin 8, ∀ j : Fin 128, Nat.beq (Cert.Kernel5Ideal.lit0t (128 * (144 + b.val) + j.val)).toNat (wordN (128 * (144 + b.val) + j.val)) = true := by
  decide +kernel
theorem tab1_3 : ∀ b : Fin 8, ∀ j : Fin 128, Nat.beq (Cert.Kernel5Ideal.lit0t (128 * (152 + b.val) + j.val)).toNat (wordN (128 * (152 + b.val) + j.val)) = true := by
  decide +kernel
theorem tab1_4 : ∀ b : Fin 8, ∀ j : Fin 128, Nat.beq (Cert.Kernel5Ideal.lit0t (128 * (160 + b.val) + j.val)).toNat (wordN (128 * (160 + b.val) + j.val)) = true := by
  decide +kernel
theorem tab1_5 : ∀ b : Fin 8, ∀ j : Fin 128, Nat.beq (Cert.Kernel5Ideal.lit0t (128 * (168 + b.val) + j.val)).toNat (wordN (128 * (168 + b.val) + j.val)) = true := by
  decide +kernel
theorem tab1_6 : ∀ b : Fin 8, ∀ j : Fin 128, Nat.beq (Cert.Kernel5Ideal.lit0t (128 * (176 + b.val) + j.val)).toNat (wordN (128 * (176 + b.val) + j.val)) = true := by
  decide +kernel
theorem tab1_7 : ∀ b : Fin 8, ∀ j : Fin 128, Nat.beq (Cert.Kernel5Ideal.lit0t (128 * (184 + b.val) + j.val)).toNat (wordN (128 * (184 + b.val) + j.val)) = true := by
  decide +kernel
theorem tab1_8 : ∀ b : Fin 8, ∀ j : Fin 128, Nat.beq (Cert.Kernel5Ideal.lit0t (128 * (192 + b.val) + j.val)).toNat (wordN (128 * (192 + b.val) + j.val)) = true := by
  decide +kernel
theorem tab1_9 : ∀ b : Fin 8, ∀ j : Fin 128, Nat.beq (Cert.Kernel5Ideal.lit0t (128 * (200 + b.val) + j.val)).toNat (wordN (128 * (200 + b.val) + j.val)) = true := by
  decide +kernel
theorem tab1_10 : ∀ b : Fin 8, ∀ j : Fin 128, Nat.beq (Cert.Kernel5Ideal.lit0t (128 * (208 + b.val) + j.val)).toNat (wordN (128 * (208 + b.val) + j.val)) = true := by
  decide +kernel
theorem tab1_11 : ∀ b : Fin 8, ∀ j : Fin 128, Nat.beq (Cert.Kernel5Ideal.lit0t (128 * (216 + b.val) + j.val)).toNat (wordN (128 * (216 + b.val) + j.val)) = true := by
  decide +kernel
theorem tab1_12 : ∀ b : Fin 8, ∀ j : Fin 128, Nat.beq (Cert.Kernel5Ideal.lit0t (128 * (224 + b.val) + j.val)).toNat (wordN (128 * (224 + b.val) + j.val)) = true := by
  decide +kernel
theorem tab1_13 : ∀ b : Fin 8, ∀ j : Fin 128, Nat.beq (Cert.Kernel5Ideal.lit0t (128 * (232 + b.val) + j.val)).toNat (wordN (128 * (232 + b.val) + j.val)) = true := by
  decide +kernel
theorem tab1_14 : ∀ b : Fin 8, ∀ j : Fin 128, Nat.beq (Cert.Kernel5Ideal.lit0t (128 * (240 + b.val) + j.val)).toNat (wordN (128 * (240 + b.val) + j.val)) = true := by
  decide +kernel
theorem tab1_15 : ∀ b : Fin 8, ∀ j : Fin 128, Nat.beq (Cert.Kernel5Ideal.lit0t (128 * (248 + b.val) + j.val)).toNat (wordN (128 * (248 + b.val) + j.val)) = true := by
  decide +kernel

theorem tab1 (i : ℕ) (h0 : 16384 ≤ i) (hi : i < 32768) : (Cert.Kernel5Ideal.lit0t i).toNat = wordN i := by
  by_cases g0 : i < 17408
  · have h := Nat.eq_of_beq_eq_true (tab1_0 ⟨i / 128 - 128, by omega⟩ ⟨i % 128, by omega⟩)
    simpa only [show 128 * (128 + (i / 128 - 128)) + i % 128 = i by omega] using h
  by_cases g1 : i < 18432
  · have h := Nat.eq_of_beq_eq_true (tab1_1 ⟨i / 128 - 136, by omega⟩ ⟨i % 128, by omega⟩)
    simpa only [show 128 * (136 + (i / 128 - 136)) + i % 128 = i by omega] using h
  by_cases g2 : i < 19456
  · have h := Nat.eq_of_beq_eq_true (tab1_2 ⟨i / 128 - 144, by omega⟩ ⟨i % 128, by omega⟩)
    simpa only [show 128 * (144 + (i / 128 - 144)) + i % 128 = i by omega] using h
  by_cases g3 : i < 20480
  · have h := Nat.eq_of_beq_eq_true (tab1_3 ⟨i / 128 - 152, by omega⟩ ⟨i % 128, by omega⟩)
    simpa only [show 128 * (152 + (i / 128 - 152)) + i % 128 = i by omega] using h
  by_cases g4 : i < 21504
  · have h := Nat.eq_of_beq_eq_true (tab1_4 ⟨i / 128 - 160, by omega⟩ ⟨i % 128, by omega⟩)
    simpa only [show 128 * (160 + (i / 128 - 160)) + i % 128 = i by omega] using h
  by_cases g5 : i < 22528
  · have h := Nat.eq_of_beq_eq_true (tab1_5 ⟨i / 128 - 168, by omega⟩ ⟨i % 128, by omega⟩)
    simpa only [show 128 * (168 + (i / 128 - 168)) + i % 128 = i by omega] using h
  by_cases g6 : i < 23552
  · have h := Nat.eq_of_beq_eq_true (tab1_6 ⟨i / 128 - 176, by omega⟩ ⟨i % 128, by omega⟩)
    simpa only [show 128 * (176 + (i / 128 - 176)) + i % 128 = i by omega] using h
  by_cases g7 : i < 24576
  · have h := Nat.eq_of_beq_eq_true (tab1_7 ⟨i / 128 - 184, by omega⟩ ⟨i % 128, by omega⟩)
    simpa only [show 128 * (184 + (i / 128 - 184)) + i % 128 = i by omega] using h
  by_cases g8 : i < 25600
  · have h := Nat.eq_of_beq_eq_true (tab1_8 ⟨i / 128 - 192, by omega⟩ ⟨i % 128, by omega⟩)
    simpa only [show 128 * (192 + (i / 128 - 192)) + i % 128 = i by omega] using h
  by_cases g9 : i < 26624
  · have h := Nat.eq_of_beq_eq_true (tab1_9 ⟨i / 128 - 200, by omega⟩ ⟨i % 128, by omega⟩)
    simpa only [show 128 * (200 + (i / 128 - 200)) + i % 128 = i by omega] using h
  by_cases g10 : i < 27648
  · have h := Nat.eq_of_beq_eq_true (tab1_10 ⟨i / 128 - 208, by omega⟩ ⟨i % 128, by omega⟩)
    simpa only [show 128 * (208 + (i / 128 - 208)) + i % 128 = i by omega] using h
  by_cases g11 : i < 28672
  · have h := Nat.eq_of_beq_eq_true (tab1_11 ⟨i / 128 - 216, by omega⟩ ⟨i % 128, by omega⟩)
    simpa only [show 128 * (216 + (i / 128 - 216)) + i % 128 = i by omega] using h
  by_cases g12 : i < 29696
  · have h := Nat.eq_of_beq_eq_true (tab1_12 ⟨i / 128 - 224, by omega⟩ ⟨i % 128, by omega⟩)
    simpa only [show 128 * (224 + (i / 128 - 224)) + i % 128 = i by omega] using h
  by_cases g13 : i < 30720
  · have h := Nat.eq_of_beq_eq_true (tab1_13 ⟨i / 128 - 232, by omega⟩ ⟨i % 128, by omega⟩)
    simpa only [show 128 * (232 + (i / 128 - 232)) + i % 128 = i by omega] using h
  by_cases g14 : i < 31744
  · have h := Nat.eq_of_beq_eq_true (tab1_14 ⟨i / 128 - 240, by omega⟩ ⟨i % 128, by omega⟩)
    simpa only [show 128 * (240 + (i / 128 - 240)) + i % 128 = i by omega] using h
  by_cases g15 : i < 32768
  · have h := Nat.eq_of_beq_eq_true (tab1_15 ⟨i / 128 - 248, by omega⟩ ⟨i % 128, by omega⟩)
    simpa only [show 128 * (248 + (i / 128 - 248)) + i % 128 = i by omega] using h
  omega

end Cert.Bias
end
-- ==== Proof.Table2.lean ====
/-
  THE BUCKET TABLE, entries 32768 to 49151: each is the bucket of its distance.
-/
module
public import proofs.«01_k».proof.Kernel5Ideal
public import proofs.«01_k».proof.Proof.Bucket
@[expose] public section
set_option maxRecDepth 16384
noncomputable section
namespace Cert.Bias
open Idealize.ShloMosaic

theorem tab2_0 : ∀ b : Fin 8, ∀ j : Fin 128, Nat.beq (Cert.Kernel5Ideal.lit0t (128 * (256 + b.val) + j.val)).toNat (wordN (128 * (256 + b.val) + j.val)) = true := by
  decide +kernel
theorem tab2_1 : ∀ b : Fin 8, ∀ j : Fin 128, Nat.beq (Cert.Kernel5Ideal.lit0t (128 * (264 + b.val) + j.val)).toNat (wordN (128 * (264 + b.val) + j.val)) = true := by
  decide +kernel
theorem tab2_2 : ∀ b : Fin 8, ∀ j : Fin 128, Nat.beq (Cert.Kernel5Ideal.lit0t (128 * (272 + b.val) + j.val)).toNat (wordN (128 * (272 + b.val) + j.val)) = true := by
  decide +kernel
theorem tab2_3 : ∀ b : Fin 8, ∀ j : Fin 128, Nat.beq (Cert.Kernel5Ideal.lit0t (128 * (280 + b.val) + j.val)).toNat (wordN (128 * (280 + b.val) + j.val)) = true := by
  decide +kernel
theorem tab2_4 : ∀ b : Fin 8, ∀ j : Fin 128, Nat.beq (Cert.Kernel5Ideal.lit0t (128 * (288 + b.val) + j.val)).toNat (wordN (128 * (288 + b.val) + j.val)) = true := by
  decide +kernel
theorem tab2_5 : ∀ b : Fin 8, ∀ j : Fin 128, Nat.beq (Cert.Kernel5Ideal.lit0t (128 * (296 + b.val) + j.val)).toNat (wordN (128 * (296 + b.val) + j.val)) = true := by
  decide +kernel
theorem tab2_6 : ∀ b : Fin 8, ∀ j : Fin 128, Nat.beq (Cert.Kernel5Ideal.lit0t (128 * (304 + b.val) + j.val)).toNat (wordN (128 * (304 + b.val) + j.val)) = true := by
  decide +kernel
theorem tab2_7 : ∀ b : Fin 8, ∀ j : Fin 128, Nat.beq (Cert.Kernel5Ideal.lit0t (128 * (312 + b.val) + j.val)).toNat (wordN (128 * (312 + b.val) + j.val)) = true := by
  decide +kernel
theorem tab2_8 : ∀ b : Fin 8, ∀ j : Fin 128, Nat.beq (Cert.Kernel5Ideal.lit0t (128 * (320 + b.val) + j.val)).toNat (wordN (128 * (320 + b.val) + j.val)) = true := by
  decide +kernel
theorem tab2_9 : ∀ b : Fin 8, ∀ j : Fin 128, Nat.beq (Cert.Kernel5Ideal.lit0t (128 * (328 + b.val) + j.val)).toNat (wordN (128 * (328 + b.val) + j.val)) = true := by
  decide +kernel
theorem tab2_10 : ∀ b : Fin 8, ∀ j : Fin 128, Nat.beq (Cert.Kernel5Ideal.lit0t (128 * (336 + b.val) + j.val)).toNat (wordN (128 * (336 + b.val) + j.val)) = true := by
  decide +kernel
theorem tab2_11 : ∀ b : Fin 8, ∀ j : Fin 128, Nat.beq (Cert.Kernel5Ideal.lit0t (128 * (344 + b.val) + j.val)).toNat (wordN (128 * (344 + b.val) + j.val)) = true := by
  decide +kernel
theorem tab2_12 : ∀ b : Fin 8, ∀ j : Fin 128, Nat.beq (Cert.Kernel5Ideal.lit0t (128 * (352 + b.val) + j.val)).toNat (wordN (128 * (352 + b.val) + j.val)) = true := by
  decide +kernel
theorem tab2_13 : ∀ b : Fin 8, ∀ j : Fin 128, Nat.beq (Cert.Kernel5Ideal.lit0t (128 * (360 + b.val) + j.val)).toNat (wordN (128 * (360 + b.val) + j.val)) = true := by
  decide +kernel
theorem tab2_14 : ∀ b : Fin 8, ∀ j : Fin 128, Nat.beq (Cert.Kernel5Ideal.lit0t (128 * (368 + b.val) + j.val)).toNat (wordN (128 * (368 + b.val) + j.val)) = true := by
  decide +kernel
theorem tab2_15 : ∀ b : Fin 8, ∀ j : Fin 128, Nat.beq (Cert.Kernel5Ideal.lit0t (128 * (376 + b.val) + j.val)).toNat (wordN (128 * (376 + b.val) + j.val)) = true := by
  decide +kernel

theorem tab2 (i : ℕ) (h0 : 32768 ≤ i) (hi : i < 49152) : (Cert.Kernel5Ideal.lit0t i).toNat = wordN i := by
  by_cases g0 : i < 33792
  · have h := Nat.eq_of_beq_eq_true (tab2_0 ⟨i / 128 - 256, by omega⟩ ⟨i % 128, by omega⟩)
    simpa only [show 128 * (256 + (i / 128 - 256)) + i % 128 = i by omega] using h
  by_cases g1 : i < 34816
  · have h := Nat.eq_of_beq_eq_true (tab2_1 ⟨i / 128 - 264, by omega⟩ ⟨i % 128, by omega⟩)
    simpa only [show 128 * (264 + (i / 128 - 264)) + i % 128 = i by omega] using h
  by_cases g2 : i < 35840
  · have h := Nat.eq_of_beq_eq_true (tab2_2 ⟨i / 128 - 272, by omega⟩ ⟨i % 128, by omega⟩)
    simpa only [show 128 * (272 + (i / 128 - 272)) + i % 128 = i by omega] using h
  by_cases g3 : i < 36864
  · have h := Nat.eq_of_beq_eq_true (tab2_3 ⟨i / 128 - 280, by omega⟩ ⟨i % 128, by omega⟩)
    simpa only [show 128 * (280 + (i / 128 - 280)) + i % 128 = i by omega] using h
  by_cases g4 : i < 37888
  · have h := Nat.eq_of_beq_eq_true (tab2_4 ⟨i / 128 - 288, by omega⟩ ⟨i % 128, by omega⟩)
    simpa only [show 128 * (288 + (i / 128 - 288)) + i % 128 = i by omega] using h
  by_cases g5 : i < 38912
  · have h := Nat.eq_of_beq_eq_true (tab2_5 ⟨i / 128 - 296, by omega⟩ ⟨i % 128, by omega⟩)
    simpa only [show 128 * (296 + (i / 128 - 296)) + i % 128 = i by omega] using h
  by_cases g6 : i < 39936
  · have h := Nat.eq_of_beq_eq_true (tab2_6 ⟨i / 128 - 304, by omega⟩ ⟨i % 128, by omega⟩)
    simpa only [show 128 * (304 + (i / 128 - 304)) + i % 128 = i by omega] using h
  by_cases g7 : i < 40960
  · have h := Nat.eq_of_beq_eq_true (tab2_7 ⟨i / 128 - 312, by omega⟩ ⟨i % 128, by omega⟩)
    simpa only [show 128 * (312 + (i / 128 - 312)) + i % 128 = i by omega] using h
  by_cases g8 : i < 41984
  · have h := Nat.eq_of_beq_eq_true (tab2_8 ⟨i / 128 - 320, by omega⟩ ⟨i % 128, by omega⟩)
    simpa only [show 128 * (320 + (i / 128 - 320)) + i % 128 = i by omega] using h
  by_cases g9 : i < 43008
  · have h := Nat.eq_of_beq_eq_true (tab2_9 ⟨i / 128 - 328, by omega⟩ ⟨i % 128, by omega⟩)
    simpa only [show 128 * (328 + (i / 128 - 328)) + i % 128 = i by omega] using h
  by_cases g10 : i < 44032
  · have h := Nat.eq_of_beq_eq_true (tab2_10 ⟨i / 128 - 336, by omega⟩ ⟨i % 128, by omega⟩)
    simpa only [show 128 * (336 + (i / 128 - 336)) + i % 128 = i by omega] using h
  by_cases g11 : i < 45056
  · have h := Nat.eq_of_beq_eq_true (tab2_11 ⟨i / 128 - 344, by omega⟩ ⟨i % 128, by omega⟩)
    simpa only [show 128 * (344 + (i / 128 - 344)) + i % 128 = i by omega] using h
  by_cases g12 : i < 46080
  · have h := Nat.eq_of_beq_eq_true (tab2_12 ⟨i / 128 - 352, by omega⟩ ⟨i % 128, by omega⟩)
    simpa only [show 128 * (352 + (i / 128 - 352)) + i % 128 = i by omega] using h
  by_cases g13 : i < 47104
  · have h := Nat.eq_of_beq_eq_true (tab2_13 ⟨i / 128 - 360, by omega⟩ ⟨i % 128, by omega⟩)
    simpa only [show 128 * (360 + (i / 128 - 360)) + i % 128 = i by omega] using h
  by_cases g14 : i < 48128
  · have h := Nat.eq_of_beq_eq_true (tab2_14 ⟨i / 128 - 368, by omega⟩ ⟨i % 128, by omega⟩)
    simpa only [show 128 * (368 + (i / 128 - 368)) + i % 128 = i by omega] using h
  by_cases g15 : i < 49152
  · have h := Nat.eq_of_beq_eq_true (tab2_15 ⟨i / 128 - 376, by omega⟩ ⟨i % 128, by omega⟩)
    simpa only [show 128 * (376 + (i / 128 - 376)) + i % 128 = i by omega] using h
  omega

end Cert.Bias
end
-- ==== Proof.Table3.lean ====
/-
  THE BUCKET TABLE, entries 49152 to 65535: each is the bucket of its distance.
-/
module
public import proofs.«01_k».proof.Kernel5Ideal
public import proofs.«01_k».proof.Proof.Bucket
@[expose] public section
set_option maxRecDepth 16384
noncomputable section
namespace Cert.Bias
open Idealize.ShloMosaic

theorem tab3_0 : ∀ b : Fin 8, ∀ j : Fin 128, Nat.beq (Cert.Kernel5Ideal.lit0t (128 * (384 + b.val) + j.val)).toNat (wordN (128 * (384 + b.val) + j.val)) = true := by
  decide +kernel
theorem tab3_1 : ∀ b : Fin 8, ∀ j : Fin 128, Nat.beq (Cert.Kernel5Ideal.lit0t (128 * (392 + b.val) + j.val)).toNat (wordN (128 * (392 + b.val) + j.val)) = true := by
  decide +kernel
theorem tab3_2 : ∀ b : Fin 8, ∀ j : Fin 128, Nat.beq (Cert.Kernel5Ideal.lit0t (128 * (400 + b.val) + j.val)).toNat (wordN (128 * (400 + b.val) + j.val)) = true := by
  decide +kernel
theorem tab3_3 : ∀ b : Fin 8, ∀ j : Fin 128, Nat.beq (Cert.Kernel5Ideal.lit0t (128 * (408 + b.val) + j.val)).toNat (wordN (128 * (408 + b.val) + j.val)) = true := by
  decide +kernel
theorem tab3_4 : ∀ b : Fin 8, ∀ j : Fin 128, Nat.beq (Cert.Kernel5Ideal.lit0t (128 * (416 + b.val) + j.val)).toNat (wordN (128 * (416 + b.val) + j.val)) = true := by
  decide +kernel
theorem tab3_5 : ∀ b : Fin 8, ∀ j : Fin 128, Nat.beq (Cert.Kernel5Ideal.lit0t (128 * (424 + b.val) + j.val)).toNat (wordN (128 * (424 + b.val) + j.val)) = true := by
  decide +kernel
theorem tab3_6 : ∀ b : Fin 8, ∀ j : Fin 128, Nat.beq (Cert.Kernel5Ideal.lit0t (128 * (432 + b.val) + j.val)).toNat (wordN (128 * (432 + b.val) + j.val)) = true := by
  decide +kernel
theorem tab3_7 : ∀ b : Fin 8, ∀ j : Fin 128, Nat.beq (Cert.Kernel5Ideal.lit0t (128 * (440 + b.val) + j.val)).toNat (wordN (128 * (440 + b.val) + j.val)) = true := by
  decide +kernel
theorem tab3_8 : ∀ b : Fin 8, ∀ j : Fin 128, Nat.beq (Cert.Kernel5Ideal.lit0t (128 * (448 + b.val) + j.val)).toNat (wordN (128 * (448 + b.val) + j.val)) = true := by
  decide +kernel
theorem tab3_9 : ∀ b : Fin 8, ∀ j : Fin 128, Nat.beq (Cert.Kernel5Ideal.lit0t (128 * (456 + b.val) + j.val)).toNat (wordN (128 * (456 + b.val) + j.val)) = true := by
  decide +kernel
theorem tab3_10 : ∀ b : Fin 8, ∀ j : Fin 128, Nat.beq (Cert.Kernel5Ideal.lit0t (128 * (464 + b.val) + j.val)).toNat (wordN (128 * (464 + b.val) + j.val)) = true := by
  decide +kernel
theorem tab3_11 : ∀ b : Fin 8, ∀ j : Fin 128, Nat.beq (Cert.Kernel5Ideal.lit0t (128 * (472 + b.val) + j.val)).toNat (wordN (128 * (472 + b.val) + j.val)) = true := by
  decide +kernel
theorem tab3_12 : ∀ b : Fin 8, ∀ j : Fin 128, Nat.beq (Cert.Kernel5Ideal.lit0t (128 * (480 + b.val) + j.val)).toNat (wordN (128 * (480 + b.val) + j.val)) = true := by
  decide +kernel
theorem tab3_13 : ∀ b : Fin 8, ∀ j : Fin 128, Nat.beq (Cert.Kernel5Ideal.lit0t (128 * (488 + b.val) + j.val)).toNat (wordN (128 * (488 + b.val) + j.val)) = true := by
  decide +kernel
theorem tab3_14 : ∀ b : Fin 8, ∀ j : Fin 128, Nat.beq (Cert.Kernel5Ideal.lit0t (128 * (496 + b.val) + j.val)).toNat (wordN (128 * (496 + b.val) + j.val)) = true := by
  decide +kernel
theorem tab3_15 : ∀ b : Fin 8, ∀ j : Fin 128, Nat.beq (Cert.Kernel5Ideal.lit0t (128 * (504 + b.val) + j.val)).toNat (wordN (128 * (504 + b.val) + j.val)) = true := by
  decide +kernel

theorem tab3 (i : ℕ) (h0 : 49152 ≤ i) (hi : i < 65536) : (Cert.Kernel5Ideal.lit0t i).toNat = wordN i := by
  by_cases g0 : i < 50176
  · have h := Nat.eq_of_beq_eq_true (tab3_0 ⟨i / 128 - 384, by omega⟩ ⟨i % 128, by omega⟩)
    simpa only [show 128 * (384 + (i / 128 - 384)) + i % 128 = i by omega] using h
  by_cases g1 : i < 51200
  · have h := Nat.eq_of_beq_eq_true (tab3_1 ⟨i / 128 - 392, by omega⟩ ⟨i % 128, by omega⟩)
    simpa only [show 128 * (392 + (i / 128 - 392)) + i % 128 = i by omega] using h
  by_cases g2 : i < 52224
  · have h := Nat.eq_of_beq_eq_true (tab3_2 ⟨i / 128 - 400, by omega⟩ ⟨i % 128, by omega⟩)
    simpa only [show 128 * (400 + (i / 128 - 400)) + i % 128 = i by omega] using h
  by_cases g3 : i < 53248
  · have h := Nat.eq_of_beq_eq_true (tab3_3 ⟨i / 128 - 408, by omega⟩ ⟨i % 128, by omega⟩)
    simpa only [show 128 * (408 + (i / 128 - 408)) + i % 128 = i by omega] using h
  by_cases g4 : i < 54272
  · have h := Nat.eq_of_beq_eq_true (tab3_4 ⟨i / 128 - 416, by omega⟩ ⟨i % 128, by omega⟩)
    simpa only [show 128 * (416 + (i / 128 - 416)) + i % 128 = i by omega] using h
  by_cases g5 : i < 55296
  · have h := Nat.eq_of_beq_eq_true (tab3_5 ⟨i / 128 - 424, by omega⟩ ⟨i % 128, by omega⟩)
    simpa only [show 128 * (424 + (i / 128 - 424)) + i % 128 = i by omega] using h
  by_cases g6 : i < 56320
  · have h := Nat.eq_of_beq_eq_true (tab3_6 ⟨i / 128 - 432, by omega⟩ ⟨i % 128, by omega⟩)
    simpa only [show 128 * (432 + (i / 128 - 432)) + i % 128 = i by omega] using h
  by_cases g7 : i < 57344
  · have h := Nat.eq_of_beq_eq_true (tab3_7 ⟨i / 128 - 440, by omega⟩ ⟨i % 128, by omega⟩)
    simpa only [show 128 * (440 + (i / 128 - 440)) + i % 128 = i by omega] using h
  by_cases g8 : i < 58368
  · have h := Nat.eq_of_beq_eq_true (tab3_8 ⟨i / 128 - 448, by omega⟩ ⟨i % 128, by omega⟩)
    simpa only [show 128 * (448 + (i / 128 - 448)) + i % 128 = i by omega] using h
  by_cases g9 : i < 59392
  · have h := Nat.eq_of_beq_eq_true (tab3_9 ⟨i / 128 - 456, by omega⟩ ⟨i % 128, by omega⟩)
    simpa only [show 128 * (456 + (i / 128 - 456)) + i % 128 = i by omega] using h
  by_cases g10 : i < 60416
  · have h := Nat.eq_of_beq_eq_true (tab3_10 ⟨i / 128 - 464, by omega⟩ ⟨i % 128, by omega⟩)
    simpa only [show 128 * (464 + (i / 128 - 464)) + i % 128 = i by omega] using h
  by_cases g11 : i < 61440
  · have h := Nat.eq_of_beq_eq_true (tab3_11 ⟨i / 128 - 472, by omega⟩ ⟨i % 128, by omega⟩)
    simpa only [show 128 * (472 + (i / 128 - 472)) + i % 128 = i by omega] using h
  by_cases g12 : i < 62464
  · have h := Nat.eq_of_beq_eq_true (tab3_12 ⟨i / 128 - 480, by omega⟩ ⟨i % 128, by omega⟩)
    simpa only [show 128 * (480 + (i / 128 - 480)) + i % 128 = i by omega] using h
  by_cases g13 : i < 63488
  · have h := Nat.eq_of_beq_eq_true (tab3_13 ⟨i / 128 - 488, by omega⟩ ⟨i % 128, by omega⟩)
    simpa only [show 128 * (488 + (i / 128 - 488)) + i % 128 = i by omega] using h
  by_cases g14 : i < 64512
  · have h := Nat.eq_of_beq_eq_true (tab3_14 ⟨i / 128 - 496, by omega⟩ ⟨i % 128, by omega⟩)
    simpa only [show 128 * (496 + (i / 128 - 496)) + i % 128 = i by omega] using h
  by_cases g15 : i < 65536
  · have h := Nat.eq_of_beq_eq_true (tab3_15 ⟨i / 128 - 504, by omega⟩ ⟨i % 128, by omega⟩)
    simpa only [show 128 * (504 + (i / 128 - 504)) + i % 128 = i by omega] using h
  omega

end Cert.Bias
end
-- ==== Proof.Table4.lean ====
/-
  THE BUCKET TABLE, entries 65536 to 81919: each is the bucket of its distance.
-/
module
public import proofs.«01_k».proof.Kernel5Ideal
public import proofs.«01_k».proof.Proof.Bucket
@[expose] public section
set_option maxRecDepth 16384
noncomputable section
namespace Cert.Bias
open Idealize.ShloMosaic

theorem tab4_0 : ∀ b : Fin 8, ∀ j : Fin 128, Nat.beq (Cert.Kernel5Ideal.lit0t (128 * (512 + b.val) + j.val)).toNat (wordN (128 * (512 + b.val) + j.val)) = true := by
  decide +kernel
theorem tab4_1 : ∀ b : Fin 8, ∀ j : Fin 128, Nat.beq (Cert.Kernel5Ideal.lit0t (128 * (520 + b.val) + j.val)).toNat (wordN (128 * (520 + b.val) + j.val)) = true := by
  decide +kernel
theorem tab4_2 : ∀ b : Fin 8, ∀ j : Fin 128, Nat.beq (Cert.Kernel5Ideal.lit0t (128 * (528 + b.val) + j.val)).toNat (wordN (128 * (528 + b.val) + j.val)) = true := by
  decide +kernel
theorem tab4_3 : ∀ b : Fin 8, ∀ j : Fin 128, Nat.beq (Cert.Kernel5Ideal.lit0t (128 * (536 + b.val) + j.val)).toNat (wordN (128 * (536 + b.val) + j.val)) = true := by
  decide +kernel
theorem tab4_4 : ∀ b : Fin 8, ∀ j : Fin 128, Nat.beq (Cert.Kernel5Ideal.lit0t (128 * (544 + b.val) + j.val)).toNat (wordN (128 * (544 + b.val) + j.val)) = true := by
  decide +kernel
theorem tab4_5 : ∀ b : Fin 8, ∀ j : Fin 128, Nat.beq (Cert.Kernel5Ideal.lit0t (128 * (552 + b.val) + j.val)).toNat (wordN (128 * (552 + b.val) + j.val)) = true := by
  decide +kernel
theorem tab4_6 : ∀ b : Fin 8, ∀ j : Fin 128, Nat.beq (Cert.Kernel5Ideal.lit0t (128 * (560 + b.val) + j.val)).toNat (wordN (128 * (560 + b.val) + j.val)) = true := by
  decide +kernel
theorem tab4_7 : ∀ b : Fin 8, ∀ j : Fin 128, Nat.beq (Cert.Kernel5Ideal.lit0t (128 * (568 + b.val) + j.val)).toNat (wordN (128 * (568 + b.val) + j.val)) = true := by
  decide +kernel
theorem tab4_8 : ∀ b : Fin 8, ∀ j : Fin 128, Nat.beq (Cert.Kernel5Ideal.lit0t (128 * (576 + b.val) + j.val)).toNat (wordN (128 * (576 + b.val) + j.val)) = true := by
  decide +kernel
theorem tab4_9 : ∀ b : Fin 8, ∀ j : Fin 128, Nat.beq (Cert.Kernel5Ideal.lit0t (128 * (584 + b.val) + j.val)).toNat (wordN (128 * (584 + b.val) + j.val)) = true := by
  decide +kernel
theorem tab4_10 : ∀ b : Fin 8, ∀ j : Fin 128, Nat.beq (Cert.Kernel5Ideal.lit0t (128 * (592 + b.val) + j.val)).toNat (wordN (128 * (592 + b.val) + j.val)) = true := by
  decide +kernel
theorem tab4_11 : ∀ b : Fin 8, ∀ j : Fin 128, Nat.beq (Cert.Kernel5Ideal.lit0t (128 * (600 + b.val) + j.val)).toNat (wordN (128 * (600 + b.val) + j.val)) = true := by
  decide +kernel
theorem tab4_12 : ∀ b : Fin 8, ∀ j : Fin 128, Nat.beq (Cert.Kernel5Ideal.lit0t (128 * (608 + b.val) + j.val)).toNat (wordN (128 * (608 + b.val) + j.val)) = true := by
  decide +kernel
theorem tab4_13 : ∀ b : Fin 8, ∀ j : Fin 128, Nat.beq (Cert.Kernel5Ideal.lit0t (128 * (616 + b.val) + j.val)).toNat (wordN (128 * (616 + b.val) + j.val)) = true := by
  decide +kernel
theorem tab4_14 : ∀ b : Fin 8, ∀ j : Fin 128, Nat.beq (Cert.Kernel5Ideal.lit0t (128 * (624 + b.val) + j.val)).toNat (wordN (128 * (624 + b.val) + j.val)) = true := by
  decide +kernel
theorem tab4_15 : ∀ b : Fin 8, ∀ j : Fin 128, Nat.beq (Cert.Kernel5Ideal.lit0t (128 * (632 + b.val) + j.val)).toNat (wordN (128 * (632 + b.val) + j.val)) = true := by
  decide +kernel

theorem tab4 (i : ℕ) (h0 : 65536 ≤ i) (hi : i < 81920) : (Cert.Kernel5Ideal.lit0t i).toNat = wordN i := by
  by_cases g0 : i < 66560
  · have h := Nat.eq_of_beq_eq_true (tab4_0 ⟨i / 128 - 512, by omega⟩ ⟨i % 128, by omega⟩)
    simpa only [show 128 * (512 + (i / 128 - 512)) + i % 128 = i by omega] using h
  by_cases g1 : i < 67584
  · have h := Nat.eq_of_beq_eq_true (tab4_1 ⟨i / 128 - 520, by omega⟩ ⟨i % 128, by omega⟩)
    simpa only [show 128 * (520 + (i / 128 - 520)) + i % 128 = i by omega] using h
  by_cases g2 : i < 68608
  · have h := Nat.eq_of_beq_eq_true (tab4_2 ⟨i / 128 - 528, by omega⟩ ⟨i % 128, by omega⟩)
    simpa only [show 128 * (528 + (i / 128 - 528)) + i % 128 = i by omega] using h
  by_cases g3 : i < 69632
  · have h := Nat.eq_of_beq_eq_true (tab4_3 ⟨i / 128 - 536, by omega⟩ ⟨i % 128, by omega⟩)
    simpa only [show 128 * (536 + (i / 128 - 536)) + i % 128 = i by omega] using h
  by_cases g4 : i < 70656
  · have h := Nat.eq_of_beq_eq_true (tab4_4 ⟨i / 128 - 544, by omega⟩ ⟨i % 128, by omega⟩)
    simpa only [show 128 * (544 + (i / 128 - 544)) + i % 128 = i by omega] using h
  by_cases g5 : i < 71680
  · have h := Nat.eq_of_beq_eq_true (tab4_5 ⟨i / 128 - 552, by omega⟩ ⟨i % 128, by omega⟩)
    simpa only [show 128 * (552 + (i / 128 - 552)) + i % 128 = i by omega] using h
  by_cases g6 : i < 72704
  · have h := Nat.eq_of_beq_eq_true (tab4_6 ⟨i / 128 - 560, by omega⟩ ⟨i % 128, by omega⟩)
    simpa only [show 128 * (560 + (i / 128 - 560)) + i % 128 = i by omega] using h
  by_cases g7 : i < 73728
  · have h := Nat.eq_of_beq_eq_true (tab4_7 ⟨i / 128 - 568, by omega⟩ ⟨i % 128, by omega⟩)
    simpa only [show 128 * (568 + (i / 128 - 568)) + i % 128 = i by omega] using h
  by_cases g8 : i < 74752
  · have h := Nat.eq_of_beq_eq_true (tab4_8 ⟨i / 128 - 576, by omega⟩ ⟨i % 128, by omega⟩)
    simpa only [show 128 * (576 + (i / 128 - 576)) + i % 128 = i by omega] using h
  by_cases g9 : i < 75776
  · have h := Nat.eq_of_beq_eq_true (tab4_9 ⟨i / 128 - 584, by omega⟩ ⟨i % 128, by omega⟩)
    simpa only [show 128 * (584 + (i / 128 - 584)) + i % 128 = i by omega] using h
  by_cases g10 : i < 76800
  · have h := Nat.eq_of_beq_eq_true (tab4_10 ⟨i / 128 - 592, by omega⟩ ⟨i % 128, by omega⟩)
    simpa only [show 128 * (592 + (i / 128 - 592)) + i % 128 = i by omega] using h
  by_cases g11 : i < 77824
  · have h := Nat.eq_of_beq_eq_true (tab4_11 ⟨i / 128 - 600, by omega⟩ ⟨i % 128, by omega⟩)
    simpa only [show 128 * (600 + (i / 128 - 600)) + i % 128 = i by omega] using h
  by_cases g12 : i < 78848
  · have h := Nat.eq_of_beq_eq_true (tab4_12 ⟨i / 128 - 608, by omega⟩ ⟨i % 128, by omega⟩)
    simpa only [show 128 * (608 + (i / 128 - 608)) + i % 128 = i by omega] using h
  by_cases g13 : i < 79872
  · have h := Nat.eq_of_beq_eq_true (tab4_13 ⟨i / 128 - 616, by omega⟩ ⟨i % 128, by omega⟩)
    simpa only [show 128 * (616 + (i / 128 - 616)) + i % 128 = i by omega] using h
  by_cases g14 : i < 80896
  · have h := Nat.eq_of_beq_eq_true (tab4_14 ⟨i / 128 - 624, by omega⟩ ⟨i % 128, by omega⟩)
    simpa only [show 128 * (624 + (i / 128 - 624)) + i % 128 = i by omega] using h
  by_cases g15 : i < 81920
  · have h := Nat.eq_of_beq_eq_true (tab4_15 ⟨i / 128 - 632, by omega⟩ ⟨i % 128, by omega⟩)
    simpa only [show 128 * (632 + (i / 128 - 632)) + i % 128 = i by omega] using h
  omega

end Cert.Bias
end
-- ==== Proof.Table5.lean ====
/-
  THE BUCKET TABLE, entries 81920 to 98303: each is the bucket of its distance.
-/
module
public import proofs.«01_k».proof.Kernel5Ideal
public import proofs.«01_k».proof.Proof.Bucket
@[expose] public section
set_option maxRecDepth 16384
noncomputable section
namespace Cert.Bias
open Idealize.ShloMosaic

theorem tab5_0 : ∀ b : Fin 8, ∀ j : Fin 128, Nat.beq (Cert.Kernel5Ideal.lit0t (128 * (640 + b.val) + j.val)).toNat (wordN (128 * (640 + b.val) + j.val)) = true := by
  decide +kernel
theorem tab5_1 : ∀ b : Fin 8, ∀ j : Fin 128, Nat.beq (Cert.Kernel5Ideal.lit0t (128 * (648 + b.val) + j.val)).toNat (wordN (128 * (648 + b.val) + j.val)) = true := by
  decide +kernel
theorem tab5_2 : ∀ b : Fin 8, ∀ j : Fin 128, Nat.beq (Cert.Kernel5Ideal.lit0t (128 * (656 + b.val) + j.val)).toNat (wordN (128 * (656 + b.val) + j.val)) = true := by
  decide +kernel
theorem tab5_3 : ∀ b : Fin 8, ∀ j : Fin 128, Nat.beq (Cert.Kernel5Ideal.lit0t (128 * (664 + b.val) + j.val)).toNat (wordN (128 * (664 + b.val) + j.val)) = true := by
  decide +kernel
theorem tab5_4 : ∀ b : Fin 8, ∀ j : Fin 128, Nat.beq (Cert.Kernel5Ideal.lit0t (128 * (672 + b.val) + j.val)).toNat (wordN (128 * (672 + b.val) + j.val)) = true := by
  decide +kernel
theorem tab5_5 : ∀ b : Fin 8, ∀ j : Fin 128, Nat.beq (Cert.Kernel5Ideal.lit0t (128 * (680 + b.val) + j.val)).toNat (wordN (128 * (680 + b.val) + j.val)) = true := by
  decide +kernel
theorem tab5_6 : ∀ b : Fin 8, ∀ j : Fin 128, Nat.beq (Cert.Kernel5Ideal.lit0t (128 * (688 + b.val) + j.val)).toNat (wordN (128 * (688 + b.val) + j.val)) = true := by
  decide +kernel
theorem tab5_7 : ∀ b : Fin 8, ∀ j : Fin 128, Nat.beq (Cert.Kernel5Ideal.lit0t (128 * (696 + b.val) + j.val)).toNat (wordN (128 * (696 + b.val) + j.val)) = true := by
  decide +kernel
theorem tab5_8 : ∀ b : Fin 8, ∀ j : Fin 128, Nat.beq (Cert.Kernel5Ideal.lit0t (128 * (704 + b.val) + j.val)).toNat (wordN (128 * (704 + b.val) + j.val)) = true := by
  decide +kernel
theorem tab5_9 : ∀ b : Fin 8, ∀ j : Fin 128, Nat.beq (Cert.Kernel5Ideal.lit0t (128 * (712 + b.val) + j.val)).toNat (wordN (128 * (712 + b.val) + j.val)) = true := by
  decide +kernel
theorem tab5_10 : ∀ b : Fin 8, ∀ j : Fin 128, Nat.beq (Cert.Kernel5Ideal.lit0t (128 * (720 + b.val) + j.val)).toNat (wordN (128 * (720 + b.val) + j.val)) = true := by
  decide +kernel
theorem tab5_11 : ∀ b : Fin 8, ∀ j : Fin 128, Nat.beq (Cert.Kernel5Ideal.lit0t (128 * (728 + b.val) + j.val)).toNat (wordN (128 * (728 + b.val) + j.val)) = true := by
  decide +kernel
theorem tab5_12 : ∀ b : Fin 8, ∀ j : Fin 128, Nat.beq (Cert.Kernel5Ideal.lit0t (128 * (736 + b.val) + j.val)).toNat (wordN (128 * (736 + b.val) + j.val)) = true := by
  decide +kernel
theorem tab5_13 : ∀ b : Fin 8, ∀ j : Fin 128, Nat.beq (Cert.Kernel5Ideal.lit0t (128 * (744 + b.val) + j.val)).toNat (wordN (128 * (744 + b.val) + j.val)) = true := by
  decide +kernel
theorem tab5_14 : ∀ b : Fin 8, ∀ j : Fin 128, Nat.beq (Cert.Kernel5Ideal.lit0t (128 * (752 + b.val) + j.val)).toNat (wordN (128 * (752 + b.val) + j.val)) = true := by
  decide +kernel
theorem tab5_15 : ∀ b : Fin 8, ∀ j : Fin 128, Nat.beq (Cert.Kernel5Ideal.lit0t (128 * (760 + b.val) + j.val)).toNat (wordN (128 * (760 + b.val) + j.val)) = true := by
  decide +kernel

theorem tab5 (i : ℕ) (h0 : 81920 ≤ i) (hi : i < 98304) : (Cert.Kernel5Ideal.lit0t i).toNat = wordN i := by
  by_cases g0 : i < 82944
  · have h := Nat.eq_of_beq_eq_true (tab5_0 ⟨i / 128 - 640, by omega⟩ ⟨i % 128, by omega⟩)
    simpa only [show 128 * (640 + (i / 128 - 640)) + i % 128 = i by omega] using h
  by_cases g1 : i < 83968
  · have h := Nat.eq_of_beq_eq_true (tab5_1 ⟨i / 128 - 648, by omega⟩ ⟨i % 128, by omega⟩)
    simpa only [show 128 * (648 + (i / 128 - 648)) + i % 128 = i by omega] using h
  by_cases g2 : i < 84992
  · have h := Nat.eq_of_beq_eq_true (tab5_2 ⟨i / 128 - 656, by omega⟩ ⟨i % 128, by omega⟩)
    simpa only [show 128 * (656 + (i / 128 - 656)) + i % 128 = i by omega] using h
  by_cases g3 : i < 86016
  · have h := Nat.eq_of_beq_eq_true (tab5_3 ⟨i / 128 - 664, by omega⟩ ⟨i % 128, by omega⟩)
    simpa only [show 128 * (664 + (i / 128 - 664)) + i % 128 = i by omega] using h
  by_cases g4 : i < 87040
  · have h := Nat.eq_of_beq_eq_true (tab5_4 ⟨i / 128 - 672, by omega⟩ ⟨i % 128, by omega⟩)
    simpa only [show 128 * (672 + (i / 128 - 672)) + i % 128 = i by omega] using h
  by_cases g5 : i < 88064
  · have h := Nat.eq_of_beq_eq_true (tab5_5 ⟨i / 128 - 680, by omega⟩ ⟨i % 128, by omega⟩)
    simpa only [show 128 * (680 + (i / 128 - 680)) + i % 128 = i by omega] using h
  by_cases g6 : i < 89088
  · have h := Nat.eq_of_beq_eq_true (tab5_6 ⟨i / 128 - 688, by omega⟩ ⟨i % 128, by omega⟩)
    simpa only [show 128 * (688 + (i / 128 - 688)) + i % 128 = i by omega] using h
  by_cases g7 : i < 90112
  · have h := Nat.eq_of_beq_eq_true (tab5_7 ⟨i / 128 - 696, by omega⟩ ⟨i % 128, by omega⟩)
    simpa only [show 128 * (696 + (i / 128 - 696)) + i % 128 = i by omega] using h
  by_cases g8 : i < 91136
  · have h := Nat.eq_of_beq_eq_true (tab5_8 ⟨i / 128 - 704, by omega⟩ ⟨i % 128, by omega⟩)
    simpa only [show 128 * (704 + (i / 128 - 704)) + i % 128 = i by omega] using h
  by_cases g9 : i < 92160
  · have h := Nat.eq_of_beq_eq_true (tab5_9 ⟨i / 128 - 712, by omega⟩ ⟨i % 128, by omega⟩)
    simpa only [show 128 * (712 + (i / 128 - 712)) + i % 128 = i by omega] using h
  by_cases g10 : i < 93184
  · have h := Nat.eq_of_beq_eq_true (tab5_10 ⟨i / 128 - 720, by omega⟩ ⟨i % 128, by omega⟩)
    simpa only [show 128 * (720 + (i / 128 - 720)) + i % 128 = i by omega] using h
  by_cases g11 : i < 94208
  · have h := Nat.eq_of_beq_eq_true (tab5_11 ⟨i / 128 - 728, by omega⟩ ⟨i % 128, by omega⟩)
    simpa only [show 128 * (728 + (i / 128 - 728)) + i % 128 = i by omega] using h
  by_cases g12 : i < 95232
  · have h := Nat.eq_of_beq_eq_true (tab5_12 ⟨i / 128 - 736, by omega⟩ ⟨i % 128, by omega⟩)
    simpa only [show 128 * (736 + (i / 128 - 736)) + i % 128 = i by omega] using h
  by_cases g13 : i < 96256
  · have h := Nat.eq_of_beq_eq_true (tab5_13 ⟨i / 128 - 744, by omega⟩ ⟨i % 128, by omega⟩)
    simpa only [show 128 * (744 + (i / 128 - 744)) + i % 128 = i by omega] using h
  by_cases g14 : i < 97280
  · have h := Nat.eq_of_beq_eq_true (tab5_14 ⟨i / 128 - 752, by omega⟩ ⟨i % 128, by omega⟩)
    simpa only [show 128 * (752 + (i / 128 - 752)) + i % 128 = i by omega] using h
  by_cases g15 : i < 98304
  · have h := Nat.eq_of_beq_eq_true (tab5_15 ⟨i / 128 - 760, by omega⟩ ⟨i % 128, by omega⟩)
    simpa only [show 128 * (760 + (i / 128 - 760)) + i % 128 = i by omega] using h
  omega

end Cert.Bias
end
-- ==== Proof.Table6.lean ====
/-
  THE BUCKET TABLE, entries 98304 to 114687: each is the bucket of its distance.
-/
module
public import proofs.«01_k».proof.Kernel5Ideal
public import proofs.«01_k».proof.Proof.Bucket
@[expose] public section
set_option maxRecDepth 16384
noncomputable section
namespace Cert.Bias
open Idealize.ShloMosaic

theorem tab6_0 : ∀ b : Fin 8, ∀ j : Fin 128, Nat.beq (Cert.Kernel5Ideal.lit0t (128 * (768 + b.val) + j.val)).toNat (wordN (128 * (768 + b.val) + j.val)) = true := by
  decide +kernel
theorem tab6_1 : ∀ b : Fin 8, ∀ j : Fin 128, Nat.beq (Cert.Kernel5Ideal.lit0t (128 * (776 + b.val) + j.val)).toNat (wordN (128 * (776 + b.val) + j.val)) = true := by
  decide +kernel
theorem tab6_2 : ∀ b : Fin 8, ∀ j : Fin 128, Nat.beq (Cert.Kernel5Ideal.lit0t (128 * (784 + b.val) + j.val)).toNat (wordN (128 * (784 + b.val) + j.val)) = true := by
  decide +kernel
theorem tab6_3 : ∀ b : Fin 8, ∀ j : Fin 128, Nat.beq (Cert.Kernel5Ideal.lit0t (128 * (792 + b.val) + j.val)).toNat (wordN (128 * (792 + b.val) + j.val)) = true := by
  decide +kernel
theorem tab6_4 : ∀ b : Fin 8, ∀ j : Fin 128, Nat.beq (Cert.Kernel5Ideal.lit0t (128 * (800 + b.val) + j.val)).toNat (wordN (128 * (800 + b.val) + j.val)) = true := by
  decide +kernel
theorem tab6_5 : ∀ b : Fin 8, ∀ j : Fin 128, Nat.beq (Cert.Kernel5Ideal.lit0t (128 * (808 + b.val) + j.val)).toNat (wordN (128 * (808 + b.val) + j.val)) = true := by
  decide +kernel
theorem tab6_6 : ∀ b : Fin 8, ∀ j : Fin 128, Nat.beq (Cert.Kernel5Ideal.lit0t (128 * (816 + b.val) + j.val)).toNat (wordN (128 * (816 + b.val) + j.val)) = true := by
  decide +kernel
theorem tab6_7 : ∀ b : Fin 8, ∀ j : Fin 128, Nat.beq (Cert.Kernel5Ideal.lit0t (128 * (824 + b.val) + j.val)).toNat (wordN (128 * (824 + b.val) + j.val)) = true := by
  decide +kernel
theorem tab6_8 : ∀ b : Fin 8, ∀ j : Fin 128, Nat.beq (Cert.Kernel5Ideal.lit0t (128 * (832 + b.val) + j.val)).toNat (wordN (128 * (832 + b.val) + j.val)) = true := by
  decide +kernel
theorem tab6_9 : ∀ b : Fin 8, ∀ j : Fin 128, Nat.beq (Cert.Kernel5Ideal.lit0t (128 * (840 + b.val) + j.val)).toNat (wordN (128 * (840 + b.val) + j.val)) = true := by
  decide +kernel
theorem tab6_10 : ∀ b : Fin 8, ∀ j : Fin 128, Nat.beq (Cert.Kernel5Ideal.lit0t (128 * (848 + b.val) + j.val)).toNat (wordN (128 * (848 + b.val) + j.val)) = true := by
  decide +kernel
theorem tab6_11 : ∀ b : Fin 8, ∀ j : Fin 128, Nat.beq (Cert.Kernel5Ideal.lit0t (128 * (856 + b.val) + j.val)).toNat (wordN (128 * (856 + b.val) + j.val)) = true := by
  decide +kernel
theorem tab6_12 : ∀ b : Fin 8, ∀ j : Fin 128, Nat.beq (Cert.Kernel5Ideal.lit0t (128 * (864 + b.val) + j.val)).toNat (wordN (128 * (864 + b.val) + j.val)) = true := by
  decide +kernel
theorem tab6_13 : ∀ b : Fin 8, ∀ j : Fin 128, Nat.beq (Cert.Kernel5Ideal.lit0t (128 * (872 + b.val) + j.val)).toNat (wordN (128 * (872 + b.val) + j.val)) = true := by
  decide +kernel
theorem tab6_14 : ∀ b : Fin 8, ∀ j : Fin 128, Nat.beq (Cert.Kernel5Ideal.lit0t (128 * (880 + b.val) + j.val)).toNat (wordN (128 * (880 + b.val) + j.val)) = true := by
  decide +kernel
theorem tab6_15 : ∀ b : Fin 8, ∀ j : Fin 128, Nat.beq (Cert.Kernel5Ideal.lit0t (128 * (888 + b.val) + j.val)).toNat (wordN (128 * (888 + b.val) + j.val)) = true := by
  decide +kernel

theorem tab6 (i : ℕ) (h0 : 98304 ≤ i) (hi : i < 114688) : (Cert.Kernel5Ideal.lit0t i).toNat = wordN i := by
  by_cases g0 : i < 99328
  · have h := Nat.eq_of_beq_eq_true (tab6_0 ⟨i / 128 - 768, by omega⟩ ⟨i % 128, by omega⟩)
    simpa only [show 128 * (768 + (i / 128 - 768)) + i % 128 = i by omega] using h
  by_cases g1 : i < 100352
  · have h := Nat.eq_of_beq_eq_true (tab6_1 ⟨i / 128 - 776, by omega⟩ ⟨i % 128, by omega⟩)
    simpa only [show 128 * (776 + (i / 128 - 776)) + i % 128 = i by omega] using h
  by_cases g2 : i < 101376
  · have h := Nat.eq_of_beq_eq_true (tab6_2 ⟨i / 128 - 784, by omega⟩ ⟨i % 128, by omega⟩)
    simpa only [show 128 * (784 + (i / 128 - 784)) + i % 128 = i by omega] using h
  by_cases g3 : i < 102400
  · have h := Nat.eq_of_beq_eq_true (tab6_3 ⟨i / 128 - 792, by omega⟩ ⟨i % 128, by omega⟩)
    simpa only [show 128 * (792 + (i / 128 - 792)) + i % 128 = i by omega] using h
  by_cases g4 : i < 103424
  · have h := Nat.eq_of_beq_eq_true (tab6_4 ⟨i / 128 - 800, by omega⟩ ⟨i % 128, by omega⟩)
    simpa only [show 128 * (800 + (i / 128 - 800)) + i % 128 = i by omega] using h
  by_cases g5 : i < 104448
  · have h := Nat.eq_of_beq_eq_true (tab6_5 ⟨i / 128 - 808, by omega⟩ ⟨i % 128, by omega⟩)
    simpa only [show 128 * (808 + (i / 128 - 808)) + i % 128 = i by omega] using h
  by_cases g6 : i < 105472
  · have h := Nat.eq_of_beq_eq_true (tab6_6 ⟨i / 128 - 816, by omega⟩ ⟨i % 128, by omega⟩)
    simpa only [show 128 * (816 + (i / 128 - 816)) + i % 128 = i by omega] using h
  by_cases g7 : i < 106496
  · have h := Nat.eq_of_beq_eq_true (tab6_7 ⟨i / 128 - 824, by omega⟩ ⟨i % 128, by omega⟩)
    simpa only [show 128 * (824 + (i / 128 - 824)) + i % 128 = i by omega] using h
  by_cases g8 : i < 107520
  · have h := Nat.eq_of_beq_eq_true (tab6_8 ⟨i / 128 - 832, by omega⟩ ⟨i % 128, by omega⟩)
    simpa only [show 128 * (832 + (i / 128 - 832)) + i % 128 = i by omega] using h
  by_cases g9 : i < 108544
  · have h := Nat.eq_of_beq_eq_true (tab6_9 ⟨i / 128 - 840, by omega⟩ ⟨i % 128, by omega⟩)
    simpa only [show 128 * (840 + (i / 128 - 840)) + i % 128 = i by omega] using h
  by_cases g10 : i < 109568
  · have h := Nat.eq_of_beq_eq_true (tab6_10 ⟨i / 128 - 848, by omega⟩ ⟨i % 128, by omega⟩)
    simpa only [show 128 * (848 + (i / 128 - 848)) + i % 128 = i by omega] using h
  by_cases g11 : i < 110592
  · have h := Nat.eq_of_beq_eq_true (tab6_11 ⟨i / 128 - 856, by omega⟩ ⟨i % 128, by omega⟩)
    simpa only [show 128 * (856 + (i / 128 - 856)) + i % 128 = i by omega] using h
  by_cases g12 : i < 111616
  · have h := Nat.eq_of_beq_eq_true (tab6_12 ⟨i / 128 - 864, by omega⟩ ⟨i % 128, by omega⟩)
    simpa only [show 128 * (864 + (i / 128 - 864)) + i % 128 = i by omega] using h
  by_cases g13 : i < 112640
  · have h := Nat.eq_of_beq_eq_true (tab6_13 ⟨i / 128 - 872, by omega⟩ ⟨i % 128, by omega⟩)
    simpa only [show 128 * (872 + (i / 128 - 872)) + i % 128 = i by omega] using h
  by_cases g14 : i < 113664
  · have h := Nat.eq_of_beq_eq_true (tab6_14 ⟨i / 128 - 880, by omega⟩ ⟨i % 128, by omega⟩)
    simpa only [show 128 * (880 + (i / 128 - 880)) + i % 128 = i by omega] using h
  by_cases g15 : i < 114688
  · have h := Nat.eq_of_beq_eq_true (tab6_15 ⟨i / 128 - 888, by omega⟩ ⟨i % 128, by omega⟩)
    simpa only [show 128 * (888 + (i / 128 - 888)) + i % 128 = i by omega] using h
  omega

end Cert.Bias
end
-- ==== Proof.Table7.lean ====
/-
  THE BUCKET TABLE, entries 114688 to 131071: each is the bucket of its distance.
-/
module
public import proofs.«01_k».proof.Kernel5Ideal
public import proofs.«01_k».proof.Proof.Bucket
@[expose] public section
set_option maxRecDepth 16384
noncomputable section
namespace Cert.Bias
open Idealize.ShloMosaic

theorem tab7_0 : ∀ b : Fin 8, ∀ j : Fin 128, Nat.beq (Cert.Kernel5Ideal.lit0t (128 * (896 + b.val) + j.val)).toNat (wordN (128 * (896 + b.val) + j.val)) = true := by
  decide +kernel
theorem tab7_1 : ∀ b : Fin 8, ∀ j : Fin 128, Nat.beq (Cert.Kernel5Ideal.lit0t (128 * (904 + b.val) + j.val)).toNat (wordN (128 * (904 + b.val) + j.val)) = true := by
  decide +kernel
theorem tab7_2 : ∀ b : Fin 8, ∀ j : Fin 128, Nat.beq (Cert.Kernel5Ideal.lit0t (128 * (912 + b.val) + j.val)).toNat (wordN (128 * (912 + b.val) + j.val)) = true := by
  decide +kernel
theorem tab7_3 : ∀ b : Fin 8, ∀ j : Fin 128, Nat.beq (Cert.Kernel5Ideal.lit0t (128 * (920 + b.val) + j.val)).toNat (wordN (128 * (920 + b.val) + j.val)) = true := by
  decide +kernel
theorem tab7_4 : ∀ b : Fin 8, ∀ j : Fin 128, Nat.beq (Cert.Kernel5Ideal.lit0t (128 * (928 + b.val) + j.val)).toNat (wordN (128 * (928 + b.val) + j.val)) = true := by
  decide +kernel
theorem tab7_5 : ∀ b : Fin 8, ∀ j : Fin 128, Nat.beq (Cert.Kernel5Ideal.lit0t (128 * (936 + b.val) + j.val)).toNat (wordN (128 * (936 + b.val) + j.val)) = true := by
  decide +kernel
theorem tab7_6 : ∀ b : Fin 8, ∀ j : Fin 128, Nat.beq (Cert.Kernel5Ideal.lit0t (128 * (944 + b.val) + j.val)).toNat (wordN (128 * (944 + b.val) + j.val)) = true := by
  decide +kernel
theorem tab7_7 : ∀ b : Fin 8, ∀ j : Fin 128, Nat.beq (Cert.Kernel5Ideal.lit0t (128 * (952 + b.val) + j.val)).toNat (wordN (128 * (952 + b.val) + j.val)) = true := by
  decide +kernel
theorem tab7_8 : ∀ b : Fin 8, ∀ j : Fin 128, Nat.beq (Cert.Kernel5Ideal.lit0t (128 * (960 + b.val) + j.val)).toNat (wordN (128 * (960 + b.val) + j.val)) = true := by
  decide +kernel
theorem tab7_9 : ∀ b : Fin 8, ∀ j : Fin 128, Nat.beq (Cert.Kernel5Ideal.lit0t (128 * (968 + b.val) + j.val)).toNat (wordN (128 * (968 + b.val) + j.val)) = true := by
  decide +kernel
theorem tab7_10 : ∀ b : Fin 8, ∀ j : Fin 128, Nat.beq (Cert.Kernel5Ideal.lit0t (128 * (976 + b.val) + j.val)).toNat (wordN (128 * (976 + b.val) + j.val)) = true := by
  decide +kernel
theorem tab7_11 : ∀ b : Fin 8, ∀ j : Fin 128, Nat.beq (Cert.Kernel5Ideal.lit0t (128 * (984 + b.val) + j.val)).toNat (wordN (128 * (984 + b.val) + j.val)) = true := by
  decide +kernel
theorem tab7_12 : ∀ b : Fin 8, ∀ j : Fin 128, Nat.beq (Cert.Kernel5Ideal.lit0t (128 * (992 + b.val) + j.val)).toNat (wordN (128 * (992 + b.val) + j.val)) = true := by
  decide +kernel
theorem tab7_13 : ∀ b : Fin 8, ∀ j : Fin 128, Nat.beq (Cert.Kernel5Ideal.lit0t (128 * (1000 + b.val) + j.val)).toNat (wordN (128 * (1000 + b.val) + j.val)) = true := by
  decide +kernel
theorem tab7_14 : ∀ b : Fin 8, ∀ j : Fin 128, Nat.beq (Cert.Kernel5Ideal.lit0t (128 * (1008 + b.val) + j.val)).toNat (wordN (128 * (1008 + b.val) + j.val)) = true := by
  decide +kernel
theorem tab7_15 : ∀ b : Fin 8, ∀ j : Fin 128, Nat.beq (Cert.Kernel5Ideal.lit0t (128 * (1016 + b.val) + j.val)).toNat (wordN (128 * (1016 + b.val) + j.val)) = true := by
  decide +kernel

theorem tab7 (i : ℕ) (h0 : 114688 ≤ i) (hi : i < 131072) : (Cert.Kernel5Ideal.lit0t i).toNat = wordN i := by
  by_cases g0 : i < 115712
  · have h := Nat.eq_of_beq_eq_true (tab7_0 ⟨i / 128 - 896, by omega⟩ ⟨i % 128, by omega⟩)
    simpa only [show 128 * (896 + (i / 128 - 896)) + i % 128 = i by omega] using h
  by_cases g1 : i < 116736
  · have h := Nat.eq_of_beq_eq_true (tab7_1 ⟨i / 128 - 904, by omega⟩ ⟨i % 128, by omega⟩)
    simpa only [show 128 * (904 + (i / 128 - 904)) + i % 128 = i by omega] using h
  by_cases g2 : i < 117760
  · have h := Nat.eq_of_beq_eq_true (tab7_2 ⟨i / 128 - 912, by omega⟩ ⟨i % 128, by omega⟩)
    simpa only [show 128 * (912 + (i / 128 - 912)) + i % 128 = i by omega] using h
  by_cases g3 : i < 118784
  · have h := Nat.eq_of_beq_eq_true (tab7_3 ⟨i / 128 - 920, by omega⟩ ⟨i % 128, by omega⟩)
    simpa only [show 128 * (920 + (i / 128 - 920)) + i % 128 = i by omega] using h
  by_cases g4 : i < 119808
  · have h := Nat.eq_of_beq_eq_true (tab7_4 ⟨i / 128 - 928, by omega⟩ ⟨i % 128, by omega⟩)
    simpa only [show 128 * (928 + (i / 128 - 928)) + i % 128 = i by omega] using h
  by_cases g5 : i < 120832
  · have h := Nat.eq_of_beq_eq_true (tab7_5 ⟨i / 128 - 936, by omega⟩ ⟨i % 128, by omega⟩)
    simpa only [show 128 * (936 + (i / 128 - 936)) + i % 128 = i by omega] using h
  by_cases g6 : i < 121856
  · have h := Nat.eq_of_beq_eq_true (tab7_6 ⟨i / 128 - 944, by omega⟩ ⟨i % 128, by omega⟩)
    simpa only [show 128 * (944 + (i / 128 - 944)) + i % 128 = i by omega] using h
  by_cases g7 : i < 122880
  · have h := Nat.eq_of_beq_eq_true (tab7_7 ⟨i / 128 - 952, by omega⟩ ⟨i % 128, by omega⟩)
    simpa only [show 128 * (952 + (i / 128 - 952)) + i % 128 = i by omega] using h
  by_cases g8 : i < 123904
  · have h := Nat.eq_of_beq_eq_true (tab7_8 ⟨i / 128 - 960, by omega⟩ ⟨i % 128, by omega⟩)
    simpa only [show 128 * (960 + (i / 128 - 960)) + i % 128 = i by omega] using h
  by_cases g9 : i < 124928
  · have h := Nat.eq_of_beq_eq_true (tab7_9 ⟨i / 128 - 968, by omega⟩ ⟨i % 128, by omega⟩)
    simpa only [show 128 * (968 + (i / 128 - 968)) + i % 128 = i by omega] using h
  by_cases g10 : i < 125952
  · have h := Nat.eq_of_beq_eq_true (tab7_10 ⟨i / 128 - 976, by omega⟩ ⟨i % 128, by omega⟩)
    simpa only [show 128 * (976 + (i / 128 - 976)) + i % 128 = i by omega] using h
  by_cases g11 : i < 126976
  · have h := Nat.eq_of_beq_eq_true (tab7_11 ⟨i / 128 - 984, by omega⟩ ⟨i % 128, by omega⟩)
    simpa only [show 128 * (984 + (i / 128 - 984)) + i % 128 = i by omega] using h
  by_cases g12 : i < 128000
  · have h := Nat.eq_of_beq_eq_true (tab7_12 ⟨i / 128 - 992, by omega⟩ ⟨i % 128, by omega⟩)
    simpa only [show 128 * (992 + (i / 128 - 992)) + i % 128 = i by omega] using h
  by_cases g13 : i < 129024
  · have h := Nat.eq_of_beq_eq_true (tab7_13 ⟨i / 128 - 1000, by omega⟩ ⟨i % 128, by omega⟩)
    simpa only [show 128 * (1000 + (i / 128 - 1000)) + i % 128 = i by omega] using h
  by_cases g14 : i < 130048
  · have h := Nat.eq_of_beq_eq_true (tab7_14 ⟨i / 128 - 1008, by omega⟩ ⟨i % 128, by omega⟩)
    simpa only [show 128 * (1008 + (i / 128 - 1008)) + i % 128 = i by omega] using h
  by_cases g15 : i < 131072
  · have h := Nat.eq_of_beq_eq_true (tab7_15 ⟨i / 128 - 1016, by omega⟩ ⟨i % 128, by omega⟩)
    simpa only [show 128 * (1016 + (i / 128 - 1016)) + i % 128 = i by omega] using h
  omega

end Cert.Bias
end
-- ==== Proof.Table.lean ====
/-
  THE BUCKET TABLE: the constant the kernel compares against, entry by entry, is the bucket of the distance.
-/
module
public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7
@[expose] public section
set_option maxRecDepth 16384
noncomputable section
namespace Cert.Bias
open Idealize.ShloMosaic

theorem tab (i : ℕ) (hi : i < 131072) : (Cert.Kernel5Ideal.lit0t i).toNat = wordN i := by
  by_cases g0 : i < 16384
  · exact tab0 i (by omega) g0
  by_cases g1 : i < 32768
  · exact tab1 i (by omega) g1
  by_cases g2 : i < 49152
  · exact tab2 i (by omega) g2
  by_cases g3 : i < 65536
  · exact tab3 i (by omega) g3
  by_cases g4 : i < 81920
  · exact tab4 i (by omega) g4
  by_cases g5 : i < 98304
  · exact tab5 i (by omega) g5
  by_cases g6 : i < 114688
  · exact tab6 i (by omega) g6
  by_cases g7 : i < 131072
  · exact tab7 i (by omega) g7
  omega

end Cert.Bias
end
-- ==== Proof.Tie5.lean ====
/-
  KERNEL AND REFERENCE OF THE BIAS TILES AGREE: both are the head's bias at the distance's bucket, or the mask's constant.
-/
module
public import proofs.«01_k».proof.Proof.Value5
public import proofs.«01_k».proof.Proof.Ref5
public import proofs.«01_k».proof.Proof.Table
@[expose] public section
set_option maxRecDepth 16384
noncomputable section
namespace Cert.Tie
open Idealize.ShloMosaic Idealize.ShloMosaic.TcCoe Idealize.SL.Sem Cert.Bias

/-- The index constant's word at an index of the tiles. -/
theorem word_toNat (a : Fin 2) (ko qo : Fin 256) : (Cert.Kernel5Ideal.lit0 (Cert.Kernel5Ideal.S2x256x256.rowMajor (ix3 a ko qo))).toNat = wordN (65536 * a.val + 256 * ko.val + qo.val) := by
  have h1 := a.isLt
  have h2 := ko.isLt
  have h3 := qo.isLt
  have e : (Cert.Kernel5Ideal.S2x256x256.rowMajor (ix3 a ko qo)).val = 65536 * a.val + 256 * ko.val + qo.val := by
    refine (Shape.rowMajor_val_three (d := ![2, 256, 256]) (ix3 a ko qo)).trans ?_
    show (a.val * 256 + ko.val) * 256 + qo.val = _
    omega
  refine Eq.trans ?_ (tab _ (by omega))
  rw [← e]

theorem chain_bias (a : Fin 2) (ko qo : Fin 256) (x : ℕ → EReal) :
    Cert.Kernel5Ideal.Blk.chain (Cert.Kernel5Ideal.lit0 (Cert.Kernel5Ideal.S2x256x256.rowMajor (ix3 a ko qo))) x 32 = Cert.Reference5Ideal.Rd.biasAt x a ko qo := by
  have h1 := a.isLt
  have h2 := ko.isLt
  have h3 := qo.isLt
  have hw := word_toNat a ko qo
  generalize Cert.Kernel5Ideal.lit0 (Cert.Kernel5Ideal.S2x256x256.rowMajor (ix3 a ko qo)) = w at hw ⊢
  unfold wordN at hw
  have g1 : (65536 * a.val + 256 * ko.val + qo.val) / 256 % 256 = ko.val := by omega
  have g2 : 256 * ((65536 * a.val + 256 * ko.val + qo.val) / 65536) + (65536 * a.val + 256 * ko.val + qo.val) % 256 = 256 * a.val + qo.val := by omega
  rw [g1, g2] at hw
  unfold Cert.Reference5Ideal.Rd.biasAt
  by_cases h : ko.val ≤ 256 * a.val + qo.val
  · rw [Nat.ble_eq_true_of_le h] at hw
    have hb := bk_lt (256 * a.val + qo.val - ko.val) (by omega)
    have e : w = BitVec.ofNat 32 (bk (256 * a.val + qo.val - ko.val)) := by
      apply BitVec.eq_of_toNat_eq
      rw [BitVec.toNat_ofNat, Nat.mod_eq_of_lt (by omega)]
      exact hw
    rw [e, Cert.Kernel5Ideal.Blk.chain_hit _ hb x 32 le_rfl, if_pos hb, if_pos h]
  · have hf : Nat.ble ko.val (256 * a.val + qo.val) = false := by
      rw [Bool.eq_false_iff]
      exact fun hn => h (Nat.le_of_ble_eq_true hn)
    rw [hf] at hw
    have e : w = 4294967295#32 := BitVec.eq_of_toNat_eq hw
    rw [e, Cert.Kernel5Ideal.Blk.chain_far x 32 le_rfl, if_neg h]

/-- The two results, index by index. -/
theorem bias_tiles (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v48 (F := Ideal) (m ((c : Thread Cert.Kernel5Ideal.nD Cert.Kernel5Ideal.τ).loc Cert.Kernel5Ideal.main_arg0)) = (Cert.Kernel5Ideal.Gen.dats m 0 c).arrAt 2 Cert.Kernel5Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  refine (Cert.Reference5Ideal.Rd.v48 _ (i 0) (i 1) (i 2) (i 3)).trans ?_
  refine Eq.trans ?_ (Cert.Kernel5Ideal.Blk.arr2_apply m c (i 0) (i 1) (i 2) (i 3)).symm
  exact (chain_bias (i 1) (i 2) (i 3) _).symm

end Cert.Tie
end
-- ==== Proof.Run6.lean ====
/-
  THE RUN OF THE S5 PREPARATION: one grid point, so each output array the run leaves is the body's result for its window,
  and the arguments are as launched.
-/
module
public import proofs.«01_k».proof.Proof.Gen.Kernel6Ideal.Frame
public import Idealize.ShloMosaic.Lib.Pipeline.Value
@[expose] public section
noncomputable section
namespace Cert.Kernel6Ideal.Value
open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v10_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v10_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v10_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v10_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v10_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v10_5) = (dats m 0 c).arrAt 17 cfg0.N :=
  (h c).1 17

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- After the frame run, argument `main_arg6` is as launched: input window 9 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 12 cfg0.N
      ∧ r.2.mem ((c : Thread nD τ).loc main_v10_1) = (dats m 0 c).arrAt 13 cfg0.N
      ∧ r.2.mem ((c : Thread nD τ).loc main_v10_2) = (dats m 0 c).arrAt 14 cfg0.N
      ∧ r.2.mem ((c : Thread nD τ).loc main_v10_3) = (dats m 0 c).arrAt 15 cfg0.N
      ∧ r.2.mem ((c : Thread nD τ).loc main_v10_4) = (dats m 0 c).arrAt 16 cfg0.N
      ∧ r.2.mem ((c : Thread nD τ).loc main_v10_5) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel6Ideal.Value
end
-- ==== Proof.Spec6.lean ====
/-
  THE S5 PREPARATION'S NUMBERS: the discretised step of a state, the input coefficient, and the powers of the step applied to
  a number, all written as pairs of a real and an imaginary part.
-/
module
public import Idealize.ShloMosaic.Lib.Pointwise
@[expose] public section
noncomputable section
namespace Cert.S5
open Idealize.ShloMosaic

/-- The real part of a complex product. -/
def mulRe (ar ai xr xi : EReal) : EReal := ar * xr - ai * xi
/-- The imaginary part of a complex product. -/
def mulIm (ar ai xr xi : EReal) : EReal := ar * xi + ai * xr

/-- A number multiplied n times by the step. -/
def st (ar ai xr xi : EReal) : ℕ → EReal × EReal
  | 0 => (xr, xi)
  | n + 1 => (mulRe ar ai (st ar ai xr xi n).1 (st ar ai xr xi n).2, mulIm ar ai (st ar ai xr xi n).1 (st ar ai xr xi n).2)

/-- The discretised step of a state of rate (lr, li) and logarithmic time step ld: its real part. -/
def aRe (lr li ld : EReal) : EReal := Ideal.exp (lr * Ideal.exp ld) * Ideal.cos (li * Ideal.exp ld)
/-- Its imaginary part. -/
def aIm (lr li ld : EReal) : EReal := Ideal.exp (lr * Ideal.exp ld) * Ideal.sin (li * Ideal.exp ld)
/-- The step less one, over the rate: its real part. -/
def coefRe (lr li ld : EReal) : EReal := Ideal.div ((aRe lr li ld - 1) * lr + aIm lr li ld * li) (lr * lr + li * li)
/-- Its imaginary part. -/
def coefIm (lr li ld : EReal) : EReal := Ideal.div (aIm lr li ld * lr - (aRe lr li ld - 1) * li) (lr * lr + li * li)

/-- What an input's coefficient (br, bi) becomes after n steps. -/
def state (lr li ld br bi : EReal) (n : ℕ) : EReal × EReal :=
  st (aRe lr li ld) (aIm lr li ld) (mulRe (coefRe lr li ld) (coefIm lr li ld) br bi) (mulIm (coefRe lr li ld) (coefIm lr li ld) br bi) n
/-- The step's power n + 1. -/
def pow (lr li ld : EReal) (n : ℕ) : EReal × EReal :=
  st (aRe lr li ld) (aIm lr li ld) (aRe lr li ld) (aIm lr li ld) n

end Cert.S5
end
-- ==== Proof.Block6.lean ====
/-
  THE S5 PREPARATION'S BLOCKS: the one grid point's stores, at an index: the convolution taps, the state of each input after
  zero to three steps, and the output coefficients times the step's powers.
-/
module
public import proofs.«01_k».proof.Proof.Gen.Kernel6Ideal.Frame
public import proofs.«01_k».proof.Proof.Spec6
public import Idealize.ShloMosaic.Lib.Pointwise
public import Idealize.ShloMosaic.Lib.Pointwise.Tactic
public import Idealize.ShloMosaic.Lib.Pipeline.ValueKit
@[expose] public section
set_option maxRecDepth 16384
noncomputable section
namespace Cert.Kernel6Ideal.Blk
open Cert.Kernel6Ideal Cert.Kernel6Ideal.Gen Cert.S5 Idealize.ShloMosaic Idealize.ShloMosaic.TcCoe Idealize.SL.Sem Idealize.ShloMosaic.Tactic
theorem hz3 : (![0, 0, 0] : Fin 3 → Nat) = fun _ => 0 := funext fun a => by fin_cases a <;> rfl

/-! ## Each value of the body, at an index -/

theorem p7 (a b : Vec Ideal S32x1x64 .f32) (d : Vec Ideal S32x1x1 .f32) (g : Fin 32) (p : Fin 64) :
    k0_pay7 (F := Ideal) a b d (ix3 g 0 p) = aRe (a (ix3 g 0 p)) (b (ix3 g 0 p)) (d (ix3 g 0 0)) := by
  unfold k0_pay7 k0_pay6 k0_pay5 k0_pay4 k0_pay3 aRe
  pointwise
theorem p8 (a b : Vec Ideal S32x1x64 .f32) (d : Vec Ideal S32x1x1 .f32) (g : Fin 32) (p : Fin 64) :
    k0_pay8 (F := Ideal) a b d (ix3 g 0 p) = aIm (a (ix3 g 0 p)) (b (ix3 g 0 p)) (d (ix3 g 0 0)) := by
  unfold k0_pay8 k0_pay6 k0_pay5 k0_pay4 k0_pay3 aIm
  pointwise
theorem p11 (a b : Vec Ideal S32x1x64 .f32) (d : Vec Ideal S32x1x1 .f32) (g : Fin 32) (p : Fin 64) :
    k0_pay11 (F := Ideal) a b d (ix3 g 0 p) = coefRe (a (ix3 g 0 p)) (b (ix3 g 0 p)) (d (ix3 g 0 0)) := by
  unfold coefRe
  rw [← p7 a b d g p, ← p8 a b d g p]
  unfold k0_pay11 k0_pay10 k0_pay9
  generalize k0_pay7 a b d = u
  generalize k0_pay8 a b d = v
  unfold k0_pay4 k0_pay3
  pointwise
theorem p12 (a b : Vec Ideal S32x1x64 .f32) (d : Vec Ideal S32x1x1 .f32) (g : Fin 32) (p : Fin 64) :
    k0_pay12 (F := Ideal) a b d (ix3 g 0 p) = coefIm (a (ix3 g 0 p)) (b (ix3 g 0 p)) (d (ix3 g 0 0)) := by
  unfold coefIm
  rw [← p7 a b d g p, ← p8 a b d g p]
  unfold k0_pay12 k0_pay10 k0_pay9
  generalize k0_pay7 a b d = u
  generalize k0_pay8 a b d = v
  unfold k0_pay4 k0_pay3
  pointwise
theorem p15 (a b : Vec Ideal S32x1x64 .f32) (d : Vec Ideal S32x1x1 .f32) (e f : Vec Ideal S32x16x64 .f32) (g : Fin 32) (y : Fin 16) (p : Fin 64) :
    k0_pay15 (F := Ideal) a b d e f (ix3 g y p) = mulRe (k0_pay11 (F := Ideal) a b d (ix3 g 0 p)) (k0_pay12 (F := Ideal) a b d (ix3 g 0 p)) (e (ix3 g y p)) (f (ix3 g y p)) := by
  unfold k0_pay15 k0_pay14 k0_pay13 mulRe
  generalize k0_pay11 a b d = u
  generalize k0_pay12 a b d = v
  pointwise
theorem p18 (a b : Vec Ideal S32x1x64 .f32) (d : Vec Ideal S32x1x1 .f32) (e f : Vec Ideal S32x16x64 .f32) (g : Fin 32) (y : Fin 16) (p : Fin 64) :
    k0_pay18 (F := Ideal) (k0_pay16 (F := Ideal) a b d f) (k0_pay17 (F := Ideal) a b d e) (ix3 g y p) = mulIm (k0_pay11 (F := Ideal) a b d (ix3 g 0 p)) (k0_pay12 (F := Ideal) a b d (ix3 g 0 p)) (e (ix3 g y p)) (f (ix3 g y p)) := by
  unfold k0_pay18 k0_pay17 k0_pay16 k0_pay14 k0_pay13 mulIm
  generalize k0_pay11 a b d = u
  generalize k0_pay12 a b d = v
  pointwise
/-- One more step of a state, its real part. -/
theorem p68 (u v : Vec Ideal S32x1x64 .f32) (z w : Vec Ideal S32x16x64 .f32) (g : Fin 32) (y : Fin 16) (p : Fin 64) :
    k0_pay68 (F := Ideal) u v z w (ix3 g y p) = mulRe (u (ix3 g 0 p)) (v (ix3 g 0 p)) (z (ix3 g y p)) (w (ix3 g y p)) := by
  unfold k0_pay68 mulRe
  pointwise
/-- One more step of a state, its imaginary part. -/
theorem p69 (u v : Vec Ideal S32x1x64 .f32) (z w : Vec Ideal S32x16x64 .f32) (g : Fin 32) (y : Fin 16) (p : Fin 64) :
    k0_pay69 (F := Ideal) u v z w (ix3 g y p) = mulIm (u (ix3 g 0 p)) (v (ix3 g 0 p)) (z (ix3 g y p)) (w (ix3 g y p)) := by
  unfold k0_pay69 mulIm
  pointwise
theorem p121 (a b : Vec Ideal S32x64x1 .f32) (d : Vec Ideal S32x1x1 .f32) (g : Fin 32) (p : Fin 64) :
    k0_pay121 (F := Ideal) (k0_pay117 (F := Ideal) a) b d (ix3 g p 0) = aRe (a (ix3 g p 0)) (b (ix3 g p 0)) (d (ix3 g 0 0)) := by
  unfold k0_pay121 k0_pay120 k0_pay119 k0_pay118 k0_pay117 aRe
  pointwise
theorem p122 (a b : Vec Ideal S32x64x1 .f32) (d : Vec Ideal S32x1x1 .f32) (g : Fin 32) (p : Fin 64) :
    k0_pay122 (F := Ideal) (k0_pay117 (F := Ideal) a) b d (ix3 g p 0) = aIm (a (ix3 g p 0)) (b (ix3 g p 0)) (d (ix3 g 0 0)) := by
  unfold k0_pay122 k0_pay120 k0_pay119 k0_pay118 k0_pay117 aIm
  pointwise
theorem p136 (u v z w : Vec Ideal S32x64x1 .f32) (g : Fin 32) (p : Fin 64) :
    k0_pay136 (F := Ideal) u v z w (ix3 g p 0) = mulRe (u (ix3 g p 0)) (v (ix3 g p 0)) (z (ix3 g p 0)) (w (ix3 g p 0)) := by
  unfold k0_pay136 mulRe
  pointwise
theorem p137 (u v z w : Vec Ideal S32x64x1 .f32) (g : Fin 32) (p : Fin 64) :
    k0_pay137 (F := Ideal) u v z w (ix3 g p 0) = mulIm (u (ix3 g p 0)) (v (ix3 g p 0)) (z (ix3 g p 0)) (w (ix3 g p 0)) := by
  unfold k0_pay137 mulIm
  pointwise

/-! ## The shapes of the stores -/

/-- One tap: the sum over the states of the real part of the output coefficient times the state. -/
def tapV (h : ℕ) (hs : S32x16x64.Slices ![0, h, 0] S32x1x64) (cr ci zr zi : FVec Ideal S32x16x64 .f32) : FVec Ideal S1x1x32x16 .f32 :=
  shapeCast S1x1x32x16 (multiReduction .add [2] S32x16
    (subf (mulf (broadcastTo S32x16x64 (extractStridedSlice S32x1x64 ![0, h, 0] cr hs) broadcasts_S32x1x64_S32x16x64) zr)
      (mulf (broadcastTo S32x16x64 (extractStridedSlice S32x1x64 ![0, h, 0] ci hs) broadcasts_S32x1x64_S32x16x64) zi))
    0x00000000#32 reduces_S32x16x64_S32x16 (.inl rfl) rfl) shapeCasts_S32x16_S1x1x32x16

theorem tapV_apply (h : Fin 16) (hs) (cr ci zr zi : FVec Ideal S32x16x64 .f32) (g : Fin 32) (y : Fin 16) :
    tapV h.val hs cr ci zr zi (ix4 0 0 g y) = ∑ p : Fin 64, (cr (ix3 g h p) * zr (ix3 g y p) - ci (ix3 g h p) * zi (ix3 g y p)) := by
  unfold tapV
  pointwise

/-- An output coefficient's product, its real part. -/
def outRe (cr ci : FVec Ideal S32x64x16 .f32) (u v : FVec Ideal S32x64x1 .f32) : FVec Ideal S1x32x64x16 .f32 :=
  shapeCast S1x32x64x16 (subf (mulf cr (broadcastTo S32x64x16 u broadcasts_S32x64x1_S32x64x16)) (mulf ci (broadcastTo S32x64x16 v broadcasts_S32x64x1_S32x64x16))) shapeCasts_S32x64x16_S1x32x64x16
/-- Its imaginary part, the sign turned. -/
def outIm (cr ci : FVec Ideal S32x64x16 .f32) (u v : FVec Ideal S32x64x1 .f32) : FVec Ideal S1x32x64x16 .f32 :=
  shapeCast S1x32x64x16 (subf (mulf (subf (broadcast S32x64x16 (Scalar.ofBits .f32 0x00000000#32 : Ideal .f32)) cr) (broadcastTo S32x64x16 v broadcasts_S32x64x1_S32x64x16)) (mulf ci (broadcastTo S32x64x16 u broadcasts_S32x64x1_S32x64x16))) shapeCasts_S32x64x16_S1x32x64x16

theorem outRe_apply (cr ci : FVec Ideal S32x64x16 .f32) (u v : FVec Ideal S32x64x1 .f32) (g : Fin 32) (p : Fin 64) (h : Fin 16) :
    outRe cr ci u v (ix4 0 g p h) = cr (ix3 g p h) * u (ix3 g p 0) - ci (ix3 g p h) * v (ix3 g p 0) := by
  unfold outRe
  pointwise
theorem outIm_apply (cr ci : FVec Ideal S32x64x16 .f32) (u v : FVec Ideal S32x64x1 .f32) (g : Fin 32) (p : Fin 64) (h : Fin 16) :
    outIm cr ci u v (ix4 0 g p h) = -cr (ix3 g p h) * v (ix3 g p 0) - ci (ix3 g p h) * u (ix3 g p 0) := by
  rw [← zero_sub]
  unfold outIm
  pointwise

theorem castZ (z : FVec Ideal S32x16x64 .f32) (h) (g : Fin 32) (y : Fin 16) (p : Fin 64) : (shapeCast S1x32x16x64 z h : FVec Ideal S1x32x16x64 .f32) (ix4 0 g y p) = z (ix3 g y p) := by
  pointwise
theorem castA (z : FVec Ideal S32x1x64 .f32) (h) (g : Fin 32) (p : Fin 64) : (shapeCast S1x32x1x64 z h : FVec Ideal S1x32x1x64 .f32) (ix4 0 g 0 p) = z (ix3 g 0 p) := by
  pointwise

/-! ## The values the stores name -/

variable (x0 : Vec Ideal S32x1x64 .f32) (x1 : Vec Ideal S32x1x64 .f32) (x2 : Vec Ideal S32x1x1 .f32) (x3 : Vec Ideal S32x64x1 .f32) (x4 : Vec Ideal S32x64x1 .f32) (x5 : Vec Ideal S32x1x1 .f32) (x6 : Vec Ideal S32x16x64 .f32) (x7 : Vec Ideal S32x16x64 .f32) (x8 : Vec Ideal S32x16x64 .f32) (x9 : Vec Ideal S32x16x64 .f32) (x10 : Vec Ideal S32x64x16 .f32) (x11 : Vec Ideal S32x64x16 .f32)

/-- The state of input y of group g after n steps. -/
def S (n : ℕ) (g : Fin 32) (y : Fin 16) (p : Fin 64) : EReal × EReal :=
  state (x0 (ix3 g 0 p)) (x1 (ix3 g 0 p)) (x2 (ix3 g 0 0)) (x6 (ix3 g y p)) (x7 (ix3 g y p)) n

theorem v146 (g : Fin 32) (p : Fin 64) : k0_pay146 (F := Ideal) x0 x1 x2 x3 x4 x5 x6 x7 x8 x9 x10 x11 (ix3 g 0 p) = aRe (x0 (ix3 g 0 p)) (x1 (ix3 g 0 p)) (x2 (ix3 g 0 0)) := by
  unfold k0_pay146
  rw [View.ld_unit_zero (S := S32x1x64) hz3, View.ld_unit_zero (S := S32x1x64) hz3, View.ld_unit_zero (S := S32x1x1) hz3, p7]
theorem v147 (g : Fin 32) (p : Fin 64) : k0_pay147 (F := Ideal) x0 x1 x2 x3 x4 x5 x6 x7 x8 x9 x10 x11 (ix3 g 0 p) = aIm (x0 (ix3 g 0 p)) (x1 (ix3 g 0 p)) (x2 (ix3 g 0 0)) := by
  unfold k0_pay147
  rw [View.ld_unit_zero (S := S32x1x64) hz3, View.ld_unit_zero (S := S32x1x64) hz3, View.ld_unit_zero (S := S32x1x1) hz3, p8]
theorem z0r (g : Fin 32) (y : Fin 16) (p : Fin 64) : k0_pay148 (F := Ideal) x0 x1 x2 x3 x4 x5 x6 x7 x8 x9 x10 x11 (ix3 g y p) = (S x0 x1 x2 x6 x7 0 g y p).1 := by
  unfold k0_pay148
  rw [View.ld_unit_zero (S := S32x1x64) hz3, View.ld_unit_zero (S := S32x1x64) hz3, View.ld_unit_zero (S := S32x1x1) hz3, View.ld_unit_zero (S := S32x16x64) hz3, View.ld_unit_zero (S := S32x16x64) hz3, p15, p11, p12]
  rfl
theorem z0i (g : Fin 32) (y : Fin 16) (p : Fin 64) : k0_pay151 (F := Ideal) x0 x1 x2 x3 x4 x5 x6 x7 x8 x9 x10 x11 (ix3 g y p) = (S x0 x1 x2 x6 x7 0 g y p).2 := by
  unfold k0_pay151 k0_pay149 k0_pay150
  rw [View.ld_unit_zero (S := S32x1x64) hz3, View.ld_unit_zero (S := S32x1x64) hz3, View.ld_unit_zero (S := S32x1x1) hz3, View.ld_unit_zero (S := S32x16x64) hz3, View.ld_unit_zero (S := S32x16x64) hz3, p18, p11, p12]
  rfl
theorem e154 : k0_pay154 (F := Ideal) x0 x1 x2 x3 x4 x5 x6 x7 x8 x9 x10 x11 = k0_pay68 (F := Ideal) (k0_pay146 (F := Ideal) x0 x1 x2 x3 x4 x5 x6 x7 x8 x9 x10 x11) (k0_pay147 (F := Ideal) x0 x1 x2 x3 x4 x5 x6 x7 x8 x9 x10 x11) (k0_pay148 (F := Ideal) x0 x1 x2 x3 x4 x5 x6 x7 x8 x9 x10 x11) (k0_pay151 (F := Ideal) x0 x1 x2 x3 x4 x5 x6 x7 x8 x9 x10 x11) := rfl
theorem e155 : k0_pay155 (F := Ideal) x0 x1 x2 x3 x4 x5 x6 x7 x8 x9 x10 x11 = k0_pay69 (F := Ideal) (k0_pay146 (F := Ideal) x0 x1 x2 x3 x4 x5 x6 x7 x8 x9 x10 x11) (k0_pay147 (F := Ideal) x0 x1 x2 x3 x4 x5 x6 x7 x8 x9 x10 x11) (k0_pay148 (F := Ideal) x0 x1 x2 x3 x4 x5 x6 x7 x8 x9 x10 x11) (k0_pay151 (F := Ideal) x0 x1 x2 x3 x4 x5 x6 x7 x8 x9 x10 x11) := rfl
theorem e156 : k0_pay156 (F := Ideal) x0 x1 x2 x3 x4 x5 x6 x7 x8 x9 x10 x11 = k0_pay68 (F := Ideal) (k0_pay146 (F := Ideal) x0 x1 x2 x3 x4 x5 x6 x7 x8 x9 x10 x11) (k0_pay147 (F := Ideal) x0 x1 x2 x3 x4 x5 x6 x7 x8 x9 x10 x11) (k0_pay154 (F := Ideal) x0 x1 x2 x3 x4 x5 x6 x7 x8 x9 x10 x11) (k0_pay155 (F := Ideal) x0 x1 x2 x3 x4 x5 x6 x7 x8 x9 x10 x11) := rfl
theorem e157 : k0_pay157 (F := Ideal) x0 x1 x2 x3 x4 x5 x6 x7 x8 x9 x10 x11 = k0_pay69 (F := Ideal) (k0_pay146 (F := Ideal) x0 x1 x2 x3 x4 x5 x6 x7 x8 x9 x10 x11) (k0_pay147 (F := Ideal) x0 x1 x2 x3 x4 x5 x6 x7 x8 x9 x10 x11) (k0_pay154 (F := Ideal) x0 x1 x2 x3 x4 x5 x6 x7 x8 x9 x10 x11) (k0_pay155 (F := Ideal) x0 x1 x2 x3 x4 x5 x6 x7 x8 x9 x10 x11) := rfl
theorem e158 : k0_pay158 (F := Ideal) x0 x1 x2 x3 x4 x5 x6 x7 x8 x9 x10 x11 = k0_pay68 (F := Ideal) (k0_pay146 (F := Ideal) x0 x1 x2 x3 x4 x5 x6 x7 x8 x9 x10 x11) (k0_pay147 (F := Ideal) x0 x1 x2 x3 x4 x5 x6 x7 x8 x9 x10 x11) (k0_pay156 (F := Ideal) x0 x1 x2 x3 x4 x5 x6 x7 x8 x9 x10 x11) (k0_pay157 (F := Ideal) x0 x1 x2 x3 x4 x5 x6 x7 x8 x9 x10 x11) := rfl
theorem e160 : k0_pay160 (F := Ideal) x0 x1 x2 x3 x4 x5 x6 x7 x8 x9 x10 x11 = k0_pay69 (F := Ideal) (k0_pay146 (F := Ideal) x0 x1 x2 x3 x4 x5 x6 x7 x8 x9 x10 x11) (k0_pay147 (F := Ideal) x0 x1 x2 x3 x4 x5 x6 x7 x8 x9 x10 x11) (k0_pay156 (F := Ideal) x0 x1 x2 x3 x4 x5 x6 x7 x8 x9 x10 x11) (k0_pay157 (F := Ideal) x0 x1 x2 x3 x4 x5 x6 x7 x8 x9 x10 x11) := rfl
theorem z1r (g : Fin 32) (y : Fin 16) (p : Fin 64) : k0_pay154 (F := Ideal) x0 x1 x2 x3 x4 x5 x6 x7 x8 x9 x10 x11 (ix3 g y p) = (S x0 x1 x2 x6 x7 1 g y p).1 := by
  rw [e154, p68, v146, v147, z0r, z0i]
  rfl
theorem z1i (g : Fin 32) (y : Fin 16) (p : Fin 64) : k0_pay155 (F := Ideal) x0 x1 x2 x3 x4 x5 x6 x7 x8 x9 x10 x11 (ix3 g y p) = (S x0 x1 x2 x6 x7 1 g y p).2 := by
  rw [e155, p69, v146, v147, z0r, z0i]
  rfl
theorem z2r (g : Fin 32) (y : Fin 16) (p : Fin 64) : k0_pay156 (F := Ideal) x0 x1 x2 x3 x4 x5 x6 x7 x8 x9 x10 x11 (ix3 g y p) = (S x0 x1 x2 x6 x7 2 g y p).1 := by
  rw [e156, p68, v146, v147, z1r, z1i]
  rfl
theorem z2i (g : Fin 32) (y : Fin 16) (p : Fin 64) : k0_pay157 (F := Ideal) x0 x1 x2 x3 x4 x5 x6 x7 x8 x9 x10 x11 (ix3 g y p) = (S x0 x1 x2 x6 x7 2 g y p).2 := by
  rw [e157, p69, v146, v147, z1r, z1i]
  rfl
theorem z3r (g : Fin 32) (y : Fin 16) (p : Fin 64) : k0_pay158 (F := Ideal) x0 x1 x2 x3 x4 x5 x6 x7 x8 x9 x10 x11 (ix3 g y p) = (S x0 x1 x2 x6 x7 3 g y p).1 := by
  rw [e158, p68, v146, v147, z2r, z2i]
  rfl
theorem z3i (g : Fin 32) (y : Fin 16) (p : Fin 64) : k0_pay160 (F := Ideal) x0 x1 x2 x3 x4 x5 x6 x7 x8 x9 x10 x11 (ix3 g y p) = (S x0 x1 x2 x6 x7 3 g y p).2 := by
  rw [e160, p69, v146, v147, z2r, z2i]
  rfl

/-- Power n + 1 of the step, as the output side reads its rates. -/
def P (n : ℕ) (g : Fin 32) (p : Fin 64) : EReal × EReal := pow (x3 (ix3 g p 0)) (x4 (ix3 g p 0)) (x5 (ix3 g 0 0)) n

theorem q0r (g : Fin 32) (p : Fin 64) : k0_pay162 (F := Ideal) x0 x1 x2 x3 x4 x5 x6 x7 x8 x9 x10 x11 (ix3 g p 0) = (P x3 x4 x5 0 g p).1 := by
  unfold k0_pay162 k0_pay161
  rw [View.ld_unit_zero (S := S32x64x1) hz3, View.ld_unit_zero (S := S32x64x1) hz3, View.ld_unit_zero (S := S32x1x1) hz3, p121]
  rfl
theorem q0i (g : Fin 32) (p : Fin 64) : k0_pay163 (F := Ideal) x0 x1 x2 x3 x4 x5 x6 x7 x8 x9 x10 x11 (ix3 g p 0) = (P x3 x4 x5 0 g p).2 := by
  unfold k0_pay163 k0_pay161
  rw [View.ld_unit_zero (S := S32x64x1) hz3, View.ld_unit_zero (S := S32x64x1) hz3, View.ld_unit_zero (S := S32x1x1) hz3, p122]
  rfl
theorem e166 : k0_pay166 (F := Ideal) x0 x1 x2 x3 x4 x5 x6 x7 x8 x9 x10 x11 = k0_pay136 (F := Ideal) (k0_pay162 (F := Ideal) x0 x1 x2 x3 x4 x5 x6 x7 x8 x9 x10 x11) (k0_pay163 (F := Ideal) x0 x1 x2 x3 x4 x5 x6 x7 x8 x9 x10 x11) (k0_pay162 (F := Ideal) x0 x1 x2 x3 x4 x5 x6 x7 x8 x9 x10 x11) (k0_pay163 (F := Ideal) x0 x1 x2 x3 x4 x5 x6 x7 x8 x9 x10 x11) := rfl
theorem e128 : k0_pay128 (F := Ideal) (k0_pay162 (F := Ideal) x0 x1 x2 x3 x4 x5 x6 x7 x8 x9 x10 x11) (k0_pay163 (F := Ideal) x0 x1 x2 x3 x4 x5 x6 x7 x8 x9 x10 x11) = k0_pay137 (F := Ideal) (k0_pay162 (F := Ideal) x0 x1 x2 x3 x4 x5 x6 x7 x8 x9 x10 x11) (k0_pay163 (F := Ideal) x0 x1 x2 x3 x4 x5 x6 x7 x8 x9 x10 x11) (k0_pay162 (F := Ideal) x0 x1 x2 x3 x4 x5 x6 x7 x8 x9 x10 x11) (k0_pay163 (F := Ideal) x0 x1 x2 x3 x4 x5 x6 x7 x8 x9 x10 x11) := rfl
theorem e167 : k0_pay167 (F := Ideal) x0 x1 x2 x3 x4 x5 x6 x7 x8 x9 x10 x11 = k0_pay136 (F := Ideal) (k0_pay162 (F := Ideal) x0 x1 x2 x3 x4 x5 x6 x7 x8 x9 x10 x11) (k0_pay163 (F := Ideal) x0 x1 x2 x3 x4 x5 x6 x7 x8 x9 x10 x11) (k0_pay166 (F := Ideal) x0 x1 x2 x3 x4 x5 x6 x7 x8 x9 x10 x11) (k0_pay128 (F := Ideal) (k0_pay162 (F := Ideal) x0 x1 x2 x3 x4 x5 x6 x7 x8 x9 x10 x11) (k0_pay163 (F := Ideal) x0 x1 x2 x3 x4 x5 x6 x7 x8 x9 x10 x11)) := rfl
theorem e168 : k0_pay168 (F := Ideal) x0 x1 x2 x3 x4 x5 x6 x7 x8 x9 x10 x11 = k0_pay137 (F := Ideal) (k0_pay162 (F := Ideal) x0 x1 x2 x3 x4 x5 x6 x7 x8 x9 x10 x11) (k0_pay163 (F := Ideal) x0 x1 x2 x3 x4 x5 x6 x7 x8 x9 x10 x11) (k0_pay166 (F := Ideal) x0 x1 x2 x3 x4 x5 x6 x7 x8 x9 x10 x11) (k0_pay128 (F := Ideal) (k0_pay162 (F := Ideal) x0 x1 x2 x3 x4 x5 x6 x7 x8 x9 x10 x11) (k0_pay163 (F := Ideal) x0 x1 x2 x3 x4 x5 x6 x7 x8 x9 x10 x11)) := rfl
theorem q1r (g : Fin 32) (p : Fin 64) : k0_pay166 (F := Ideal) x0 x1 x2 x3 x4 x5 x6 x7 x8 x9 x10 x11 (ix3 g p 0) = (P x3 x4 x5 1 g p).1 := by
  rw [e166, p136, q0r, q0i]
  rfl
theorem q1i (g : Fin 32) (p : Fin 64) : k0_pay128 (F := Ideal) (k0_pay162 (F := Ideal) x0 x1 x2 x3 x4 x5 x6 x7 x8 x9 x10 x11) (k0_pay163 (F := Ideal) x0 x1 x2 x3 x4 x5 x6 x7 x8 x9 x10 x11) (ix3 g p 0) = (P x3 x4 x5 1 g p).2 := by
  rw [e128, p137, q0r, q0i]
  rfl
theorem q2r (g : Fin 32) (p : Fin 64) : k0_pay167 (F := Ideal) x0 x1 x2 x3 x4 x5 x6 x7 x8 x9 x10 x11 (ix3 g p 0) = (P x3 x4 x5 2 g p).1 := by
  rw [e167, p136, q0r, q0i, q1r, q1i]
  rfl
theorem q2i (g : Fin 32) (p : Fin 64) : k0_pay168 (F := Ideal) x0 x1 x2 x3 x4 x5 x6 x7 x8 x9 x10 x11 (ix3 g p 0) = (P x3 x4 x5 2 g p).2 := by
  rw [e168, p137, q0r, q0i, q1r, q1i]
  rfl
theorem q3r (g : Fin 32) (p : Fin 64) : k0_pay136 (F := Ideal) (k0_pay162 (F := Ideal) x0 x1 x2 x3 x4 x5 x6 x7 x8 x9 x10 x11) (k0_pay163 (F := Ideal) x0 x1 x2 x3 x4 x5 x6 x7 x8 x9 x10 x11) (k0_pay167 (F := Ideal) x0 x1 x2 x3 x4 x5 x6 x7 x8 x9 x10 x11) (k0_pay168 (F := Ideal) x0 x1 x2 x3 x4 x5 x6 x7 x8 x9 x10 x11) (ix3 g p 0) = (P x3 x4 x5 3 g p).1 := by
  rw [p136, q0r, q0i, q2r, q2i]
  rfl
theorem q3i (g : Fin 32) (p : Fin 64) : k0_pay137 (F := Ideal) (k0_pay162 (F := Ideal) x0 x1 x2 x3 x4 x5 x6 x7 x8 x9 x10 x11) (k0_pay163 (F := Ideal) x0 x1 x2 x3 x4 x5 x6 x7 x8 x9 x10 x11) (k0_pay167 (F := Ideal) x0 x1 x2 x3 x4 x5 x6 x7 x8 x9 x10 x11) (k0_pay168 (F := Ideal) x0 x1 x2 x3 x4 x5 x6 x7 x8 x9 x10 x11) (ix3 g p 0) = (P x3 x4 x5 3 g p).2 := by
  rw [p137, q0r, q0i, q2r, q2i]
  rfl

theorem a144 (u v : Vec Ideal S32x1x64 .f32) (g : Fin 32) (p : Fin 64) :
    k0_pay144 (F := Ideal) u v (ix3 g 0 p) = (st (u (ix3 g 0 p)) (v (ix3 g 0 p)) (u (ix3 g 0 p)) (v (ix3 g 0 p)) 3).1 := by
  unfold k0_pay144 k0_pay143 k0_pay142 k0_pay141 k0_pay140
  simp only [st, mulRe, mulIm]
  pointwise
theorem a145 (u v : Vec Ideal S32x1x64 .f32) (g : Fin 32) (p : Fin 64) :
    k0_pay145 (F := Ideal) u v (ix3 g 0 p) = (st (u (ix3 g 0 p)) (v (ix3 g 0 p)) (u (ix3 g 0 p)) (v (ix3 g 0 p)) 3).2 := by
  unfold k0_pay145 k0_pay143 k0_pay142 k0_pay141 k0_pay140
  simp only [st, mulRe, mulIm]
  pointwise

/-! ## The stores -/

theorem embT (k : Fin 4) (h : Fin 16) (inb) (g : Fin 32) (y : Fin 16) :
    (Rect.unit (s := S4x16x32x16) ![k.val, h.val, 0, 0] S1x1x32x16.size inb).emb (ix4 0 0 g y) = ix4 k h g y := by
  funext a
  fin_cases a <;> exact Fin.ext (by simp [ix4, Rect.unit, Rect.emb])

/-- Tap k, output h, of group g and input y. -/
def tap (k : Fin 4) (h : Fin 16) (g : Fin 32) (y : Fin 16) : EReal :=
  ∑ p : Fin 64, (x8 (ix3 g h p) * (S x0 x1 x2 x6 x7 k.val g y p).1 - x9 (ix3 g h p) * (S x0 x1 x2 x6 x7 k.val g y p).2)
def GT (i : S4x16x32x16.Idx) : EReal := tap x0 x1 x2 x6 x7 x8 x9 (i 0) (i 1) (i 2) (i 3)

theorem idxT (x : S1x1x32x16.Idx) : ∃ (g : Fin 32) (y : Fin 16), x = (ix4 0 0 g y : S1x1x32x16.Idx) := by
  refine ⟨x 2, x 3, ?_⟩
  funext a
  fin_cases a
  · exact Subsingleton.elim (α := Fin 1) _ _
  · exact Subsingleton.elim (α := Fin 1) _ _
  · rfl
  · rfl

/-- A store of one tap holds the tap. -/
theorem pieceT (k : Fin 4) (h : Fin 16) (hs) (zr zi : FVec Ideal S32x16x64 .f32)
    (hr : ∀ g y p, zr (ix3 g y p) = (S x0 x1 x2 x6 x7 k.val g y p).1) (hi : ∀ g y p, zi (ix3 g y p) = (S x0 x1 x2 x6 x7 k.val g y p).2)
    (w : Vec Ideal S1x1x32x16 .f32) (hw : w = tapV h.val hs (View.ld x8 r0_2) (View.ld x9 r0_2) zr zi) (inb) (x : S1x1x32x16.Idx) :
    w x = GT x0 x1 x2 x6 x7 x8 x9 ((Rect.unit (s := S4x16x32x16) ![k.val, h.val, 0, 0] S1x1x32x16.size inb).emb x) := by
  subst hw
  obtain ⟨g, y, rfl⟩ := idxT x
  rw [View.ld_unit_zero (S := S32x16x64) hz3, View.ld_unit_zero (S := S32x16x64) hz3, embT, tapV_apply]
  simp only [hr, hi]
  rfl

theorem out12 (k : Fin 4) (h : Fin 16) (g : Fin 32) (y : Fin 16) :
    out0_12 (F := Ideal) x0 x1 x2 x3 x4 x5 x6 x7 x8 x9 x10 x11 (ix4 k h g y) = tap x0 x1 x2 x6 x7 x8 x9 k h g y := by
  refine Eq.trans ?_ (show GT x0 x1 x2 x6 x7 x8 x9 (ix4 k h g y) = _ from rfl)
  unfold out0_12
  refine View.canon_apply_of_pieces (Val := Elt Ideal) (GT x0 x1 x2 x6 x7 x8 x9) _ ?_ (ix4 k h g y) (cover0_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  intro pc hpc x
  rcases List.mem_cons.mp hpc with rfl | hpc
  · exact pieceT x0 x1 x2 x6 x7 x8 x9 3 15 slices_S32x16x64_o0_15_0_S32x1x64 _ _ (z3r x0 x1 x2 x3 x4 x5 x6 x7 x8 x9 x10 x11) (z3i x0 x1 x2 x3 x4 x5 x6 x7 x8 x9 x10 x11) _ rfl inb_S4x16x32x16_S1x1x32x16_3_15_0_0 x
  rcases List.mem_cons.mp hpc with rfl | hpc
  · exact pieceT x0 x1 x2 x6 x7 x8 x9 3 14 slices_S32x16x64_o0_14_0_S32x1x64 _ _ (z3r x0 x1 x2 x3 x4 x5 x6 x7 x8 x9 x10 x11) (z3i x0 x1 x2 x3 x4 x5 x6 x7 x8 x9 x10 x11) _ rfl inb_S4x16x32x16_S1x1x32x16_3_14_0_0 x
  rcases List.mem_cons.mp hpc with rfl | hpc
  · exact pieceT x0 x1 x2 x6 x7 x8 x9 3 13 slices_S32x16x64_o0_13_0_S32x1x64 _ _ (z3r x0 x1 x2 x3 x4 x5 x6 x7 x8 x9 x10 x11) (z3i x0 x1 x2 x3 x4 x5 x6 x7 x8 x9 x10 x11) _ rfl inb_S4x16x32x16_S1x1x32x16_3_13_0_0 x
  rcases List.mem_cons.mp hpc with rfl | hpc
  · exact pieceT x0 x1 x2 x6 x7 x8 x9 3 12 slices_S32x16x64_o0_12_0_S32x1x64 _ _ (z3r x0 x1 x2 x3 x4 x5 x6 x7 x8 x9 x10 x11) (z3i x0 x1 x2 x3 x4 x5 x6 x7 x8 x9 x10 x11) _ rfl inb_S4x16x32x16_S1x1x32x16_3_12_0_0 x
  rcases List.mem_cons.mp hpc with rfl | hpc
  · exact pieceT x0 x1 x2 x6 x7 x8 x9 3 11 slices_S32x16x64_o0_11_0_S32x1x64 _ _ (z3r x0 x1 x2 x3 x4 x5 x6 x7 x8 x9 x10 x11) (z3i x0 x1 x2 x3 x4 x5 x6 x7 x8 x9 x10 x11) _ rfl inb_S4x16x32x16_S1x1x32x16_3_11_0_0 x
  rcases List.mem_cons.mp hpc with rfl | hpc
  · exact pieceT x0 x1 x2 x6 x7 x8 x9 3 10 slices_S32x16x64_o0_10_0_S32x1x64 _ _ (z3r x0 x1 x2 x3 x4 x5 x6 x7 x8 x9 x10 x11) (z3i x0 x1 x2 x3 x4 x5 x6 x7 x8 x9 x10 x11) _ rfl inb_S4x16x32x16_S1x1x32x16_3_10_0_0 x
  rcases List.mem_cons.mp hpc with rfl | hpc
  · exact pieceT x0 x1 x2 x6 x7 x8 x9 3 9 slices_S32x16x64_o0_9_0_S32x1x64 _ _ (z3r x0 x1 x2 x3 x4 x5 x6 x7 x8 x9 x10 x11) (z3i x0 x1 x2 x3 x4 x5 x6 x7 x8 x9 x10 x11) _ rfl inb_S4x16x32x16_S1x1x32x16_3_9_0_0 x
  rcases List.mem_cons.mp hpc with rfl | hpc
  · exact pieceT x0 x1 x2 x6 x7 x8 x9 3 8 slices_S32x16x64_o0_8_0_S32x1x64 _ _ (z3r x0 x1 x2 x3 x4 x5 x6 x7 x8 x9 x10 x11) (z3i x0 x1 x2 x3 x4 x5 x6 x7 x8 x9 x10 x11) _ rfl inb_S4x16x32x16_S1x1x32x16_3_8_0_0 x
  rcases List.mem_cons.mp hpc with rfl | hpc
  · exact pieceT x0 x1 x2 x6 x7 x8 x9 3 7 slices_S32x16x64_o0_7_0_S32x1x64 _ _ (z3r x0 x1 x2 x3 x4 x5 x6 x7 x8 x9 x10 x11) (z3i x0 x1 x2 x3 x4 x5 x6 x7 x8 x9 x10 x11) _ rfl inb_S4x16x32x16_S1x1x32x16_3_7_0_0 x
  rcases List.mem_cons.mp hpc with rfl | hpc
  · exact pieceT x0 x1 x2 x6 x7 x8 x9 3 6 slices_S32x16x64_o0_6_0_S32x1x64 _ _ (z3r x0 x1 x2 x3 x4 x5 x6 x7 x8 x9 x10 x11) (z3i x0 x1 x2 x3 x4 x5 x6 x7 x8 x9 x10 x11) _ rfl inb_S4x16x32x16_S1x1x32x16_3_6_0_0 x
  rcases List.mem_cons.mp hpc with rfl | hpc
  · exact pieceT x0 x1 x2 x6 x7 x8 x9 3 5 slices_S32x16x64_o0_5_0_S32x1x64 _ _ (z3r x0 x1 x2 x3 x4 x5 x6 x7 x8 x9 x10 x11) (z3i x0 x1 x2 x3 x4 x5 x6 x7 x8 x9 x10 x11) _ rfl inb_S4x16x32x16_S1x1x32x16_3_5_0_0 x
  rcases List.mem_cons.mp hpc with rfl | hpc
  · exact pieceT x0 x1 x2 x6 x7 x8 x9 3 4 slices_S32x16x64_o0_4_0_S32x1x64 _ _ (z3r x0 x1 x2 x3 x4 x5 x6 x7 x8 x9 x10 x11) (z3i x0 x1 x2 x3 x4 x5 x6 x7 x8 x9 x10 x11) _ rfl inb_S4x16x32x16_S1x1x32x16_3_4_0_0 x
  rcases List.mem_cons.mp hpc with rfl | hpc
  · exact pieceT x0 x1 x2 x6 x7 x8 x9 3 3 slices_S32x16x64_o0_3_0_S32x1x64 _ _ (z3r x0 x1 x2 x3 x4 x5 x6 x7 x8 x9 x10 x11) (z3i x0 x1 x2 x3 x4 x5 x6 x7 x8 x9 x10 x11) _ rfl inb_S4x16x32x16_S1x1x32x16_3_3_0_0 x
  rcases List.mem_cons.mp hpc with rfl | hpc
  · exact pieceT x0 x1 x2 x6 x7 x8 x9 3 2 slices_S32x16x64_o0_2_0_S32x1x64 _ _ (z3r x0 x1 x2 x3 x4 x5 x6 x7 x8 x9 x10 x11) (z3i x0 x1 x2 x3 x4 x5 x6 x7 x8 x9 x10 x11) _ rfl inb_S4x16x32x16_S1x1x32x16_3_2_0_0 x
  rcases List.mem_cons.mp hpc with rfl | hpc
  · exact pieceT x0 x1 x2 x6 x7 x8 x9 3 1 slices_S32x16x64_o0_1_0_S32x1x64 _ _ (z3r x0 x1 x2 x3 x4 x5 x6 x7 x8 x9 x10 x11) (z3i x0 x1 x2 x3 x4 x5 x6 x7 x8 x9 x10 x11) _ rfl inb_S4x16x32x16_S1x1x32x16_3_1_0_0 x
  rcases List.mem_cons.mp hpc with rfl | hpc
  · exact pieceT x0 x1 x2 x6 x7 x8 x9 3 0 slices_S32x16x64_o0_0_0_S32x1x64 _ _ (z3r x0 x1 x2 x3 x4 x5 x6 x7 x8 x9 x10 x11) (z3i x0 x1 x2 x3 x4 x5 x6 x7 x8 x9 x10 x11) _ rfl inb_S4x16x32x16_S1x1x32x16_3_0_0_0 x
  rcases List.mem_cons.mp hpc with rfl | hpc
  · exact pieceT x0 x1 x2 x6 x7 x8 x9 2 15 slices_S32x16x64_o0_15_0_S32x1x64 _ _ (z2r x0 x1 x2 x3 x4 x5 x6 x7 x8 x9 x10 x11) (z2i x0 x1 x2 x3 x4 x5 x6 x7 x8 x9 x10 x11) _ rfl inb_S4x16x32x16_S1x1x32x16_2_15_0_0 x
  rcases List.mem_cons.mp hpc with rfl | hpc
  · exact pieceT x0 x1 x2 x6 x7 x8 x9 2 14 slices_S32x16x64_o0_14_0_S32x1x64 _ _ (z2r x0 x1 x2 x3 x4 x5 x6 x7 x8 x9 x10 x11) (z2i x0 x1 x2 x3 x4 x5 x6 x7 x8 x9 x10 x11) _ rfl inb_S4x16x32x16_S1x1x32x16_2_14_0_0 x
  rcases List.mem_cons.mp hpc with rfl | hpc
  · exact pieceT x0 x1 x2 x6 x7 x8 x9 2 13 slices_S32x16x64_o0_13_0_S32x1x64 _ _ (z2r x0 x1 x2 x3 x4 x5 x6 x7 x8 x9 x10 x11) (z2i x0 x1 x2 x3 x4 x5 x6 x7 x8 x9 x10 x11) _ rfl inb_S4x16x32x16_S1x1x32x16_2_13_0_0 x
  rcases List.mem_cons.mp hpc with rfl | hpc
  · exact pieceT x0 x1 x2 x6 x7 x8 x9 2 12 slices_S32x16x64_o0_12_0_S32x1x64 _ _ (z2r x0 x1 x2 x3 x4 x5 x6 x7 x8 x9 x10 x11) (z2i x0 x1 x2 x3 x4 x5 x6 x7 x8 x9 x10 x11) _ rfl inb_S4x16x32x16_S1x1x32x16_2_12_0_0 x
  rcases List.mem_cons.mp hpc with rfl | hpc
  · exact pieceT x0 x1 x2 x6 x7 x8 x9 2 11 slices_S32x16x64_o0_11_0_S32x1x64 _ _ (z2r x0 x1 x2 x3 x4 x5 x6 x7 x8 x9 x10 x11) (z2i x0 x1 x2 x3 x4 x5 x6 x7 x8 x9 x10 x11) _ rfl inb_S4x16x32x16_S1x1x32x16_2_11_0_0 x
  rcases List.mem_cons.mp hpc with rfl | hpc
  · exact pieceT x0 x1 x2 x6 x7 x8 x9 2 10 slices_S32x16x64_o0_10_0_S32x1x64 _ _ (z2r x0 x1 x2 x3 x4 x5 x6 x7 x8 x9 x10 x11) (z2i x0 x1 x2 x3 x4 x5 x6 x7 x8 x9 x10 x11) _ rfl inb_S4x16x32x16_S1x1x32x16_2_10_0_0 x
  rcases List.mem_cons.mp hpc with rfl | hpc
  · exact pieceT x0 x1 x2 x6 x7 x8 x9 2 9 slices_S32x16x64_o0_9_0_S32x1x64 _ _ (z2r x0 x1 x2 x3 x4 x5 x6 x7 x8 x9 x10 x11) (z2i x0 x1 x2 x3 x4 x5 x6 x7 x8 x9 x10 x11) _ rfl inb_S4x16x32x16_S1x1x32x16_2_9_0_0 x
  rcases List.mem_cons.mp hpc with rfl | hpc
  · exact pieceT x0 x1 x2 x6 x7 x8 x9 2 8 slices_S32x16x64_o0_8_0_S32x1x64 _ _ (z2r x0 x1 x2 x3 x4 x5 x6 x7 x8 x9 x10 x11) (z2i x0 x1 x2 x3 x4 x5 x6 x7 x8 x9 x10 x11) _ rfl inb_S4x16x32x16_S1x1x32x16_2_8_0_0 x
  rcases List.mem_cons.mp hpc with rfl | hpc
  · exact pieceT x0 x1 x2 x6 x7 x8 x9 2 7 slices_S32x16x64_o0_7_0_S32x1x64 _ _ (z2r x0 x1 x2 x3 x4 x5 x6 x7 x8 x9 x10 x11) (z2i x0 x1 x2 x3 x4 x5 x6 x7 x8 x9 x10 x11) _ rfl inb_S4x16x32x16_S1x1x32x16_2_7_0_0 x
  rcases List.mem_cons.mp hpc with rfl | hpc
  · exact pieceT x0 x1 x2 x6 x7 x8 x9 2 6 slices_S32x16x64_o0_6_0_S32x1x64 _ _ (z2r x0 x1 x2 x3 x4 x5 x6 x7 x8 x9 x10 x11) (z2i x0 x1 x2 x3 x4 x5 x6 x7 x8 x9 x10 x11) _ rfl inb_S4x16x32x16_S1x1x32x16_2_6_0_0 x
  rcases List.mem_cons.mp hpc with rfl | hpc
  · exact pieceT x0 x1 x2 x6 x7 x8 x9 2 5 slices_S32x16x64_o0_5_0_S32x1x64 _ _ (z2r x0 x1 x2 x3 x4 x5 x6 x7 x8 x9 x10 x11) (z2i x0 x1 x2 x3 x4 x5 x6 x7 x8 x9 x10 x11) _ rfl inb_S4x16x32x16_S1x1x32x16_2_5_0_0 x
  rcases List.mem_cons.mp hpc with rfl | hpc
  · exact pieceT x0 x1 x2 x6 x7 x8 x9 2 4 slices_S32x16x64_o0_4_0_S32x1x64 _ _ (z2r x0 x1 x2 x3 x4 x5 x6 x7 x8 x9 x10 x11) (z2i x0 x1 x2 x3 x4 x5 x6 x7 x8 x9 x10 x11) _ rfl inb_S4x16x32x16_S1x1x32x16_2_4_0_0 x
  rcases List.mem_cons.mp hpc with rfl | hpc
  · exact pieceT x0 x1 x2 x6 x7 x8 x9 2 3 slices_S32x16x64_o0_3_0_S32x1x64 _ _ (z2r x0 x1 x2 x3 x4 x5 x6 x7 x8 x9 x10 x11) (z2i x0 x1 x2 x3 x4 x5 x6 x7 x8 x9 x10 x11) _ rfl inb_S4x16x32x16_S1x1x32x16_2_3_0_0 x
  rcases List.mem_cons.mp hpc with rfl | hpc
  · exact pieceT x0 x1 x2 x6 x7 x8 x9 2 2 slices_S32x16x64_o0_2_0_S32x1x64 _ _ (z2r x0 x1 x2 x3 x4 x5 x6 x7 x8 x9 x10 x11) (z2i x0 x1 x2 x3 x4 x5 x6 x7 x8 x9 x10 x11) _ rfl inb_S4x16x32x16_S1x1x32x16_2_2_0_0 x
  rcases List.mem_cons.mp hpc with rfl | hpc
  · exact pieceT x0 x1 x2 x6 x7 x8 x9 2 1 slices_S32x16x64_o0_1_0_S32x1x64 _ _ (z2r x0 x1 x2 x3 x4 x5 x6 x7 x8 x9 x10 x11) (z2i x0 x1 x2 x3 x4 x5 x6 x7 x8 x9 x10 x11) _ rfl inb_S4x16x32x16_S1x1x32x16_2_1_0_0 x
  rcases List.mem_cons.mp hpc with rfl | hpc
  · exact pieceT x0 x1 x2 x6 x7 x8 x9 2 0 slices_S32x16x64_o0_0_0_S32x1x64 _ _ (z2r x0 x1 x2 x3 x4 x5 x6 x7 x8 x9 x10 x11) (z2i x0 x1 x2 x3 x4 x5 x6 x7 x8 x9 x10 x11) _ rfl inb_S4x16x32x16_S1x1x32x16_2_0_0_0 x
  rcases List.mem_cons.mp hpc with rfl | hpc
  · exact pieceT x0 x1 x2 x6 x7 x8 x9 1 15 slices_S32x16x64_o0_15_0_S32x1x64 _ _ (z1r x0 x1 x2 x3 x4 x5 x6 x7 x8 x9 x10 x11) (z1i x0 x1 x2 x3 x4 x5 x6 x7 x8 x9 x10 x11) _ rfl inb_S4x16x32x16_S1x1x32x16_1_15_0_0 x
  rcases List.mem_cons.mp hpc with rfl | hpc
  · exact pieceT x0 x1 x2 x6 x7 x8 x9 1 14 slices_S32x16x64_o0_14_0_S32x1x64 _ _ (z1r x0 x1 x2 x3 x4 x5 x6 x7 x8 x9 x10 x11) (z1i x0 x1 x2 x3 x4 x5 x6 x7 x8 x9 x10 x11) _ rfl inb_S4x16x32x16_S1x1x32x16_1_14_0_0 x
  rcases List.mem_cons.mp hpc with rfl | hpc
  · exact pieceT x0 x1 x2 x6 x7 x8 x9 1 13 slices_S32x16x64_o0_13_0_S32x1x64 _ _ (z1r x0 x1 x2 x3 x4 x5 x6 x7 x8 x9 x10 x11) (z1i x0 x1 x2 x3 x4 x5 x6 x7 x8 x9 x10 x11) _ rfl inb_S4x16x32x16_S1x1x32x16_1_13_0_0 x
  rcases List.mem_cons.mp hpc with rfl | hpc
  · exact pieceT x0 x1 x2 x6 x7 x8 x9 1 12 slices_S32x16x64_o0_12_0_S32x1x64 _ _ (z1r x0 x1 x2 x3 x4 x5 x6 x7 x8 x9 x10 x11) (z1i x0 x1 x2 x3 x4 x5 x6 x7 x8 x9 x10 x11) _ rfl inb_S4x16x32x16_S1x1x32x16_1_12_0_0 x
  rcases List.mem_cons.mp hpc with rfl | hpc
  · exact pieceT x0 x1 x2 x6 x7 x8 x9 1 11 slices_S32x16x64_o0_11_0_S32x1x64 _ _ (z1r x0 x1 x2 x3 x4 x5 x6 x7 x8 x9 x10 x11) (z1i x0 x1 x2 x3 x4 x5 x6 x7 x8 x9 x10 x11) _ rfl inb_S4x16x32x16_S1x1x32x16_1_11_0_0 x
  rcases List.mem_cons.mp hpc with rfl | hpc
  · exact pieceT x0 x1 x2 x6 x7 x8 x9 1 10 slices_S32x16x64_o0_10_0_S32x1x64 _ _ (z1r x0 x1 x2 x3 x4 x5 x6 x7 x8 x9 x10 x11) (z1i x0 x1 x2 x3 x4 x5 x6 x7 x8 x9 x10 x11) _ rfl inb_S4x16x32x16_S1x1x32x16_1_10_0_0 x
  rcases List.mem_cons.mp hpc with rfl | hpc
  · exact pieceT x0 x1 x2 x6 x7 x8 x9 1 9 slices_S32x16x64_o0_9_0_S32x1x64 _ _ (z1r x0 x1 x2 x3 x4 x5 x6 x7 x8 x9 x10 x11) (z1i x0 x1 x2 x3 x4 x5 x6 x7 x8 x9 x10 x11) _ rfl inb_S4x16x32x16_S1x1x32x16_1_9_0_0 x
  rcases List.mem_cons.mp hpc with rfl | hpc
  · exact pieceT x0 x1 x2 x6 x7 x8 x9 1 8 slices_S32x16x64_o0_8_0_S32x1x64 _ _ (z1r x0 x1 x2 x3 x4 x5 x6 x7 x8 x9 x10 x11) (z1i x0 x1 x2 x3 x4 x5 x6 x7 x8 x9 x10 x11) _ rfl inb_S4x16x32x16_S1x1x32x16_1_8_0_0 x
  rcases List.mem_cons.mp hpc with rfl | hpc
  · exact pieceT x0 x1 x2 x6 x7 x8 x9 1 7 slices_S32x16x64_o0_7_0_S32x1x64 _ _ (z1r x0 x1 x2 x3 x4 x5 x6 x7 x8 x9 x10 x11) (z1i x0 x1 x2 x3 x4 x5 x6 x7 x8 x9 x10 x11) _ rfl inb_S4x16x32x16_S1x1x32x16_1_7_0_0 x
  rcases List.mem_cons.mp hpc with rfl | hpc
  · exact pieceT x0 x1 x2 x6 x7 x8 x9 1 6 slices_S32x16x64_o0_6_0_S32x1x64 _ _ (z1r x0 x1 x2 x3 x4 x5 x6 x7 x8 x9 x10 x11) (z1i x0 x1 x2 x3 x4 x5 x6 x7 x8 x9 x10 x11) _ rfl inb_S4x16x32x16_S1x1x32x16_1_6_0_0 x
  rcases List.mem_cons.mp hpc with rfl | hpc
  · exact pieceT x0 x1 x2 x6 x7 x8 x9 1 5 slices_S32x16x64_o0_5_0_S32x1x64 _ _ (z1r x0 x1 x2 x3 x4 x5 x6 x7 x8 x9 x10 x11) (z1i x0 x1 x2 x3 x4 x5 x6 x7 x8 x9 x10 x11) _ rfl inb_S4x16x32x16_S1x1x32x16_1_5_0_0 x
  rcases List.mem_cons.mp hpc with rfl | hpc
  · exact pieceT x0 x1 x2 x6 x7 x8 x9 1 4 slices_S32x16x64_o0_4_0_S32x1x64 _ _ (z1r x0 x1 x2 x3 x4 x5 x6 x7 x8 x9 x10 x11) (z1i x0 x1 x2 x3 x4 x5 x6 x7 x8 x9 x10 x11) _ rfl inb_S4x16x32x16_S1x1x32x16_1_4_0_0 x
  rcases List.mem_cons.mp hpc with rfl | hpc
  · exact pieceT x0 x1 x2 x6 x7 x8 x9 1 3 slices_S32x16x64_o0_3_0_S32x1x64 _ _ (z1r x0 x1 x2 x3 x4 x5 x6 x7 x8 x9 x10 x11) (z1i x0 x1 x2 x3 x4 x5 x6 x7 x8 x9 x10 x11) _ rfl inb_S4x16x32x16_S1x1x32x16_1_3_0_0 x
  rcases List.mem_cons.mp hpc with rfl | hpc
  · exact pieceT x0 x1 x2 x6 x7 x8 x9 1 2 slices_S32x16x64_o0_2_0_S32x1x64 _ _ (z1r x0 x1 x2 x3 x4 x5 x6 x7 x8 x9 x10 x11) (z1i x0 x1 x2 x3 x4 x5 x6 x7 x8 x9 x10 x11) _ rfl inb_S4x16x32x16_S1x1x32x16_1_2_0_0 x
  rcases List.mem_cons.mp hpc with rfl | hpc
  · exact pieceT x0 x1 x2 x6 x7 x8 x9 1 1 slices_S32x16x64_o0_1_0_S32x1x64 _ _ (z1r x0 x1 x2 x3 x4 x5 x6 x7 x8 x9 x10 x11) (z1i x0 x1 x2 x3 x4 x5 x6 x7 x8 x9 x10 x11) _ rfl inb_S4x16x32x16_S1x1x32x16_1_1_0_0 x
  rcases List.mem_cons.mp hpc with rfl | hpc
  · exact pieceT x0 x1 x2 x6 x7 x8 x9 1 0 slices_S32x16x64_o0_0_0_S32x1x64 _ _ (z1r x0 x1 x2 x3 x4 x5 x6 x7 x8 x9 x10 x11) (z1i x0 x1 x2 x3 x4 x5 x6 x7 x8 x9 x10 x11) _ rfl inb_S4x16x32x16_S1x1x32x16_1_0_0_0 x
  rcases List.mem_cons.mp hpc with rfl | hpc
  · exact pieceT x0 x1 x2 x6 x7 x8 x9 0 15 slices_S32x16x64_o0_15_0_S32x1x64 _ _ (z0r x0 x1 x2 x3 x4 x5 x6 x7 x8 x9 x10 x11) (z0i x0 x1 x2 x3 x4 x5 x6 x7 x8 x9 x10 x11) _ rfl inb_S4x16x32x16_S1x1x32x16_0_15_0_0 x
  rcases List.mem_cons.mp hpc with rfl | hpc
  · exact pieceT x0 x1 x2 x6 x7 x8 x9 0 14 slices_S32x16x64_o0_14_0_S32x1x64 _ _ (z0r x0 x1 x2 x3 x4 x5 x6 x7 x8 x9 x10 x11) (z0i x0 x1 x2 x3 x4 x5 x6 x7 x8 x9 x10 x11) _ rfl inb_S4x16x32x16_S1x1x32x16_0_14_0_0 x
  rcases List.mem_cons.mp hpc with rfl | hpc
  · exact pieceT x0 x1 x2 x6 x7 x8 x9 0 13 slices_S32x16x64_o0_13_0_S32x1x64 _ _ (z0r x0 x1 x2 x3 x4 x5 x6 x7 x8 x9 x10 x11) (z0i x0 x1 x2 x3 x4 x5 x6 x7 x8 x9 x10 x11) _ rfl inb_S4x16x32x16_S1x1x32x16_0_13_0_0 x
  rcases List.mem_cons.mp hpc with rfl | hpc
  · exact pieceT x0 x1 x2 x6 x7 x8 x9 0 12 slices_S32x16x64_o0_12_0_S32x1x64 _ _ (z0r x0 x1 x2 x3 x4 x5 x6 x7 x8 x9 x10 x11) (z0i x0 x1 x2 x3 x4 x5 x6 x7 x8 x9 x10 x11) _ rfl inb_S4x16x32x16_S1x1x32x16_0_12_0_0 x
  rcases List.mem_cons.mp hpc with rfl | hpc
  · exact pieceT x0 x1 x2 x6 x7 x8 x9 0 11 slices_S32x16x64_o0_11_0_S32x1x64 _ _ (z0r x0 x1 x2 x3 x4 x5 x6 x7 x8 x9 x10 x11) (z0i x0 x1 x2 x3 x4 x5 x6 x7 x8 x9 x10 x11) _ rfl inb_S4x16x32x16_S1x1x32x16_0_11_0_0 x
  rcases List.mem_cons.mp hpc with rfl | hpc
  · exact pieceT x0 x1 x2 x6 x7 x8 x9 0 10 slices_S32x16x64_o0_10_0_S32x1x64 _ _ (z0r x0 x1 x2 x3 x4 x5 x6 x7 x8 x9 x10 x11) (z0i x0 x1 x2 x3 x4 x5 x6 x7 x8 x9 x10 x11) _ rfl inb_S4x16x32x16_S1x1x32x16_0_10_0_0 x
  rcases List.mem_cons.mp hpc with rfl | hpc
  · exact pieceT x0 x1 x2 x6 x7 x8 x9 0 9 slices_S32x16x64_o0_9_0_S32x1x64 _ _ (z0r x0 x1 x2 x3 x4 x5 x6 x7 x8 x9 x10 x11) (z0i x0 x1 x2 x3 x4 x5 x6 x7 x8 x9 x10 x11) _ rfl inb_S4x16x32x16_S1x1x32x16_0_9_0_0 x
  rcases List.mem_cons.mp hpc with rfl | hpc
  · exact pieceT x0 x1 x2 x6 x7 x8 x9 0 8 slices_S32x16x64_o0_8_0_S32x1x64 _ _ (z0r x0 x1 x2 x3 x4 x5 x6 x7 x8 x9 x10 x11) (z0i x0 x1 x2 x3 x4 x5 x6 x7 x8 x9 x10 x11) _ rfl inb_S4x16x32x16_S1x1x32x16_0_8_0_0 x
  rcases List.mem_cons.mp hpc with rfl | hpc
  · exact pieceT x0 x1 x2 x6 x7 x8 x9 0 7 slices_S32x16x64_o0_7_0_S32x1x64 _ _ (z0r x0 x1 x2 x3 x4 x5 x6 x7 x8 x9 x10 x11) (z0i x0 x1 x2 x3 x4 x5 x6 x7 x8 x9 x10 x11) _ rfl inb_S4x16x32x16_S1x1x32x16_0_7_0_0 x
  rcases List.mem_cons.mp hpc with rfl | hpc
  · exact pieceT x0 x1 x2 x6 x7 x8 x9 0 6 slices_S32x16x64_o0_6_0_S32x1x64 _ _ (z0r x0 x1 x2 x3 x4 x5 x6 x7 x8 x9 x10 x11) (z0i x0 x1 x2 x3 x4 x5 x6 x7 x8 x9 x10 x11) _ rfl inb_S4x16x32x16_S1x1x32x16_0_6_0_0 x
  rcases List.mem_cons.mp hpc with rfl | hpc
  · exact pieceT x0 x1 x2 x6 x7 x8 x9 0 5 slices_S32x16x64_o0_5_0_S32x1x64 _ _ (z0r x0 x1 x2 x3 x4 x5 x6 x7 x8 x9 x10 x11) (z0i x0 x1 x2 x3 x4 x5 x6 x7 x8 x9 x10 x11) _ rfl inb_S4x16x32x16_S1x1x32x16_0_5_0_0 x
  rcases List.mem_cons.mp hpc with rfl | hpc
  · exact pieceT x0 x1 x2 x6 x7 x8 x9 0 4 slices_S32x16x64_o0_4_0_S32x1x64 _ _ (z0r x0 x1 x2 x3 x4 x5 x6 x7 x8 x9 x10 x11) (z0i x0 x1 x2 x3 x4 x5 x6 x7 x8 x9 x10 x11) _ rfl inb_S4x16x32x16_S1x1x32x16_0_4_0_0 x
  rcases List.mem_cons.mp hpc with rfl | hpc
  · exact pieceT x0 x1 x2 x6 x7 x8 x9 0 3 slices_S32x16x64_o0_3_0_S32x1x64 _ _ (z0r x0 x1 x2 x3 x4 x5 x6 x7 x8 x9 x10 x11) (z0i x0 x1 x2 x3 x4 x5 x6 x7 x8 x9 x10 x11) _ rfl inb_S4x16x32x16_S1x1x32x16_0_3_0_0 x
  rcases List.mem_cons.mp hpc with rfl | hpc
  · exact pieceT x0 x1 x2 x6 x7 x8 x9 0 2 slices_S32x16x64_o0_2_0_S32x1x64 _ _ (z0r x0 x1 x2 x3 x4 x5 x6 x7 x8 x9 x10 x11) (z0i x0 x1 x2 x3 x4 x5 x6 x7 x8 x9 x10 x11) _ rfl inb_S4x16x32x16_S1x1x32x16_0_2_0_0 x
  rcases List.mem_cons.mp hpc with rfl | hpc
  · exact pieceT x0 x1 x2 x6 x7 x8 x9 0 1 slices_S32x16x64_o0_1_0_S32x1x64 _ _ (z0r x0 x1 x2 x3 x4 x5 x6 x7 x8 x9 x10 x11) (z0i x0 x1 x2 x3 x4 x5 x6 x7 x8 x9 x10 x11) _ rfl inb_S4x16x32x16_S1x1x32x16_0_1_0_0 x
  rcases List.mem_cons.mp hpc with rfl | hpc
  · exact pieceT x0 x1 x2 x6 x7 x8 x9 0 0 slices_S32x16x64_o0_0_0_S32x1x64 _ _ (z0r x0 x1 x2 x3 x4 x5 x6 x7 x8 x9 x10 x11) (z0i x0 x1 x2 x3 x4 x5 x6 x7 x8 x9 x10 x11) _ rfl inb_S4x16x32x16_S1x1x32x16_0_0_0_0 x
  exact absurd hpc (by simp)

theorem embS (k : Fin 4) (inb) (g : Fin 32) (y : Fin 16) (p : Fin 64) :
    (Rect.unit (s := S4x32x16x64) ![k.val, 0, 0, 0] S1x32x16x64.size inb).emb (ix4 0 g y p) = ix4 k g y p := by
  funext a
  fin_cases a <;> exact Fin.ext (by simp [ix4, Rect.unit, Rect.emb])
theorem embO (k : Fin 4) (inb) (g : Fin 32) (p : Fin 64) (h : Fin 16) :
    (Rect.unit (s := S4x32x64x16) ![k.val, 0, 0, 0] S1x32x64x16.size inb).emb (ix4 0 g p h) = ix4 k g p h := by
  funext a
  fin_cases a <;> exact Fin.ext (by simp [ix4, Rect.unit, Rect.emb])
theorem embA (k : Fin 2) (inb) (g : Fin 32) (p : Fin 64) :
    (Rect.unit (s := S2x32x1x64) ![k.val, 0, 0, 0] S1x32x1x64.size inb).emb (ix4 0 g 0 p) = ix4 k g 0 p := by
  funext a
  fin_cases a <;> exact Fin.ext (by simp [ix4, Rect.unit, Rect.emb])
theorem idxS (x : S1x32x16x64.Idx) : ∃ (g : Fin 32) (y : Fin 16) (p : Fin 64), x = (ix4 0 g y p : S1x32x16x64.Idx) := by
  refine ⟨x 1, x 2, x 3, ?_⟩
  funext a
  fin_cases a
  · exact Subsingleton.elim (α := Fin 1) _ _
  · rfl
  · rfl
  · rfl
theorem idxO (x : S1x32x64x16.Idx) : ∃ (g : Fin 32) (p : Fin 64) (h : Fin 16), x = (ix4 0 g p h : S1x32x64x16.Idx) := by
  refine ⟨x 1, x 2, x 3, ?_⟩
  funext a
  fin_cases a
  · exact Subsingleton.elim (α := Fin 1) _ _
  · rfl
  · rfl
  · rfl
theorem idxA (x : S1x32x1x64.Idx) : ∃ (g : Fin 32) (p : Fin 64), x = (ix4 0 g 0 p : S1x32x1x64.Idx) := by
  refine ⟨x 1, x 3, ?_⟩
  funext a
  fin_cases a
  · exact Subsingleton.elim (α := Fin 1) _ _
  · rfl
  · exact Subsingleton.elim (α := Fin 1) _ _
  · rfl

/-- A store of one state holds it. -/
theorem pieceS (G : S4x32x16x64.Idx → EReal) (k : Fin 4) (z : FVec Ideal S32x16x64 .f32) (hz : ∀ g y p, z (ix3 g y p) = G (ix4 k g y p))
    (w : Vec Ideal S1x32x16x64 .f32) (hw : w = shapeCast S1x32x16x64 z shapeCasts_S32x16x64_S1x32x16x64) (inb) (x : S1x32x16x64.Idx) :
    w x = G ((Rect.unit (s := S4x32x16x64) ![k.val, 0, 0, 0] S1x32x16x64.size inb).emb x) := by
  subst hw
  obtain ⟨g, y, p, rfl⟩ := idxS x
  rw [embS, castZ, hz]
/-- A store of one output coefficient's product holds it. -/
theorem pieceO (G : S4x32x64x16.Idx → EReal) (k : Fin 4) (w z : FVec Ideal S1x32x64x16 .f32) (hw : w = z) (hz : ∀ g p h, z (ix4 0 g p h) = G (ix4 k g p h))
    (inb) (x : S1x32x64x16.Idx) :
    w x = G ((Rect.unit (s := S4x32x64x16) ![k.val, 0, 0, 0] S1x32x64x16.size inb).emb x) := by
  subst hw
  obtain ⟨g, p, h, rfl⟩ := idxO x
  rw [embO, hz]
/-- A store of one part of the step's fourth power holds it. -/
theorem pieceA (G : S2x32x1x64.Idx → EReal) (k : Fin 2) (z : FVec Ideal S32x1x64 .f32) (hz : ∀ g p, z (ix3 g 0 p) = G (ix4 k g 0 p))
    (w : Vec Ideal S1x32x1x64 .f32) (hw : w = shapeCast S1x32x1x64 z shapeCasts_S32x1x64_S1x32x1x64) (inb) (x : S1x32x1x64.Idx) :
    w x = G ((Rect.unit (s := S2x32x1x64) ![k.val, 0, 0, 0] S1x32x1x64.size inb).emb x) := by
  subst hw
  obtain ⟨g, p, rfl⟩ := idxA x
  rw [embA, castA, hz]

def GSr (i : S4x32x16x64.Idx) : EReal := (S x0 x1 x2 x6 x7 (3 - (i 0 : Fin 4).val) (i 1) (i 2) (i 3)).1
def GSi (i : S4x32x16x64.Idx) : EReal := (S x0 x1 x2 x6 x7 (3 - (i 0 : Fin 4).val) (i 1) (i 2) (i 3)).2

theorem out13 (k : Fin 4) (g : Fin 32) (y : Fin 16) (p : Fin 64) :
    out0_13 (F := Ideal) x0 x1 x2 x3 x4 x5 x6 x7 x8 x9 x10 x11 (ix4 k g y p) = (S x0 x1 x2 x6 x7 (3 - k.val) g y p).1 := by
  refine Eq.trans ?_ (show GSr x0 x1 x2 x6 x7 (ix4 k g y p) = _ from rfl)
  unfold out0_13
  refine View.canon_apply_of_pieces (Val := Elt Ideal) (GSr x0 x1 x2 x6 x7) _ ?_ (ix4 k g y p) (cover0_13 _ _ _ _ _)
  intro pc hpc x
  rcases List.mem_cons.mp hpc with rfl | hpc
  · exact pieceS (GSr x0 x1 x2 x6 x7) 0 (k0_pay158 (F := Ideal) x0 x1 x2 x3 x4 x5 x6 x7 x8 x9 x10 x11) (z3r x0 x1 x2 x3 x4 x5 x6 x7 x8 x9 x10 x11) _ rfl inb_S4x32x16x64_S1x32x16x64_0_0_0_0 x
  rcases List.mem_cons.mp hpc with rfl | hpc
  · exact pieceS (GSr x0 x1 x2 x6 x7) 1 (k0_pay156 (F := Ideal) x0 x1 x2 x3 x4 x5 x6 x7 x8 x9 x10 x11) (z2r x0 x1 x2 x3 x4 x5 x6 x7 x8 x9 x10 x11) _ rfl inb_S4x32x16x64_S1x32x16x64_1_0_0_0 x
  rcases List.mem_cons.mp hpc with rfl | hpc
  · exact pieceS (GSr x0 x1 x2 x6 x7) 2 (k0_pay154 (F := Ideal) x0 x1 x2 x3 x4 x5 x6 x7 x8 x9 x10 x11) (z1r x0 x1 x2 x3 x4 x5 x6 x7 x8 x9 x10 x11) _ rfl inb_S4x32x16x64_S1x32x16x64_2_0_0_0 x
  rcases List.mem_cons.mp hpc with rfl | hpc
  · exact pieceS (GSr x0 x1 x2 x6 x7) 3 (k0_pay148 (F := Ideal) x0 x1 x2 x3 x4 x5 x6 x7 x8 x9 x10 x11) (z0r x0 x1 x2 x3 x4 x5 x6 x7 x8 x9 x10 x11) _ rfl inb_S4x32x16x64_S1x32x16x64_3_0_0_0 x
  exact absurd hpc (by simp)

theorem out14 (k : Fin 4) (g : Fin 32) (y : Fin 16) (p : Fin 64) :
    out0_14 (F := Ideal) x0 x1 x2 x3 x4 x5 x6 x7 x8 x9 x10 x11 (ix4 k g y p) = (S x0 x1 x2 x6 x7 (3 - k.val) g y p).2 := by
  refine Eq.trans ?_ (show GSi x0 x1 x2 x6 x7 (ix4 k g y p) = _ from rfl)
  unfold out0_14
  refine View.canon_apply_of_pieces (Val := Elt Ideal) (GSi x0 x1 x2 x6 x7) _ ?_ (ix4 k g y p) (cover0_14 _ _ _ _ _)
  intro pc hpc x
  rcases List.mem_cons.mp hpc with rfl | hpc
  · exact pieceS (GSi x0 x1 x2 x6 x7) 0 (k0_pay160 (F := Ideal) x0 x1 x2 x3 x4 x5 x6 x7 x8 x9 x10 x11) (z3i x0 x1 x2 x3 x4 x5 x6 x7 x8 x9 x10 x11) _ rfl inb_S4x32x16x64_S1x32x16x64_0_0_0_0 x
  rcases List.mem_cons.mp hpc with rfl | hpc
  · exact pieceS (GSi x0 x1 x2 x6 x7) 1 (k0_pay157 (F := Ideal) x0 x1 x2 x3 x4 x5 x6 x7 x8 x9 x10 x11) (z2i x0 x1 x2 x3 x4 x5 x6 x7 x8 x9 x10 x11) _ rfl inb_S4x32x16x64_S1x32x16x64_1_0_0_0 x
  rcases List.mem_cons.mp hpc with rfl | hpc
  · exact pieceS (GSi x0 x1 x2 x6 x7) 2 (k0_pay155 (F := Ideal) x0 x1 x2 x3 x4 x5 x6 x7 x8 x9 x10 x11) (z1i x0 x1 x2 x3 x4 x5 x6 x7 x8 x9 x10 x11) _ rfl inb_S4x32x16x64_S1x32x16x64_2_0_0_0 x
  rcases List.mem_cons.mp hpc with rfl | hpc
  · exact pieceS (GSi x0 x1 x2 x6 x7) 3 (k0_pay151 (F := Ideal) x0 x1 x2 x3 x4 x5 x6 x7 x8 x9 x10 x11) (z0i x0 x1 x2 x3 x4 x5 x6 x7 x8 x9 x10 x11) _ rfl inb_S4x32x16x64_S1x32x16x64_3_0_0_0 x
  exact absurd hpc (by simp)

/-- An output coefficient times power k + 1 of the step: the real part, and the imaginary part with its sign turned. -/
def oRe (cr ci : EReal) (q : EReal × EReal) : EReal := cr * q.1 - ci * q.2
def oIm (cr ci : EReal) (q : EReal × EReal) : EReal := -cr * q.2 - ci * q.1
def GOr (i : S4x32x64x16.Idx) : EReal := oRe (x10 (ix3 (i 1 : Fin 32) (i 2 : Fin 64) (i 3 : Fin 16))) (x11 (ix3 (i 1 : Fin 32) (i 2 : Fin 64) (i 3 : Fin 16))) (P x3 x4 x5 (i 0 : Fin 4).val (i 1) (i 2))
def GOi (i : S4x32x64x16.Idx) : EReal := oIm (x10 (ix3 (i 1 : Fin 32) (i 2 : Fin 64) (i 3 : Fin 16))) (x11 (ix3 (i 1 : Fin 32) (i 2 : Fin 64) (i 3 : Fin 16))) (P x3 x4 x5 (i 0 : Fin 4).val (i 1) (i 2))

theorem c10 : k0_pay164 (F := Ideal) x0 x1 x2 x3 x4 x5 x6 x7 x8 x9 x10 x11 = x10 := by
  unfold k0_pay164 k0_pay123
  rw [View.ld_unit_zero (S := S32x64x16) hz3]
  exact shapeCast_self _ _
theorem c11 : k0_pay165 (F := Ideal) x0 x1 x2 x3 x4 x5 x6 x7 x8 x9 x10 x11 = x11 := by
  unfold k0_pay165 k0_pay124
  rw [View.ld_unit_zero (S := S32x64x16) hz3]
  exact shapeCast_self _ _

theorem out15 (k : Fin 4) (g : Fin 32) (p : Fin 64) (h : Fin 16) :
    out0_15 (F := Ideal) x0 x1 x2 x3 x4 x5 x6 x7 x8 x9 x10 x11 (ix4 k g p h) = oRe (x10 (ix3 g p h)) (x11 (ix3 g p h)) (P x3 x4 x5 k.val g p) := by
  refine Eq.trans ?_ (show GOr x3 x4 x5 x10 x11 (ix4 k g p h) = _ from rfl)
  unfold out0_15
  refine View.canon_apply_of_pieces (Val := Elt Ideal) (GOr x3 x4 x5 x10 x11) _ ?_ (ix4 k g p h) (cover0_15 _ _ _ _ _)
  intro pc hpc x
  rcases List.mem_cons.mp hpc with rfl | hpc
  · refine pieceO (GOr x3 x4 x5 x10 x11) 3 _ (outRe (k0_pay164 (F := Ideal) x0 x1 x2 x3 x4 x5 x6 x7 x8 x9 x10 x11) (k0_pay165 (F := Ideal) x0 x1 x2 x3 x4 x5 x6 x7 x8 x9 x10 x11) (k0_pay136 (F := Ideal) (k0_pay162 x0 x1 x2 x3 x4 x5 x6 x7 x8 x9 x10 x11) (k0_pay163 x0 x1 x2 x3 x4 x5 x6 x7 x8 x9 x10 x11) (k0_pay167 x0 x1 x2 x3 x4 x5 x6 x7 x8 x9 x10 x11) (k0_pay168 x0 x1 x2 x3 x4 x5 x6 x7 x8 x9 x10 x11)) (k0_pay137 (F := Ideal) (k0_pay162 x0 x1 x2 x3 x4 x5 x6 x7 x8 x9 x10 x11) (k0_pay163 x0 x1 x2 x3 x4 x5 x6 x7 x8 x9 x10 x11) (k0_pay167 x0 x1 x2 x3 x4 x5 x6 x7 x8 x9 x10 x11) (k0_pay168 x0 x1 x2 x3 x4 x5 x6 x7 x8 x9 x10 x11))) rfl (fun g p h => ?_) inb_S4x32x64x16_S1x32x64x16_3_0_0_0 x
    rw [outRe_apply, c10, c11, q3r, q3i]
    rfl
  rcases List.mem_cons.mp hpc with rfl | hpc
  · refine pieceO (GOr x3 x4 x5 x10 x11) 2 _ (outRe (k0_pay164 (F := Ideal) x0 x1 x2 x3 x4 x5 x6 x7 x8 x9 x10 x11) (k0_pay165 (F := Ideal) x0 x1 x2 x3 x4 x5 x6 x7 x8 x9 x10 x11) (k0_pay167 (F := Ideal) x0 x1 x2 x3 x4 x5 x6 x7 x8 x9 x10 x11) (k0_pay168 (F := Ideal) x0 x1 x2 x3 x4 x5 x6 x7 x8 x9 x10 x11)) rfl (fun g p h => ?_) inb_S4x32x64x16_S1x32x64x16_2_0_0_0 x
    rw [outRe_apply, c10, c11, q2r, q2i]
    rfl
  rcases List.mem_cons.mp hpc with rfl | hpc
  · refine pieceO (GOr x3 x4 x5 x10 x11) 1 _ (outRe (k0_pay164 (F := Ideal) x0 x1 x2 x3 x4 x5 x6 x7 x8 x9 x10 x11) (k0_pay165 (F := Ideal) x0 x1 x2 x3 x4 x5 x6 x7 x8 x9 x10 x11) (k0_pay166 (F := Ideal) x0 x1 x2 x3 x4 x5 x6 x7 x8 x9 x10 x11) (k0_pay128 (F := Ideal) (k0_pay162 x0 x1 x2 x3 x4 x5 x6 x7 x8 x9 x10 x11) (k0_pay163 x0 x1 x2 x3 x4 x5 x6 x7 x8 x9 x10 x11))) rfl (fun g p h => ?_) inb_S4x32x64x16_S1x32x64x16_1_0_0_0 x
    rw [outRe_apply, c10, c11, q1r, q1i]
    rfl
  rcases List.mem_cons.mp hpc with rfl | hpc
  · refine pieceO (GOr x3 x4 x5 x10 x11) 0 _ (outRe (k0_pay164 (F := Ideal) x0 x1 x2 x3 x4 x5 x6 x7 x8 x9 x10 x11) (k0_pay165 (F := Ideal) x0 x1 x2 x3 x4 x5 x6 x7 x8 x9 x10 x11) (k0_pay162 (F := Ideal) x0 x1 x2 x3 x4 x5 x6 x7 x8 x9 x10 x11) (k0_pay163 (F := Ideal) x0 x1 x2 x3 x4 x5 x6 x7 x8 x9 x10 x11)) rfl (fun g p h => ?_) inb_S4x32x64x16_S1x32x64x16_0_0_0_0 x
    rw [outRe_apply, c10, c11, q0r, q0i]
    rfl
  exact absurd hpc (by simp)

theorem out16 (k : Fin 4) (g : Fin 32) (p : Fin 64) (h : Fin 16) :
    out0_16 (F := Ideal) x0 x1 x2 x3 x4 x5 x6 x7 x8 x9 x10 x11 (ix4 k g p h) = oIm (x10 (ix3 g p h)) (x11 (ix3 g p h)) (P x3 x4 x5 k.val g p) := by
  refine Eq.trans ?_ (show GOi x3 x4 x5 x10 x11 (ix4 k g p h) = _ from rfl)
  unfold out0_16
  refine View.canon_apply_of_pieces (Val := Elt Ideal) (GOi x3 x4 x5 x10 x11) _ ?_ (ix4 k g p h) (cover0_16 _ _ _ _ _)
  intro pc hpc x
  rcases List.mem_cons.mp hpc with rfl | hpc
  · refine pieceO (GOi x3 x4 x5 x10 x11) 3 _ (outIm (k0_pay164 (F := Ideal) x0 x1 x2 x3 x4 x5 x6 x7 x8 x9 x10 x11) (k0_pay165 (F := Ideal) x0 x1 x2 x3 x4 x5 x6 x7 x8 x9 x10 x11) (k0_pay136 (F := Ideal) (k0_pay162 x0 x1 x2 x3 x4 x5 x6 x7 x8 x9 x10 x11) (k0_pay163 x0 x1 x2 x3 x4 x5 x6 x7 x8 x9 x10 x11) (k0_pay167 x0 x1 x2 x3 x4 x5 x6 x7 x8 x9 x10 x11) (k0_pay168 x0 x1 x2 x3 x4 x5 x6 x7 x8 x9 x10 x11)) (k0_pay137 (F := Ideal) (k0_pay162 x0 x1 x2 x3 x4 x5 x6 x7 x8 x9 x10 x11) (k0_pay163 x0 x1 x2 x3 x4 x5 x6 x7 x8 x9 x10 x11) (k0_pay167 x0 x1 x2 x3 x4 x5 x6 x7 x8 x9 x10 x11) (k0_pay168 x0 x1 x2 x3 x4 x5 x6 x7 x8 x9 x10 x11))) rfl (fun g p h => ?_) inb_S4x32x64x16_S1x32x64x16_3_0_0_0 x
    rw [outIm_apply, c10, c11, q3r, q3i]
    rfl
  rcases List.mem_cons.mp hpc with rfl | hpc
  · refine pieceO (GOi x3 x4 x5 x10 x11) 2 _ (outIm (k0_pay164 (F := Ideal) x0 x1 x2 x3 x4 x5 x6 x7 x8 x9 x10 x11) (k0_pay165 (F := Ideal) x0 x1 x2 x3 x4 x5 x6 x7 x8 x9 x10 x11) (k0_pay167 (F := Ideal) x0 x1 x2 x3 x4 x5 x6 x7 x8 x9 x10 x11) (k0_pay168 (F := Ideal) x0 x1 x2 x3 x4 x5 x6 x7 x8 x9 x10 x11)) rfl (fun g p h => ?_) inb_S4x32x64x16_S1x32x64x16_2_0_0_0 x
    rw [outIm_apply, c10, c11, q2r, q2i]
    rfl
  rcases List.mem_cons.mp hpc with rfl | hpc
  · refine pieceO (GOi x3 x4 x5 x10 x11) 1 _ (outIm (k0_pay164 (F := Ideal) x0 x1 x2 x3 x4 x5 x6 x7 x8 x9 x10 x11) (k0_pay165 (F := Ideal) x0 x1 x2 x3 x4 x5 x6 x7 x8 x9 x10 x11) (k0_pay166 (F := Ideal) x0 x1 x2 x3 x4 x5 x6 x7 x8 x9 x10 x11) (k0_pay128 (F := Ideal) (k0_pay162 x0 x1 x2 x3 x4 x5 x6 x7 x8 x9 x10 x11) (k0_pay163 x0 x1 x2 x3 x4 x5 x6 x7 x8 x9 x10 x11))) rfl (fun g p h => ?_) inb_S4x32x64x16_S1x32x64x16_1_0_0_0 x
    rw [outIm_apply, c10, c11, q1r, q1i]
    rfl
  rcases List.mem_cons.mp hpc with rfl | hpc
  · refine pieceO (GOi x3 x4 x5 x10 x11) 0 _ (outIm (k0_pay164 (F := Ideal) x0 x1 x2 x3 x4 x5 x6 x7 x8 x9 x10 x11) (k0_pay165 (F := Ideal) x0 x1 x2 x3 x4 x5 x6 x7 x8 x9 x10 x11) (k0_pay162 (F := Ideal) x0 x1 x2 x3 x4 x5 x6 x7 x8 x9 x10 x11) (k0_pay163 (F := Ideal) x0 x1 x2 x3 x4 x5 x6 x7 x8 x9 x10 x11)) rfl (fun g p h => ?_) inb_S4x32x64x16_S1x32x64x16_0_0_0_0 x
    rw [outIm_apply, c10, c11, q0r, q0i]
    rfl
  exact absurd hpc (by simp)

/-- The step's fourth power, by part. -/
def at4 (k : Fin 2) (q : EReal × EReal) : EReal := if k.val = 0 then q.1 else q.2
def GA (i : S2x32x1x64.Idx) : EReal := at4 (i 0) (pow (x0 (ix3 (i 1 : Fin 32) 0 (i 3 : Fin 64))) (x1 (ix3 (i 1 : Fin 32) 0 (i 3 : Fin 64))) (x2 (ix3 (i 1 : Fin 32) 0 0)) 3)

theorem out17 (k : Fin 2) (g : Fin 32) (p : Fin 64) :
    out0_17 (F := Ideal) x0 x1 x2 x3 x4 x5 x6 x7 x8 x9 x10 x11 (ix4 k g 0 p) = at4 k (pow (x0 (ix3 g 0 p)) (x1 (ix3 g 0 p)) (x2 (ix3 g 0 0)) 3) := by
  refine Eq.trans ?_ (show GA x0 x1 x2 (ix4 k g 0 p) = _ from rfl)
  unfold out0_17
  refine View.canon_apply_of_pieces (Val := Elt Ideal) (GA x0 x1 x2) _ ?_ (ix4 k g 0 p) (cover0_17 _ _ _)
  intro pc hpc x
  rcases List.mem_cons.mp hpc with rfl | hpc
  · refine pieceA (GA x0 x1 x2) 1 (k0_pay145 (F := Ideal) (k0_pay146 x0 x1 x2 x3 x4 x5 x6 x7 x8 x9 x10 x11) (k0_pay147 x0 x1 x2 x3 x4 x5 x6 x7 x8 x9 x10 x11)) (fun g p => ?_) _ rfl inb_S2x32x1x64_S1x32x1x64_1_0_0_0 x
    rw [a145, v146, v147]
    rfl
  rcases List.mem_cons.mp hpc with rfl | hpc
  · refine pieceA (GA x0 x1 x2) 0 (k0_pay144 (F := Ideal) (k0_pay146 x0 x1 x2 x3 x4 x5 x6 x7 x8 x9 x10 x11) (k0_pay147 x0 x1 x2 x3 x4 x5 x6 x7 x8 x9 x10 x11)) (fun g p => ?_) _ rfl inb_S2x32x1x64_S1x32x1x64_0_0_0_0 x
    rw [a144, v146, v147]
    rfl
  exact absurd hpc (by simp)

end Cert.Kernel6Ideal.Blk
end
-- ==== Proof.Value6.lean ====
/-
  THE S5 PREPARATION'S RESULTS: the arrays the run leaves, at an index, from the arguments as launched.
-/
module
public import proofs.«01_k».proof.Proof.Run6
public import proofs.«01_k».proof.Proof.Block6
@[expose] public section
set_option maxRecDepth 16384
noncomputable section
namespace Cert.Kernel6Ideal.Blk
open Cert.Kernel6Ideal Cert.Kernel6Ideal.Gen Cert.S5 Idealize.ShloMosaic Idealize.ShloMosaic.TcCoe Idealize.SL.Sem Idealize.ShloMosaic.Tactic

theorem ix_0 : ∀ t : Fin cfg0.N, win0_0.index t 0 = 0 ∧ win0_0.index t 1 = 0 ∧ win0_0.index t 2 = 0 :=
  (by decide +kernel : ∀ t : Fin grid0.N, _)
theorem ix_1 : ∀ t : Fin cfg0.N, win0_1.index t 0 = 0 ∧ win0_1.index t 1 = 0 ∧ win0_1.index t 2 = 0 :=
  (by decide +kernel : ∀ t : Fin grid0.N, _)
theorem ix_2 : ∀ t : Fin cfg0.N, win0_2.index t 0 = 0 ∧ win0_2.index t 1 = 0 ∧ win0_2.index t 2 = 0 :=
  (by decide +kernel : ∀ t : Fin grid0.N, _)
theorem ix_3 : ∀ t : Fin cfg0.N, win0_3.index t 0 = 0 ∧ win0_3.index t 1 = 0 ∧ win0_3.index t 2 = 0 :=
  (by decide +kernel : ∀ t : Fin grid0.N, _)
theorem ix_4 : ∀ t : Fin cfg0.N, win0_4.index t 0 = 0 ∧ win0_4.index t 1 = 0 ∧ win0_4.index t 2 = 0 :=
  (by decide +kernel : ∀ t : Fin grid0.N, _)
theorem ix_5 : ∀ t : Fin cfg0.N, win0_5.index t 0 = 0 ∧ win0_5.index t 1 = 0 ∧ win0_5.index t 2 = 0 :=
  (by decide +kernel : ∀ t : Fin grid0.N, _)
theorem ix_6 : ∀ t : Fin cfg0.N, win0_6.index t 0 = 0 ∧ win0_6.index t 1 = 0 ∧ win0_6.index t 2 = 0 :=
  (by decide +kernel : ∀ t : Fin grid0.N, _)
theorem ix_7 : ∀ t : Fin cfg0.N, win0_7.index t 0 = 0 ∧ win0_7.index t 1 = 0 ∧ win0_7.index t 2 = 0 :=
  (by decide +kernel : ∀ t : Fin grid0.N, _)
theorem ix_8 : ∀ t : Fin cfg0.N, win0_8.index t 0 = 0 ∧ win0_8.index t 1 = 0 ∧ win0_8.index t 2 = 0 :=
  (by decide +kernel : ∀ t : Fin grid0.N, _)
theorem ix_9 : ∀ t : Fin cfg0.N, win0_9.index t 0 = 0 ∧ win0_9.index t 1 = 0 ∧ win0_9.index t 2 = 0 :=
  (by decide +kernel : ∀ t : Fin grid0.N, _)
theorem ix_10 : ∀ t : Fin cfg0.N, win0_10.index t 0 = 0 ∧ win0_10.index t 1 = 0 ∧ win0_10.index t 2 = 0 :=
  (by decide +kernel : ∀ t : Fin grid0.N, _)
theorem ix_11 : ∀ t : Fin cfg0.N, win0_11.index t 0 = 0 ∧ win0_11.index t 1 = 0 ∧ win0_11.index t 2 = 0 :=
  (by decide +kernel : ∀ t : Fin grid0.N, _)
theorem ix_12 : ∀ t : Fin cfg0.N, win0_12.index t 0 = 0 ∧ win0_12.index t 1 = 0 ∧ win0_12.index t 2 = 0 ∧ win0_12.index t 3 = 0 :=
  (by decide +kernel : ∀ t : Fin grid0.N, _)
theorem ix_13 : ∀ t : Fin cfg0.N, win0_13.index t 0 = 0 ∧ win0_13.index t 1 = 0 ∧ win0_13.index t 2 = 0 ∧ win0_13.index t 3 = 0 :=
  (by decide +kernel : ∀ t : Fin grid0.N, _)
theorem ix_14 : ∀ t : Fin cfg0.N, win0_14.index t 0 = 0 ∧ win0_14.index t 1 = 0 ∧ win0_14.index t 2 = 0 ∧ win0_14.index t 3 = 0 :=
  (by decide +kernel : ∀ t : Fin grid0.N, _)
theorem ix_15 : ∀ t : Fin cfg0.N, win0_15.index t 0 = 0 ∧ win0_15.index t 1 = 0 ∧ win0_15.index t 2 = 0 ∧ win0_15.index t 3 = 0 :=
  (by decide +kernel : ∀ t : Fin grid0.N, _)
theorem ix_16 : ∀ t : Fin cfg0.N, win0_16.index t 0 = 0 ∧ win0_16.index t 1 = 0 ∧ win0_16.index t 2 = 0 ∧ win0_16.index t 3 = 0 :=
  (by decide +kernel : ∀ t : Fin grid0.N, _)
theorem ix_17 : ∀ t : Fin cfg0.N, win0_17.index t 0 = 0 ∧ win0_17.index t 1 = 0 ∧ win0_17.index t 2 = 0 ∧ win0_17.index t 3 = 0 :=
  (by decide +kernel : ∀ t : Fin grid0.N, _)

variable (m : (ℓ : Loc nD τ sig) → Buf (Elt Ideal) ℓ) (c : Dev nD)

theorem blk0 (t : Fin cfg0.N) (g : Fin 32) (p : Fin 64) : iblk m c 0 t (ix3 g 0 p) = m ((c : Thread nD τ).loc main_arg0) (ix2 g p) := by
  blk_ext! [iblk, V, ix_0 t]
theorem blk1 (t : Fin cfg0.N) (g : Fin 32) (p : Fin 64) : iblk m c 1 t (ix3 g 0 p) = m ((c : Thread nD τ).loc main_arg1) (ix2 g p) := by
  blk_ext! [iblk, V, ix_1 t]
theorem blk2 (t : Fin cfg0.N) (g : Fin 32) : iblk m c 2 t (ix3 g 0 0) = m ((c : Thread nD τ).loc main_arg2) (ix1 g) := by
  blk_ext! [iblk, V, ix_2 t]
theorem blk3 (t : Fin cfg0.N) (g : Fin 32) (p : Fin 64) : iblk m c 3 t (ix3 g p 0) = m ((c : Thread nD τ).loc main_arg0) (ix2 g p) := by
  blk_ext! [iblk, V, ix_3 t]
theorem blk4 (t : Fin cfg0.N) (g : Fin 32) (p : Fin 64) : iblk m c 4 t (ix3 g p 0) = m ((c : Thread nD τ).loc main_arg1) (ix2 g p) := by
  blk_ext! [iblk, V, ix_4 t]
theorem blk5 (t : Fin cfg0.N) (g : Fin 32) : iblk m c 5 t (ix3 g 0 0) = m ((c : Thread nD τ).loc main_arg2) (ix1 g) := by
  blk_ext! [iblk, V, ix_5 t]
theorem blk6 (t : Fin cfg0.N) (g : Fin 32) (y : Fin 16) (p : Fin 64) : iblk m c 6 t (ix3 g y p) = m ((c : Thread nD τ).loc main_arg3) (ix3 g p y) := by
  blk_ext! [iblk, V, ix_6 t]
theorem blk7 (t : Fin cfg0.N) (g : Fin 32) (y : Fin 16) (p : Fin 64) : iblk m c 7 t (ix3 g y p) = m ((c : Thread nD τ).loc main_arg4) (ix3 g p y) := by
  blk_ext! [iblk, V, ix_7 t]
theorem blk8 (t : Fin cfg0.N) (g : Fin 32) (y : Fin 16) (p : Fin 64) : iblk m c 8 t (ix3 g y p) = m ((c : Thread nD τ).loc main_arg5) (ix3 g y p) := by
  blk_ext! [iblk, V, ix_8 t]
theorem blk9 (t : Fin cfg0.N) (g : Fin 32) (y : Fin 16) (p : Fin 64) : iblk m c 9 t (ix3 g y p) = m ((c : Thread nD τ).loc main_arg6) (ix3 g y p) := by
  blk_ext! [iblk, V, ix_9 t]
theorem blk10 (t : Fin cfg0.N) (g : Fin 32) (y : Fin 16) (p : Fin 64) : iblk m c 10 t (ix3 g p y) = m ((c : Thread nD τ).loc main_arg5) (ix3 g y p) := by
  blk_ext! [iblk, V, ix_10 t]
theorem blk11 (t : Fin cfg0.N) (g : Fin 32) (y : Fin 16) (p : Fin 64) : iblk m c 11 t (ix3 g p y) = m ((c : Thread nD τ).loc main_arg6) (ix3 g y p) := by
  blk_ext! [iblk, V, ix_11 t]

theorem read12 (A : Vec Ideal S4x16x32x16 .f32) (t : Fin cfg0.N) (k : Fin 4) (h : Fin 16) (g : Fin 32) (y : Fin 16) : ((cfg0.win 12).blk t).view.read (Elt Ideal) A (ix4 k h g y) = A (ix4 k h g y) := by
  blk_ext [ix_12 t]
theorem read13 (A : Vec Ideal S4x32x16x64 .f32) (t : Fin cfg0.N) (k : Fin 4) (g : Fin 32) (y : Fin 16) (p : Fin 64) : ((cfg0.win 13).blk t).view.read (Elt Ideal) A (ix4 k g y p) = A (ix4 k g y p) := by
  blk_ext [ix_13 t]
theorem read14 (A : Vec Ideal S4x32x16x64 .f32) (t : Fin cfg0.N) (k : Fin 4) (g : Fin 32) (y : Fin 16) (p : Fin 64) : ((cfg0.win 14).blk t).view.read (Elt Ideal) A (ix4 k g y p) = A (ix4 k g y p) := by
  blk_ext [ix_14 t]
theorem read15 (A : Vec Ideal S4x32x64x16 .f32) (t : Fin cfg0.N) (k : Fin 4) (g : Fin 32) (p : Fin 64) (h : Fin 16) : ((cfg0.win 15).blk t).view.read (Elt Ideal) A (ix4 k g p h) = A (ix4 k g p h) := by
  blk_ext [ix_15 t]
theorem read16 (A : Vec Ideal S4x32x64x16 .f32) (t : Fin cfg0.N) (k : Fin 4) (g : Fin 32) (p : Fin 64) (h : Fin 16) : ((cfg0.win 16).blk t).view.read (Elt Ideal) A (ix4 k g p h) = A (ix4 k g p h) := by
  blk_ext [ix_16 t]
theorem read17 (A : Vec Ideal S2x32x1x64 .f32) (t : Fin cfg0.N) (k : Fin 2) (g : Fin 32) (p : Fin 64) : ((cfg0.win 17).blk t).view.read (Elt Ideal) A (ix4 k g 0 p) = A (ix4 k g 0 p) := by
  blk_ext [ix_17 t]

/-- What the arguments make of an input's coefficient after n steps. -/
def aS (n : ℕ) (g : Fin 32) (p : Fin 64) (y : Fin 16) : EReal × EReal :=
  state (m ((c : Thread nD τ).loc main_arg0) (ix2 g p)) (m ((c : Thread nD τ).loc main_arg1) (ix2 g p)) (m ((c : Thread nD τ).loc main_arg2) (ix1 g)) (m ((c : Thread nD τ).loc main_arg3) (ix3 g p y)) (m ((c : Thread nD τ).loc main_arg4) (ix3 g p y)) n
/-- What they make of the step's power n + 1. -/
def aP (n : ℕ) (g : Fin 32) (p : Fin 64) : EReal × EReal := pow (m ((c : Thread nD τ).loc main_arg0) (ix2 g p)) (m ((c : Thread nD τ).loc main_arg1) (ix2 g p)) (m ((c : Thread nD τ).loc main_arg2) (ix1 g)) n

/-- The output coefficients' two parts. -/
def aC (i : S32x16x64.Idx) : EReal := m ((c : Thread nD τ).loc main_arg5) i
def aD (i : S32x16x64.Idx) : EReal := m ((c : Thread nD τ).loc main_arg6) i

theorem S_eq (t : Fin cfg0.N) (n : ℕ) (g : Fin 32) (y : Fin 16) (p : Fin 64) : S (iblk m c 0 t) (iblk m c 1 t) (iblk m c 2 t) (iblk m c 6 t) (iblk m c 7 t) n g y p = aS m c n g p y := by
  unfold S aS
  rw [blk0, blk1, blk2, blk6, blk7]
theorem P_eq (t : Fin cfg0.N) (n : ℕ) (g : Fin 32) (p : Fin 64) : P (iblk m c 3 t) (iblk m c 4 t) (iblk m c 5 t) n g p = aP m c n g p := by
  unfold P aP
  rw [blk3, blk4, blk5]

theorem arr12_apply (k : Fin 4) (h : Fin 16) (g : Fin 32) (y : Fin 16) : (dats m 0 c).arrAt 12 cfg0.N (ix4 k h g y) = ∑ p : Fin 64, (aC m c (ix3 g h p) * (aS m c k.val g p y).1 - aD m c (ix3 g h p) * (aS m c k.val g p y).2) := by
  have ht : 0 < cfg0.N := by
    have hN : cfg0.N = 1 := N_0
    omega
  have key := congrFun (Value.blocks12 m c ⟨0, ht⟩ (flush0_12 _)) (ix4 k h g y)
  rw [read12, Value.flushed12] at key
  refine key.trans ?_
  show out0_12 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k h g y) = _
  rw [out12]
  unfold tap
  simp only [S_eq, blk8, blk9]
  rfl
theorem arr13_apply (k : Fin 4) (g : Fin 32) (y : Fin 16) (p : Fin 64) : (dats m 0 c).arrAt 13 cfg0.N (ix4 k g y p) = (aS m c (3 - k.val) g p y).1 := by
  have ht : 0 < cfg0.N := by
    have hN : cfg0.N = 1 := N_0
    omega
  have key := congrFun (Value.blocks13 m c ⟨0, ht⟩ (flush0_13 _)) (ix4 k g y p)
  rw [read13, Value.flushed13] at key
  refine key.trans ?_
  show out0_13 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k g y p) = _
  rw [out13]
  rw [S_eq]
theorem arr14_apply (k : Fin 4) (g : Fin 32) (y : Fin 16) (p : Fin 64) : (dats m 0 c).arrAt 14 cfg0.N (ix4 k g y p) = (aS m c (3 - k.val) g p y).2 := by
  have ht : 0 < cfg0.N := by
    have hN : cfg0.N = 1 := N_0
    omega
  have key := congrFun (Value.blocks14 m c ⟨0, ht⟩ (flush0_14 _)) (ix4 k g y p)
  rw [read14, Value.flushed14] at key
  refine key.trans ?_
  show out0_14 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k g y p) = _
  rw [out14]
  rw [S_eq]
theorem arr15_apply (k : Fin 4) (g : Fin 32) (p : Fin 64) (h : Fin 16) : (dats m 0 c).arrAt 15 cfg0.N (ix4 k g p h) = aC m c (ix3 g h p) * (aP m c k.val g p).1 - aD m c (ix3 g h p) * (aP m c k.val g p).2 := by
  have ht : 0 < cfg0.N := by
    have hN : cfg0.N = 1 := N_0
    omega
  have key := congrFun (Value.blocks15 m c ⟨0, ht⟩ (flush0_15 _)) (ix4 k g p h)
  rw [read15, Value.flushed15] at key
  refine key.trans ?_
  show out0_15 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k g p h) = _
  rw [out15]
  rw [P_eq, blk10, blk11]
  rfl
theorem arr16_apply (k : Fin 4) (g : Fin 32) (p : Fin 64) (h : Fin 16) : (dats m 0 c).arrAt 16 cfg0.N (ix4 k g p h) = -aC m c (ix3 g h p) * (aP m c k.val g p).2 - aD m c (ix3 g h p) * (aP m c k.val g p).1 := by
  have ht : 0 < cfg0.N := by
    have hN : cfg0.N = 1 := N_0
    omega
  have key := congrFun (Value.blocks16 m c ⟨0, ht⟩ (flush0_16 _)) (ix4 k g p h)
  rw [read16, Value.flushed16] at key
  refine key.trans ?_
  show out0_16 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k g p h) = _
  rw [out16]
  rw [P_eq, blk10, blk11]
  rfl
theorem arr17_apply (k : Fin 2) (g : Fin 32) (p : Fin 64) : (dats m 0 c).arrAt 17 cfg0.N (ix4 k g 0 p) = if k.val = 0 then (aP m c 3 g p).1 else (aP m c 3 g p).2 := by
  have ht : 0 < cfg0.N := by
    have hN : cfg0.N = 1 := N_0
    omega
  have key := congrFun (Value.blocks17 m c ⟨0, ht⟩ (flush0_17 _)) (ix4 k g 0 p)
  rw [read17, Value.flushed17] at key
  refine key.trans ?_
  show out0_17 (F := Ideal) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) (iblk m c 8 ⟨0, ht⟩) (iblk m c 9 ⟨0, ht⟩) (iblk m c 10 ⟨0, ht⟩) (iblk m c 11 ⟨0, ht⟩) (ix4 k g 0 p) = _
  rw [out17]
  rw [blk0, blk1, blk2]
  rfl

end Cert.Kernel6Ideal.Blk
end
-- ==== Proof.Ref6.lean ====
/-
  THE REFERENCE OF THE S5 PREPARATION READ AT AN INDEX: the discretised step, the states of an input's coefficient, the step's
  powers, and the six results they make.
-/
module
public import proofs.«01_k».proof.Proof.Gen.Reference6Ideal.Read
public import proofs.«01_k».proof.Proof.Spec6
public import Idealize.ShloMosaic.Lib.Pointwise
public import Idealize.ShloMosaic.Lib.Pointwise.Tactic
@[expose] public section
set_option maxRecDepth 16384
noncomputable section
namespace Cert.Reference6Ideal.Rd
open Cert.Reference6Ideal Cert.Reference6Ideal.Read Cert.S5 Idealize.ShloMosaic Idealize.ShloMosaic.TcCoe Idealize.SL.Sem Idealize.ShloMosaic.Tactic

variable (x0 x1 : (⟨S32x64, .f32⟩ : BufTy).Contents (Elt Ideal)) (x2 : (⟨S32, .f32⟩ : BufTy).Contents (Elt Ideal))
  (x3 x4 : (⟨S32x64x16, .f32⟩ : BufTy).Contents (Elt Ideal)) (x5 x6 : (⟨S32x16x64, .f32⟩ : BufTy).Contents (Elt Ideal))

theorem v8 (g : Fin 32) (p : Fin 64) : val_main_v8 x0 x1 x2 (ix2 g p) = aRe (x0 (ix2 g p)) (x1 (ix2 g p)) (x2 (ix1 g)) := by
  unfold aRe
  pointwise [val_main_v8, val_main_v7, val_main_v6, val_main_v5, val_main_v4, val_main_v3, val_main_v2, val_main_v1, val_main_v0]
theorem v12 (g : Fin 32) (p : Fin 64) : val_main_v12 x0 x1 x2 (ix2 g p) = aIm (x0 (ix2 g p)) (x1 (ix2 g p)) (x2 (ix1 g)) := by
  unfold aIm
  pointwise [val_main_v12, val_main_v11, val_main_v10, val_main_v9, val_main_v4, val_main_v3, val_main_v2, val_main_v1, val_main_v0]
theorem v21 (g : Fin 32) (p : Fin 64) : val_main_v21 x0 x1 x2 (ix2 g p) = coefRe (x0 (ix2 g p)) (x1 (ix2 g p)) (x2 (ix1 g)) := by
  unfold coefRe
  rw [← v8, ← v12]
  unfold val_main_v21 val_main_v20 val_main_v19 val_main_v18 val_main_v17
  generalize val_main_v8 x0 x1 x2 = u
  generalize val_main_v12 x0 x1 x2 = v
  pointwise [val_main_v16, val_main_cst, val_main_v15, val_main_v14, val_main_v13]
theorem v25 (g : Fin 32) (p : Fin 64) : val_main_v25 x0 x1 x2 (ix2 g p) = coefIm (x0 (ix2 g p)) (x1 (ix2 g p)) (x2 (ix1 g)) := by
  unfold coefIm
  rw [← v8, ← v12]
  unfold val_main_v25 val_main_v24 val_main_v23 val_main_v22 val_main_v17
  generalize val_main_v8 x0 x1 x2 = u
  generalize val_main_v12 x0 x1 x2 = v
  pointwise [val_main_v16, val_main_cst, val_main_v15, val_main_v14, val_main_v13]

/-- The state of input y of group g after n steps. -/
def S (n : ℕ) (g : Fin 32) (p : Fin 64) (y : Fin 16) : EReal × EReal :=
  state (x0 (ix2 g p)) (x1 (ix2 g p)) (x2 (ix1 g)) (x3 (ix3 g p y)) (x4 (ix3 g p y)) n
/-- The step's power n + 1. -/
def P (n : ℕ) (g : Fin 32) (p : Fin 64) : EReal × EReal := pow (x0 (ix2 g p)) (x1 (ix2 g p)) (x2 (ix1 g)) n

theorem s0r (g : Fin 32) (p : Fin 64) (y : Fin 16) : val_main_v32 x0 x1 x2 x3 x4 (ix3 g p y) = (S x0 x1 x2 x3 x4 0 g p y).1 := by
  show _ = mulRe _ _ _ _
  rw [← v21, ← v25]
  unfold mulRe val_main_v32 val_main_v31 val_main_v30 val_main_v29 val_main_v28 val_main_v27 val_main_v26
  generalize val_main_v21 x0 x1 x2 = u
  generalize val_main_v25 x0 x1 x2 = v
  pointwise
theorem s0i (g : Fin 32) (p : Fin 64) (y : Fin 16) : val_main_v39 x0 x1 x2 x3 x4 (ix3 g p y) = (S x0 x1 x2 x3 x4 0 g p y).2 := by
  show _ = mulIm _ _ _ _
  rw [← v21, ← v25]
  unfold mulIm val_main_v39 val_main_v38 val_main_v37 val_main_v36 val_main_v35 val_main_v34 val_main_v33
  generalize val_main_v21 x0 x1 x2 = u
  generalize val_main_v25 x0 x1 x2 = v
  pointwise
theorem s1r (g : Fin 32) (p : Fin 64) (y : Fin 16) : val_main_v58 x0 x1 x2 x3 x4 (ix3 g p y) = (S x0 x1 x2 x3 x4 1 g p y).1 := by
  show _ = mulRe _ _ (S x0 x1 x2 x3 x4 0 g p y).1 (S x0 x1 x2 x3 x4 0 g p y).2
  rw [← v8, ← v12, ← s0r, ← s0i]
  unfold mulRe val_main_v58 val_main_v57 val_main_v56 val_main_v55 val_main_v54 val_main_v53 val_main_v52
  generalize val_main_v8 x0 x1 x2 = u
  generalize val_main_v12 x0 x1 x2 = v
  generalize val_main_v32 x0 x1 x2 x3 x4 = z
  generalize val_main_v39 x0 x1 x2 x3 x4 = w
  pointwise
theorem s1i (g : Fin 32) (p : Fin 64) (y : Fin 16) : val_main_v65 x0 x1 x2 x3 x4 (ix3 g p y) = (S x0 x1 x2 x3 x4 1 g p y).2 := by
  show _ = mulIm _ _ (S x0 x1 x2 x3 x4 0 g p y).1 (S x0 x1 x2 x3 x4 0 g p y).2
  rw [← v8, ← v12, ← s0r, ← s0i]
  unfold mulIm val_main_v65 val_main_v64 val_main_v63 val_main_v62 val_main_v61 val_main_v60 val_main_v59
  generalize val_main_v8 x0 x1 x2 = u
  generalize val_main_v12 x0 x1 x2 = v
  generalize val_main_v32 x0 x1 x2 x3 x4 = z
  generalize val_main_v39 x0 x1 x2 x3 x4 = w
  pointwise
theorem s2r (g : Fin 32) (p : Fin 64) (y : Fin 16) : val_main_v105 x0 x1 x2 x3 x4 (ix3 g p y) = (S x0 x1 x2 x3 x4 2 g p y).1 := by
  show _ = mulRe _ _ (S x0 x1 x2 x3 x4 1 g p y).1 (S x0 x1 x2 x3 x4 1 g p y).2
  rw [← v8, ← v12, ← s1r, ← s1i]
  unfold mulRe val_main_v105 val_main_v104 val_main_v103 val_main_v102 val_main_v101 val_main_v100 val_main_v99
  generalize val_main_v8 x0 x1 x2 = u
  generalize val_main_v12 x0 x1 x2 = v
  generalize val_main_v58 x0 x1 x2 x3 x4 = z
  generalize val_main_v65 x0 x1 x2 x3 x4 = w
  pointwise
theorem s2i (g : Fin 32) (p : Fin 64) (y : Fin 16) : val_main_v112 x0 x1 x2 x3 x4 (ix3 g p y) = (S x0 x1 x2 x3 x4 2 g p y).2 := by
  show _ = mulIm _ _ (S x0 x1 x2 x3 x4 1 g p y).1 (S x0 x1 x2 x3 x4 1 g p y).2
  rw [← v8, ← v12, ← s1r, ← s1i]
  unfold mulIm val_main_v112 val_main_v111 val_main_v110 val_main_v109 val_main_v108 val_main_v107 val_main_v106
  generalize val_main_v8 x0 x1 x2 = u
  generalize val_main_v12 x0 x1 x2 = v
  generalize val_main_v58 x0 x1 x2 x3 x4 = z
  generalize val_main_v65 x0 x1 x2 x3 x4 = w
  pointwise
theorem s3r (g : Fin 32) (p : Fin 64) (y : Fin 16) : val_main_v152 x0 x1 x2 x3 x4 (ix3 g p y) = (S x0 x1 x2 x3 x4 3 g p y).1 := by
  show _ = mulRe _ _ (S x0 x1 x2 x3 x4 2 g p y).1 (S x0 x1 x2 x3 x4 2 g p y).2
  rw [← v8, ← v12, ← s2r, ← s2i]
  unfold mulRe val_main_v152 val_main_v151 val_main_v150 val_main_v149 val_main_v148 val_main_v147 val_main_v146
  generalize val_main_v8 x0 x1 x2 = u
  generalize val_main_v12 x0 x1 x2 = v
  generalize val_main_v105 x0 x1 x2 x3 x4 = z
  generalize val_main_v112 x0 x1 x2 x3 x4 = w
  pointwise
theorem s3i (g : Fin 32) (p : Fin 64) (y : Fin 16) : val_main_v159 x0 x1 x2 x3 x4 (ix3 g p y) = (S x0 x1 x2 x3 x4 3 g p y).2 := by
  show _ = mulIm _ _ (S x0 x1 x2 x3 x4 2 g p y).1 (S x0 x1 x2 x3 x4 2 g p y).2
  rw [← v8, ← v12, ← s2r, ← s2i]
  unfold mulIm val_main_v159 val_main_v158 val_main_v157 val_main_v156 val_main_v155 val_main_v154 val_main_v153
  generalize val_main_v8 x0 x1 x2 = u
  generalize val_main_v12 x0 x1 x2 = v
  generalize val_main_v105 x0 x1 x2 x3 x4 = z
  generalize val_main_v112 x0 x1 x2 x3 x4 = w
  pointwise
theorem p0r (g : Fin 32) (p : Fin 64) : val_main_v8 x0 x1 x2 (ix2 g p) = (P x0 x1 x2 0 g p).1 := v8 x0 x1 x2 g p
theorem p0i (g : Fin 32) (p : Fin 64) : val_main_v12 x0 x1 x2 (ix2 g p) = (P x0 x1 x2 0 g p).2 := v12 x0 x1 x2 g p
theorem p1r (g : Fin 32) (p : Fin 64) : val_main_v83 x0 x1 x2 (ix2 g p) = (P x0 x1 x2 1 g p).1 := by
  show _ = mulRe _ _ (P x0 x1 x2 0 g p).1 (P x0 x1 x2 0 g p).2
  rw [← p0r, ← p0i, ← v8, ← v12]
  unfold mulRe val_main_v83 val_main_v82 val_main_v81
  generalize val_main_v8 x0 x1 x2 = u
  generalize val_main_v12 x0 x1 x2 = v
  pointwise
theorem p1i (g : Fin 32) (p : Fin 64) : val_main_v86 x0 x1 x2 (ix2 g p) = (P x0 x1 x2 1 g p).2 := by
  show _ = mulIm _ _ (P x0 x1 x2 0 g p).1 (P x0 x1 x2 0 g p).2
  rw [← p0r, ← p0i, ← v8, ← v12]
  unfold mulIm val_main_v86 val_main_v85 val_main_v84
  generalize val_main_v8 x0 x1 x2 = u
  generalize val_main_v12 x0 x1 x2 = v
  pointwise
theorem p2r (g : Fin 32) (p : Fin 64) : val_main_v130 x0 x1 x2 (ix2 g p) = (P x0 x1 x2 2 g p).1 := by
  show _ = mulRe _ _ (P x0 x1 x2 1 g p).1 (P x0 x1 x2 1 g p).2
  rw [← p1r, ← p1i, ← v8, ← v12]
  unfold mulRe val_main_v130 val_main_v129 val_main_v128
  generalize val_main_v8 x0 x1 x2 = u
  generalize val_main_v12 x0 x1 x2 = v
  generalize val_main_v83 x0 x1 x2 = z
  generalize val_main_v86 x0 x1 x2 = w
  pointwise
theorem p2i (g : Fin 32) (p : Fin 64) : val_main_v133 x0 x1 x2 (ix2 g p) = (P x0 x1 x2 2 g p).2 := by
  show _ = mulIm _ _ (P x0 x1 x2 1 g p).1 (P x0 x1 x2 1 g p).2
  rw [← p1r, ← p1i, ← v8, ← v12]
  unfold mulIm val_main_v133 val_main_v132 val_main_v131
  generalize val_main_v8 x0 x1 x2 = u
  generalize val_main_v12 x0 x1 x2 = v
  generalize val_main_v83 x0 x1 x2 = z
  generalize val_main_v86 x0 x1 x2 = w
  pointwise
theorem p3r (g : Fin 32) (p : Fin 64) : val_main_v177 x0 x1 x2 (ix2 g p) = (P x0 x1 x2 3 g p).1 := by
  show _ = mulRe _ _ (P x0 x1 x2 2 g p).1 (P x0 x1 x2 2 g p).2
  rw [← p2r, ← p2i, ← v8, ← v12]
  unfold mulRe val_main_v177 val_main_v176 val_main_v175
  generalize val_main_v8 x0 x1 x2 = u
  generalize val_main_v12 x0 x1 x2 = v
  generalize val_main_v130 x0 x1 x2 = z
  generalize val_main_v133 x0 x1 x2 = w
  pointwise
theorem p3i (g : Fin 32) (p : Fin 64) : val_main_v180 x0 x1 x2 (ix2 g p) = (P x0 x1 x2 3 g p).2 := by
  show _ = mulIm _ _ (P x0 x1 x2 2 g p).1 (P x0 x1 x2 2 g p).2
  rw [← p2r, ← p2i, ← v8, ← v12]
  unfold mulIm val_main_v180 val_main_v179 val_main_v178
  generalize val_main_v8 x0 x1 x2 = u
  generalize val_main_v12 x0 x1 x2 = v
  generalize val_main_v130 x0 x1 x2 = z
  generalize val_main_v133 x0 x1 x2 = w
  pointwise
theorem t0 (g : Fin 32) (h y : Fin 16) : val_main_v51 x0 x1 x2 x3 x4 x5 x6 (ix3 g h y) =
    ∑ p : Fin 64, (x5 (ix3 g h p) * (S x0 x1 x2 x3 x4 0 g p y).1 - x6 (ix3 g h p) * (S x0 x1 x2 x3 x4 0 g p y).2) := by
  simp only [← s0r, ← s0i]
  unfold val_main_v51 val_main_v50 val_main_v49 val_main_v48 val_main_v47 val_main_v46 val_main_v45 val_main_v44 val_main_v43 val_main_v42 val_main_v41 val_main_v40
  generalize val_main_v32 x0 x1 x2 x3 x4 = z
  generalize val_main_v39 x0 x1 x2 x3 x4 = w
  pointwise [val_main_cst_0]
theorem t1 (g : Fin 32) (h y : Fin 16) : val_main_v98 x0 x1 x2 x3 x4 x5 x6 (ix3 g h y) =
    ∑ p : Fin 64, (x5 (ix3 g h p) * (S x0 x1 x2 x3 x4 1 g p y).1 - x6 (ix3 g h p) * (S x0 x1 x2 x3 x4 1 g p y).2) := by
  simp only [← s1r, ← s1i]
  unfold val_main_v98 val_main_v97 val_main_v96 val_main_v95 val_main_v94 val_main_v93 val_main_v92 val_main_v91 val_main_v90 val_main_v89 val_main_v88 val_main_v87
  generalize val_main_v58 x0 x1 x2 x3 x4 = z
  generalize val_main_v65 x0 x1 x2 x3 x4 = w
  pointwise [val_main_cst_1]
theorem t2 (g : Fin 32) (h y : Fin 16) : val_main_v145 x0 x1 x2 x3 x4 x5 x6 (ix3 g h y) =
    ∑ p : Fin 64, (x5 (ix3 g h p) * (S x0 x1 x2 x3 x4 2 g p y).1 - x6 (ix3 g h p) * (S x0 x1 x2 x3 x4 2 g p y).2) := by
  simp only [← s2r, ← s2i]
  unfold val_main_v145 val_main_v144 val_main_v143 val_main_v142 val_main_v141 val_main_v140 val_main_v139 val_main_v138 val_main_v137 val_main_v136 val_main_v135 val_main_v134
  generalize val_main_v105 x0 x1 x2 x3 x4 = z
  generalize val_main_v112 x0 x1 x2 x3 x4 = w
  pointwise [val_main_cst_2]
theorem t3 (g : Fin 32) (h y : Fin 16) : val_main_v192 x0 x1 x2 x3 x4 x5 x6 (ix3 g h y) =
    ∑ p : Fin 64, (x5 (ix3 g h p) * (S x0 x1 x2 x3 x4 3 g p y).1 - x6 (ix3 g h p) * (S x0 x1 x2 x3 x4 3 g p y).2) := by
  simp only [← s3r, ← s3i]
  unfold val_main_v192 val_main_v191 val_main_v190 val_main_v189 val_main_v188 val_main_v187 val_main_v186 val_main_v185 val_main_v184 val_main_v183 val_main_v182 val_main_v181
  generalize val_main_v152 x0 x1 x2 x3 x4 = z
  generalize val_main_v159 x0 x1 x2 x3 x4 = w
  pointwise [val_main_cst_3]
theorem o0r (g : Fin 32) (h : Fin 16) (p : Fin 64) : val_main_v72 x0 x1 x2 x5 x6 (ix3 g h p) =
    x5 (ix3 g h p) * (P x0 x1 x2 0 g p).1 - x6 (ix3 g h p) * (P x0 x1 x2 0 g p).2 := by
  simp only [← p0r, ← p0i]
  unfold val_main_v72 val_main_v71 val_main_v70 val_main_v69 val_main_v68 val_main_v67 val_main_v66
  generalize val_main_v8 x0 x1 x2 = z
  generalize val_main_v12 x0 x1 x2 = w
  pointwise
theorem o0i (g : Fin 32) (h : Fin 16) (p : Fin 64) : val_main_v80 x0 x1 x2 x5 x6 (ix3 g h p) =
    -x5 (ix3 g h p) * (P x0 x1 x2 0 g p).2 - x6 (ix3 g h p) * (P x0 x1 x2 0 g p).1 := by
  simp only [← p0r, ← p0i]
  unfold val_main_v80 val_main_v79 val_main_v78 val_main_v77 val_main_v76 val_main_v75 val_main_v74 val_main_v73
  generalize val_main_v8 x0 x1 x2 = z
  generalize val_main_v12 x0 x1 x2 = w
  pointwise
theorem o1r (g : Fin 32) (h : Fin 16) (p : Fin 64) : val_main_v119 x0 x1 x2 x5 x6 (ix3 g h p) =
    x5 (ix3 g h p) * (P x0 x1 x2 1 g p).1 - x6 (ix3 g h p) * (P x0 x1 x2 1 g p).2 := by
  simp only [← p1r, ← p1i]
  unfold val_main_v119 val_main_v118 val_main_v117 val_main_v116 val_main_v115 val_main_v114 val_main_v113
  generalize val_main_v83 x0 x1 x2 = z
  generalize val_main_v86 x0 x1 x2 = w
  pointwise
theorem o1i (g : Fin 32) (h : Fin 16) (p : Fin 64) : val_main_v127 x0 x1 x2 x5 x6 (ix3 g h p) =
    -x5 (ix3 g h p) * (P x0 x1 x2 1 g p).2 - x6 (ix3 g h p) * (P x0 x1 x2 1 g p).1 := by
  simp only [← p1r, ← p1i]
  unfold val_main_v127 val_main_v126 val_main_v125 val_main_v124 val_main_v123 val_main_v122 val_main_v121 val_main_v120
  generalize val_main_v83 x0 x1 x2 = z
  generalize val_main_v86 x0 x1 x2 = w
  pointwise
theorem o2r (g : Fin 32) (h : Fin 16) (p : Fin 64) : val_main_v166 x0 x1 x2 x5 x6 (ix3 g h p) =
    x5 (ix3 g h p) * (P x0 x1 x2 2 g p).1 - x6 (ix3 g h p) * (P x0 x1 x2 2 g p).2 := by
  simp only [← p2r, ← p2i]
  unfold val_main_v166 val_main_v165 val_main_v164 val_main_v163 val_main_v162 val_main_v161 val_main_v160
  generalize val_main_v130 x0 x1 x2 = z
  generalize val_main_v133 x0 x1 x2 = w
  pointwise
theorem o2i (g : Fin 32) (h : Fin 16) (p : Fin 64) : val_main_v174 x0 x1 x2 x5 x6 (ix3 g h p) =
    -x5 (ix3 g h p) * (P x0 x1 x2 2 g p).2 - x6 (ix3 g h p) * (P x0 x1 x2 2 g p).1 := by
  simp only [← p2r, ← p2i]
  unfold val_main_v174 val_main_v173 val_main_v172 val_main_v171 val_main_v170 val_main_v169 val_main_v168 val_main_v167
  generalize val_main_v130 x0 x1 x2 = z
  generalize val_main_v133 x0 x1 x2 = w
  pointwise
theorem o3r (g : Fin 32) (h : Fin 16) (p : Fin 64) : val_main_v213 x0 x1 x2 x5 x6 (ix3 g h p) =
    x5 (ix3 g h p) * (P x0 x1 x2 3 g p).1 - x6 (ix3 g h p) * (P x0 x1 x2 3 g p).2 := by
  simp only [← p3r, ← p3i]
  unfold val_main_v213 val_main_v212 val_main_v211 val_main_v210 val_main_v209 val_main_v208 val_main_v207
  generalize val_main_v177 x0 x1 x2 = z
  generalize val_main_v180 x0 x1 x2 = w
  pointwise
theorem o3i (g : Fin 32) (h : Fin 16) (p : Fin 64) : val_main_v221 x0 x1 x2 x5 x6 (ix3 g h p) =
    -x5 (ix3 g h p) * (P x0 x1 x2 3 g p).2 - x6 (ix3 g h p) * (P x0 x1 x2 3 g p).1 := by
  simp only [← p3r, ← p3i]
  unfold val_main_v221 val_main_v220 val_main_v219 val_main_v218 val_main_v217 val_main_v216 val_main_v215 val_main_v214
  generalize val_main_v177 x0 x1 x2 = z
  generalize val_main_v180 x0 x1 x2 = w
  pointwise

/-! ## The six results -/

theorem r227 (k : Fin 4) (h : Fin 16) (g : Fin 32) (y : Fin 16) : val_main_v227 x0 x1 x2 x3 x4 x5 x6 (ix4 k h g y) = ∑ p : Fin 64, (x5 (ix3 g h p) * (S x0 x1 x2 x3 x4 k.val g p y).1 - x6 (ix3 g h p) * (S x0 x1 x2 x3 x4 k.val g p y).2) := by
  fin_cases k
  · refine Eq.trans ?_ (t0 x0 x1 x2 x3 x4 x5 x6 g h y)
    unfold val_main_v227 val_main_v226 val_main_v222 val_main_v223 val_main_v224 val_main_v225
    generalize val_main_v51 x0 x1 x2 x3 x4 x5 x6 = y0
    generalize val_main_v98 x0 x1 x2 x3 x4 x5 x6 = y1
    generalize val_main_v145 x0 x1 x2 x3 x4 x5 x6 = y2
    generalize val_main_v192 x0 x1 x2 x3 x4 x5 x6 = y3
    pointwise
  · refine Eq.trans ?_ (t1 x0 x1 x2 x3 x4 x5 x6 g h y)
    unfold val_main_v227 val_main_v226 val_main_v222 val_main_v223 val_main_v224 val_main_v225
    generalize val_main_v51 x0 x1 x2 x3 x4 x5 x6 = y0
    generalize val_main_v98 x0 x1 x2 x3 x4 x5 x6 = y1
    generalize val_main_v145 x0 x1 x2 x3 x4 x5 x6 = y2
    generalize val_main_v192 x0 x1 x2 x3 x4 x5 x6 = y3
    pointwise
  · refine Eq.trans ?_ (t2 x0 x1 x2 x3 x4 x5 x6 g h y)
    unfold val_main_v227 val_main_v226 val_main_v222 val_main_v223 val_main_v224 val_main_v225
    generalize val_main_v51 x0 x1 x2 x3 x4 x5 x6 = y0
    generalize val_main_v98 x0 x1 x2 x3 x4 x5 x6 = y1
    generalize val_main_v145 x0 x1 x2 x3 x4 x5 x6 = y2
    generalize val_main_v192 x0 x1 x2 x3 x4 x5 x6 = y3
    pointwise
  · refine Eq.trans ?_ (t3 x0 x1 x2 x3 x4 x5 x6 g h y)
    unfold val_main_v227 val_main_v226 val_main_v222 val_main_v223 val_main_v224 val_main_v225
    generalize val_main_v51 x0 x1 x2 x3 x4 x5 x6 = y0
    generalize val_main_v98 x0 x1 x2 x3 x4 x5 x6 = y1
    generalize val_main_v145 x0 x1 x2 x3 x4 x5 x6 = y2
    generalize val_main_v192 x0 x1 x2 x3 x4 x5 x6 = y3
    pointwise
theorem r233 (k : Fin 4) (g : Fin 32) (y : Fin 16) (p : Fin 64) : val_main_v233 x0 x1 x2 x3 x4 (ix4 k g y p) = (S x0 x1 x2 x3 x4 (3 - k.val) g p y).1 := by
  fin_cases k
  · refine Eq.trans ?_ (s3r x0 x1 x2 x3 x4 g p y)
    unfold val_main_v233 val_main_v232 val_main_v228 val_main_v229 val_main_v230 val_main_v231
    generalize val_main_v152 x0 x1 x2 x3 x4 = y0
    generalize val_main_v105 x0 x1 x2 x3 x4 = y1
    generalize val_main_v58 x0 x1 x2 x3 x4 = y2
    generalize val_main_v32 x0 x1 x2 x3 x4 = y3
    pointwise
  · refine Eq.trans ?_ (s2r x0 x1 x2 x3 x4 g p y)
    unfold val_main_v233 val_main_v232 val_main_v228 val_main_v229 val_main_v230 val_main_v231
    generalize val_main_v152 x0 x1 x2 x3 x4 = y0
    generalize val_main_v105 x0 x1 x2 x3 x4 = y1
    generalize val_main_v58 x0 x1 x2 x3 x4 = y2
    generalize val_main_v32 x0 x1 x2 x3 x4 = y3
    pointwise
  · refine Eq.trans ?_ (s1r x0 x1 x2 x3 x4 g p y)
    unfold val_main_v233 val_main_v232 val_main_v228 val_main_v229 val_main_v230 val_main_v231
    generalize val_main_v152 x0 x1 x2 x3 x4 = y0
    generalize val_main_v105 x0 x1 x2 x3 x4 = y1
    generalize val_main_v58 x0 x1 x2 x3 x4 = y2
    generalize val_main_v32 x0 x1 x2 x3 x4 = y3
    pointwise
  · refine Eq.trans ?_ (s0r x0 x1 x2 x3 x4 g p y)
    unfold val_main_v233 val_main_v232 val_main_v228 val_main_v229 val_main_v230 val_main_v231
    generalize val_main_v152 x0 x1 x2 x3 x4 = y0
    generalize val_main_v105 x0 x1 x2 x3 x4 = y1
    generalize val_main_v58 x0 x1 x2 x3 x4 = y2
    generalize val_main_v32 x0 x1 x2 x3 x4 = y3
    pointwise
theorem r239 (k : Fin 4) (g : Fin 32) (y : Fin 16) (p : Fin 64) : val_main_v239 x0 x1 x2 x3 x4 (ix4 k g y p) = (S x0 x1 x2 x3 x4 (3 - k.val) g p y).2 := by
  fin_cases k
  · refine Eq.trans ?_ (s3i x0 x1 x2 x3 x4 g p y)
    unfold val_main_v239 val_main_v238 val_main_v234 val_main_v235 val_main_v236 val_main_v237
    generalize val_main_v159 x0 x1 x2 x3 x4 = y0
    generalize val_main_v112 x0 x1 x2 x3 x4 = y1
    generalize val_main_v65 x0 x1 x2 x3 x4 = y2
    generalize val_main_v39 x0 x1 x2 x3 x4 = y3
    pointwise
  · refine Eq.trans ?_ (s2i x0 x1 x2 x3 x4 g p y)
    unfold val_main_v239 val_main_v238 val_main_v234 val_main_v235 val_main_v236 val_main_v237
    generalize val_main_v159 x0 x1 x2 x3 x4 = y0
    generalize val_main_v112 x0 x1 x2 x3 x4 = y1
    generalize val_main_v65 x0 x1 x2 x3 x4 = y2
    generalize val_main_v39 x0 x1 x2 x3 x4 = y3
    pointwise
  · refine Eq.trans ?_ (s1i x0 x1 x2 x3 x4 g p y)
    unfold val_main_v239 val_main_v238 val_main_v234 val_main_v235 val_main_v236 val_main_v237
    generalize val_main_v159 x0 x1 x2 x3 x4 = y0
    generalize val_main_v112 x0 x1 x2 x3 x4 = y1
    generalize val_main_v65 x0 x1 x2 x3 x4 = y2
    generalize val_main_v39 x0 x1 x2 x3 x4 = y3
    pointwise
  · refine Eq.trans ?_ (s0i x0 x1 x2 x3 x4 g p y)
    unfold val_main_v239 val_main_v238 val_main_v234 val_main_v235 val_main_v236 val_main_v237
    generalize val_main_v159 x0 x1 x2 x3 x4 = y0
    generalize val_main_v112 x0 x1 x2 x3 x4 = y1
    generalize val_main_v65 x0 x1 x2 x3 x4 = y2
    generalize val_main_v39 x0 x1 x2 x3 x4 = y3
    pointwise
theorem r245 (k : Fin 4) (g : Fin 32) (p : Fin 64) (h : Fin 16) : val_main_v245 x0 x1 x2 x5 x6 (ix4 k g p h) = x5 (ix3 g h p) * (P x0 x1 x2 k.val g p).1 - x6 (ix3 g h p) * (P x0 x1 x2 k.val g p).2 := by
  fin_cases k
  · refine Eq.trans ?_ (o0r x0 x1 x2 x5 x6 g h p)
    unfold val_main_v245 val_main_v244 val_main_v240 val_main_v241 val_main_v242 val_main_v243
    generalize val_main_v72 x0 x1 x2 x5 x6 = y0
    generalize val_main_v119 x0 x1 x2 x5 x6 = y1
    generalize val_main_v166 x0 x1 x2 x5 x6 = y2
    generalize val_main_v213 x0 x1 x2 x5 x6 = y3
    pointwise
  · refine Eq.trans ?_ (o1r x0 x1 x2 x5 x6 g h p)
    unfold val_main_v245 val_main_v244 val_main_v240 val_main_v241 val_main_v242 val_main_v243
    generalize val_main_v72 x0 x1 x2 x5 x6 = y0
    generalize val_main_v119 x0 x1 x2 x5 x6 = y1
    generalize val_main_v166 x0 x1 x2 x5 x6 = y2
    generalize val_main_v213 x0 x1 x2 x5 x6 = y3
    pointwise
  · refine Eq.trans ?_ (o2r x0 x1 x2 x5 x6 g h p)
    unfold val_main_v245 val_main_v244 val_main_v240 val_main_v241 val_main_v242 val_main_v243
    generalize val_main_v72 x0 x1 x2 x5 x6 = y0
    generalize val_main_v119 x0 x1 x2 x5 x6 = y1
    generalize val_main_v166 x0 x1 x2 x5 x6 = y2
    generalize val_main_v213 x0 x1 x2 x5 x6 = y3
    pointwise
  · refine Eq.trans ?_ (o3r x0 x1 x2 x5 x6 g h p)
    unfold val_main_v245 val_main_v244 val_main_v240 val_main_v241 val_main_v242 val_main_v243
    generalize val_main_v72 x0 x1 x2 x5 x6 = y0
    generalize val_main_v119 x0 x1 x2 x5 x6 = y1
    generalize val_main_v166 x0 x1 x2 x5 x6 = y2
    generalize val_main_v213 x0 x1 x2 x5 x6 = y3
    pointwise
theorem r251 (k : Fin 4) (g : Fin 32) (p : Fin 64) (h : Fin 16) : val_main_v251 x0 x1 x2 x5 x6 (ix4 k g p h) = -x5 (ix3 g h p) * (P x0 x1 x2 k.val g p).2 - x6 (ix3 g h p) * (P x0 x1 x2 k.val g p).1 := by
  fin_cases k
  · refine Eq.trans ?_ (o0i x0 x1 x2 x5 x6 g h p)
    unfold val_main_v251 val_main_v250 val_main_v246 val_main_v247 val_main_v248 val_main_v249
    generalize val_main_v80 x0 x1 x2 x5 x6 = y0
    generalize val_main_v127 x0 x1 x2 x5 x6 = y1
    generalize val_main_v174 x0 x1 x2 x5 x6 = y2
    generalize val_main_v221 x0 x1 x2 x5 x6 = y3
    pointwise
  · refine Eq.trans ?_ (o1i x0 x1 x2 x5 x6 g h p)
    unfold val_main_v251 val_main_v250 val_main_v246 val_main_v247 val_main_v248 val_main_v249
    generalize val_main_v80 x0 x1 x2 x5 x6 = y0
    generalize val_main_v127 x0 x1 x2 x5 x6 = y1
    generalize val_main_v174 x0 x1 x2 x5 x6 = y2
    generalize val_main_v221 x0 x1 x2 x5 x6 = y3
    pointwise
  · refine Eq.trans ?_ (o2i x0 x1 x2 x5 x6 g h p)
    unfold val_main_v251 val_main_v250 val_main_v246 val_main_v247 val_main_v248 val_main_v249
    generalize val_main_v80 x0 x1 x2 x5 x6 = y0
    generalize val_main_v127 x0 x1 x2 x5 x6 = y1
    generalize val_main_v174 x0 x1 x2 x5 x6 = y2
    generalize val_main_v221 x0 x1 x2 x5 x6 = y3
    pointwise
  · refine Eq.trans ?_ (o3i x0 x1 x2 x5 x6 g h p)
    unfold val_main_v251 val_main_v250 val_main_v246 val_main_v247 val_main_v248 val_main_v249
    generalize val_main_v80 x0 x1 x2 x5 x6 = y0
    generalize val_main_v127 x0 x1 x2 x5 x6 = y1
    generalize val_main_v174 x0 x1 x2 x5 x6 = y2
    generalize val_main_v221 x0 x1 x2 x5 x6 = y3
    pointwise
theorem r255 (k : Fin 2) (g : Fin 32) (p : Fin 64) : val_main_v255 x0 x1 x2 (ix4 k g 0 p) = if k.val = 0 then (P x0 x1 x2 3 g p).1 else (P x0 x1 x2 3 g p).2 := by
  fin_cases k
  · refine Eq.trans ?_ (p3r x0 x1 x2 g p)
    unfold val_main_v255 val_main_v254 val_main_v252 val_main_v253
    generalize val_main_v177 x0 x1 x2 = y0
    generalize val_main_v180 x0 x1 x2 = y1
    pointwise
  · refine Eq.trans ?_ (p3i x0 x1 x2 g p)
    unfold val_main_v255 val_main_v254 val_main_v252 val_main_v253
    generalize val_main_v177 x0 x1 x2 = y0
    generalize val_main_v180 x0 x1 x2 = y1
    pointwise

end Cert.Reference6Ideal.Rd
end
-- ==== Proof.Tie6.lean ====
/-
  THE S5 PREPARATION, KERNEL AGAINST REFERENCE: where the arguments agree, each array the kernel's run leaves and the
  reference's result are one function of the index.
-/
module
public import proofs.«01_k».proof.Proof.Value6
public import proofs.«01_k».proof.Proof.Ref6
@[expose] public section
noncomputable section
namespace Cert.Tie
open Idealize.ShloMosaic Idealize.ShloMosaic.TcCoe Idealize.SL.Sem Idealize.ShloMosaic.Tactic

theorem s5_taps (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v227 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
      (m ((c.tc : Thread _ _).loc Cert.Kernel6Ideal.main_arg3))
      (m ((c.tc : Thread _ _).loc Cert.Kernel6Ideal.main_arg4))
      (m ((c.tc : Thread _ _).loc Cert.Kernel6Ideal.main_arg5))
      (m ((c.tc : Thread _ _).loc Cert.Kernel6Ideal.main_arg6))
    = (Cert.Kernel6Ideal.Gen.dats m 0 c).arrAt 12 Cert.Kernel6Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.Reference6Ideal.Rd.r227 _ _ _ _ _ _ _ (i 0) (i 1) (i 2) (i 3)).trans (Cert.Kernel6Ideal.Blk.arr12_apply m c (i 0) (i 1) (i 2) (i 3)).symm

theorem s5_stateRe (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v233 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
      (m ((c.tc : Thread _ _).loc Cert.Kernel6Ideal.main_arg3))
      (m ((c.tc : Thread _ _).loc Cert.Kernel6Ideal.main_arg4))
    = (Cert.Kernel6Ideal.Gen.dats m 0 c).arrAt 13 Cert.Kernel6Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.Reference6Ideal.Rd.r233 _ _ _ _ _ (i 0) (i 1) (i 2) (i 3)).trans (Cert.Kernel6Ideal.Blk.arr13_apply m c (i 0) (i 1) (i 2) (i 3)).symm

theorem s5_stateIm (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v239 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
      (m ((c.tc : Thread _ _).loc Cert.Kernel6Ideal.main_arg3))
      (m ((c.tc : Thread _ _).loc Cert.Kernel6Ideal.main_arg4))
    = (Cert.Kernel6Ideal.Gen.dats m 0 c).arrAt 14 Cert.Kernel6Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.Reference6Ideal.Rd.r239 _ _ _ _ _ (i 0) (i 1) (i 2) (i 3)).trans (Cert.Kernel6Ideal.Blk.arr14_apply m c (i 0) (i 1) (i 2) (i 3)).symm

theorem s5_outRe (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v245 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
      (m ((c.tc : Thread _ _).loc Cert.Kernel6Ideal.main_arg5))
      (m ((c.tc : Thread _ _).loc Cert.Kernel6Ideal.main_arg6))
    = (Cert.Kernel6Ideal.Gen.dats m 0 c).arrAt 15 Cert.Kernel6Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.Reference6Ideal.Rd.r245 _ _ _ _ _ (i 0) (i 1) (i 2) (i 3)).trans (Cert.Kernel6Ideal.Blk.arr15_apply m c (i 0) (i 1) (i 2) (i 3)).symm

theorem s5_outIm (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v251 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
      (m ((c.tc : Thread _ _).loc Cert.Kernel6Ideal.main_arg5))
      (m ((c.tc : Thread _ _).loc Cert.Kernel6Ideal.main_arg6))
    = (Cert.Kernel6Ideal.Gen.dats m 0 c).arrAt 16 Cert.Kernel6Ideal.cfg0.N := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact (Cert.Reference6Ideal.Rd.r251 _ _ _ _ _ (i 0) (i 1) (i 2) (i 3)).trans (Cert.Kernel6Ideal.Blk.arr16_apply m c (i 0) (i 1) (i 2) (i 3)).symm

theorem s5_power (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v255 (F := Ideal)
      (m ((c.tc : Thread _ _).loc Cert.Kernel6Ideal.main_arg0))
      (m ((c.tc : Thread _ _).loc Cert.Kernel6Ideal.main_arg1))
      (m ((c.tc : Thread _ _).loc Cert.Kernel6Ideal.main_arg2))
    = (Cert.Kernel6Ideal.Gen.dats m 0 c).arrAt 17 Cert.Kernel6Ideal.cfg0.N := by
  funext i
  have hi : i = ix4 (i 0) (i 1) 0 (i 3) := by
    funext a
    match a with
    | ⟨0, _⟩ => rfl
    | ⟨1, _⟩ => rfl
    | ⟨2, _⟩ => exact Subsingleton.elim (α := Fin 1) _ _
    | ⟨3, _⟩ => rfl
  rw [hi]
  exact (Cert.Reference6Ideal.Rd.r255 _ _ _ (i 0) (i 1) (i 3)).trans (Cert.Kernel6Ideal.Blk.arr17_apply m c (i 0) (i 1) (i 3)).symm

end Cert.Tie
end
-- ==== Proof.lean ====
/-
  The claims of the directory, put together: the frames are the generated ones, the value claim of each pair sets the
  kernel's run beside the reference's on memories that agree on the arguments.
-/
module

public import proofs.«01_k».proof.Proof.Tie1
public import proofs.«01_k».proof.Proof.Tie2
public import proofs.«01_k».proof.Proof.Tie3
public import proofs.«01_k».proof.Proof.Tie4
public import proofs.«01_k».proof.Proof.Tie5
public import proofs.«01_k».proof.Proof.Tie6
public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.KernelIdeal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.ReferenceIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  rw [Cert.ReferenceIdeal.Read.val_main_v87_eq]
  simp only [hagree c]
  exact Cert.Tie.ffn1 m c

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  rw [Cert.Reference2Ideal.Read.val_main_v83_eq]
  simp only [hagree c]
  exact Cert.Tie.ffn2 m c

theorem algebraic_Kernel3Ideal_Reference3Ideal : algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨?_, ?_, ?_, ?_, (h c).2.2.2.2⟩) (Cert.Reference3Ideal.Value.run (F := Ideal) m' ρ')
  · rw [(h c).1]
    rw [Cert.Reference3Ideal.Read.val_main_v28_eq]
    simp only [hagree c]
    exact Cert.Tie.inp_u m c
  · rw [(h c).2.1]
    rw [Cert.Reference3Ideal.Read.val_main_v34_eq]
    simp only [hagree c]
    exact Cert.Tie.inp_q m c
  · rw [(h c).2.2.1]
    rw [Cert.Reference3Ideal.Read.val_main_v35_eq]
    simp only [hagree c]
    exact Cert.Tie.inp_k m c
  · rw [(h c).2.2.2.1]
    rw [Cert.Reference3Ideal.Read.val_main_v36_eq]
    simp only [hagree c]
    exact Cert.Tie.inp_v m c

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  rw [Cert.Reference4Ideal.Read.val_main_v25_eq]
  simp only [hagree c]
  exact Cert.Tie.modul m c

theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  rw [Cert.Reference5Ideal.Read.val_main_v48_eq]
  simp only [hagree c]
  exact Cert.Tie.bias_tiles m c

theorem algebraic_Kernel6Ideal_Reference6Ideal : algebraic_Kernel6Ideal_Reference6Ideal := by
  intro m ρ m' ρ' _ hagree
  refine ⟨_, _, _, _, _, _, Cert.Kernel6Ideal.Value.run_blocks (F := Ideal) m ρ, ?_⟩
  refine (θ_run Cert.Reference6Ideal.defs _ _).mono (fun _ h c => ⟨?_, ?_, ?_, ?_, ?_, ?_, (h c).2.2.2.2.2.2⟩) (Cert.Reference6Ideal.Value.run (F := Ideal) m' ρ')
  · rw [(h c).1]
    rw [Cert.Reference6Ideal.Read.val_main_v227_eq]
    simp only [hagree c]
    exact Cert.Tie.s5_taps m c
  · rw [(h c).2.1]
    rw [Cert.Reference6Ideal.Read.val_main_v233_eq]
    simp only [hagree c]
    exact Cert.Tie.s5_stateRe m c
  · rw [(h c).2.2.1]
    rw [Cert.Reference6Ideal.Read.val_main_v239_eq]
    simp only [hagree c]
    exact Cert.Tie.s5_stateIm m c
  · rw [(h c).2.2.2.1]
    rw [Cert.Reference6Ideal.Read.val_main_v245_eq]
    simp only [hagree c]
    exact Cert.Tie.s5_outRe m c
  · rw [(h c).2.2.2.2.1]
    rw [Cert.Reference6Ideal.Read.val_main_v251_eq]
    simp only [hagree c]
    exact Cert.Tie.s5_outIm m c
  · rw [(h c).2.2.2.2.2.1]
    rw [Cert.Reference6Ideal.Read.val_main_v255_eq]
    simp only [hagree c]
    exact Cert.Tie.s5_power m c

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, quiescent_Reference4Ideal, fun m ρ _ => Cert.Kernel5.Gen.frame m ρ, fun m ρ _ => Cert.Kernel5Ideal.Gen.frame m ρ, quiescent_Reference5Ideal, fun m ρ _ => Cert.Kernel6.Gen.frame m ρ, fun m ρ _ => Cert.Kernel6Ideal.Gen.frame m ρ, quiescent_Reference6Ideal,
  (trivial : preserves_Kernel_KernelIdeal), algebraic_KernelIdeal_ReferenceIdeal, (trivial : preserves_Kernel2_Kernel2Ideal), algebraic_Kernel2Ideal_Reference2Ideal, (trivial : preserves_Kernel3_Kernel3Ideal), algebraic_Kernel3Ideal_Reference3Ideal, (trivial : preserves_Kernel4_Kernel4Ideal), algebraic_Kernel4Ideal_Reference4Ideal, (trivial : preserves_Kernel5_Kernel5Ideal), algebraic_Kernel5Ideal_Reference5Ideal, (trivial : preserves_Kernel6_Kernel6Ideal), algebraic_Kernel6Ideal_Reference6Ideal⟩

end Cert.Proof

end
